-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S8192x1024 : Shape := ⟨2, ![8192, 1024]⟩
abbrev S8192 : Shape := ⟨1, ![8192]⟩
abbrev S2003x1024 : Shape := ⟨2, ![2003, 1024]⟩
abbrev S512x1024 : Shape := ⟨2, ![512, 1024]⟩
abbrev S8000x512 : Shape := ⟨2, ![8000, 512]⟩
abbrev S256x1024 : Shape := ⟨2, ![256, 1024]⟩
abbrev S40000x256 : Shape := ⟨2, ![40000, 256]⟩
abbrev S128x1024 : Shape := ⟨2, ![128, 1024]⟩
abbrev S50000x128 : Shape := ⟨2, ![50000, 128]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S2003x1024 : S_.BroadcastsInDim S2003x1024 (![] : Fin 0 → Fin S2003x1024.rank)
  reducesTo_S2003x1024_S_d0_1 : S2003x1024.ReducesTo [0, 1] S_
  bcast_S_S512x1024 : S_.BroadcastsInDim S512x1024 (![] : Fin 0 → Fin S512x1024.rank)
  reducesTo_S512x1024_S_d0_1 : S512x1024.ReducesTo [0, 1] S_
  bcast_S_S8000x512 : S_.BroadcastsInDim S8000x512 (![] : Fin 0 → Fin S8000x512.rank)
  reducesTo_S8000x512_S_d0_1 : S8000x512.ReducesTo [0, 1] S_
  bcast_S_S256x1024 : S_.BroadcastsInDim S256x1024 (![] : Fin 0 → Fin S256x1024.rank)
  reducesTo_S256x1024_S_d0_1 : S256x1024.ReducesTo [0, 1] S_
  bcast_S_S40000x256 : S_.BroadcastsInDim S40000x256 (![] : Fin 0 → Fin S40000x256.rank)
  reducesTo_S40000x256_S_d0_1 : S40000x256.ReducesTo [0, 1] S_
  bcast_S_S128x1024 : S_.BroadcastsInDim S128x1024 (![] : Fin 0 → Fin S128x1024.rank)
  reducesTo_S128x1024_S_d0_1 : S128x1024.ReducesTo [0, 1] S_
  bcast_S_S50000x128 : S_.BroadcastsInDim S50000x128 (![] : Fin 0 → Fin S50000x128.rank)
  reducesTo_S50000x128_S_d0_1 : S50000x128.ReducesTo [0, 1] S_

variable [Facts]

def fn_part2 {F : FTy → Type} [FloatOps F] (main_arg8 : FVec F S50000x128 .f32) (main_v32 : IVec S_ 1) (main_v33 : FVec F S128x1024 .f32) : IVec S_ 1 :=
  let main_cst_12 : FVec F S_ .f32 := constant S_ .f32 0x7F800000#32
  let main_v34 : FVec F S128x1024 .f32 := broadcastInDim S128x1024 ![] bcast_S_S128x1024 main_cst_12
  let main_v35 : IVec S128x1024 1 := cmpf .olt main_v33 main_v34
  let main_c_13 : IVec S_ 1 := constantI S_ 1 1#1
  let main_v36 : IVec S_ 1 := (fun x v => Host.reduce IntOp.andi x v reducesTo_S128x1024_S_d0_1 h_S_) main_v35 main_c_13
  let main_v37 : IVec S_ 1 := andi main_v32 main_v36
  let main_v38 : FVec F S50000x128 .f32 := Host.absf main_arg8
  let main_cst_14 : FVec F S_ .f32 := constant S_ .f32 0x7F800000#32
  let main_v39 : FVec F S50000x128 .f32 := broadcastInDim S50000x128 ![] bcast_S_S50000x128 main_cst_14
  let main_v40 : IVec S50000x128 1 := cmpf .olt main_v38 main_v39
  let main_c_15 : IVec S_ 1 := constantI S_ 1 1#1
  let main_v41 : IVec S_ 1 := (fun x v => Host.reduce IntOp.andi x v reducesTo_S50000x128_S_d0_1 h_S_) main_v40 main_c_15
  let main_v42 : IVec S_ 1 := andi main_v37 main_v41
  main_v42

def fn_part1 {F : FTy → Type} [FloatOps F] (main_arg4 : FVec F S8000x512 .f32) (main_arg5 : FVec F S256x1024 .f32) (main_arg6 : FVec F S40000x256 .f32) (main_arg7 : FVec F S128x1024 .f32) (main_arg8 : FVec F S50000x128 .f32) (main_v12 : IVec S_ 1) (main_v15 : IVec S512x1024 1) (main_c_5 : IVec S_ 1) : IVec S_ 1 :=
  let main_v16 : IVec S_ 1 := (fun x v => Host.reduce IntOp.andi x v reducesTo_S512x1024_S_d0_1 h_S_) main_v15 main_c_5
  let main_v17 : IVec S_ 1 := andi main_v12 main_v16
  let main_v18 : FVec F S8000x512 .f32 := Host.absf main_arg4
  let main_cst_6 : FVec F S_ .f32 := constant S_ .f32 0x7F800000#32
  let main_v19 : FVec F S8000x512 .f32 := broadcastInDim S8000x512 ![] bcast_S_S8000x512 main_cst_6
  let main_v20 : IVec S8000x512 1 := cmpf .olt main_v18 main_v19
  let main_c_7 : IVec S_ 1 := constantI S_ 1 1#1
  let main_v21 : IVec S_ 1 := (fun x v => Host.reduce IntOp.andi x v reducesTo_S8000x512_S_d0_1 h_S_) main_v20 main_c_7
  let main_v22 : IVec S_ 1 := andi main_v17 main_v21
  let main_v23 : FVec F S256x1024 .f32 := Host.absf main_arg5
  let main_cst_8 : FVec F S_ .f32 := constant S_ .f32 0x7F800000#32
  let main_v24 : FVec F S256x1024 .f32 := broadcastInDim S256x1024 ![] bcast_S_S256x1024 main_cst_8
  let main_v25 : IVec S256x1024 1 := cmpf .olt main_v23 main_v24
  let main_c_9 : IVec S_ 1 := constantI S_ 1 1#1
  let main_v26 : IVec S_ 1 := (fun x v => Host.reduce IntOp.andi x v reducesTo_S256x1024_S_d0_1 h_S_) main_v25 main_c_9
  let main_v27 : IVec S_ 1 := andi main_v22 main_v26
  let main_v28 : FVec F S40000x256 .f32 := Host.absf main_arg6
  let main_cst_10 : FVec F S_ .f32 := constant S_ .f32 0x7F800000#32
  let main_v29 : FVec F S40000x256 .f32 := broadcastInDim S40000x256 ![] bcast_S_S40000x256 main_cst_10
  let main_v30 : IVec S40000x256 1 := cmpf .olt main_v28 main_v29
  let main_c_11 : IVec S_ 1 := constantI S_ 1 1#1
  let main_v31 : IVec S_ 1 := (fun x v => Host.reduce IntOp.andi x v reducesTo_S40000x256_S_d0_1 h_S_) main_v30 main_c_11
  let main_v32 : IVec S_ 1 := andi main_v27 main_v31
  let main_v33 : FVec F S128x1024 .f32 := Host.absf main_arg7
  fn_part2 (F := F) main_arg8 main_v32 main_v33

def fn {F : FTy → Type} [FloatOps F] (main_arg0 : FVec F S8192x1024 .f32) (main_arg1 : IVec S8192 32) (main_arg2 : FVec F S2003x1024 .f32) (main_arg3 : FVec F S512x1024 .f32) (main_arg4 : FVec F S8000x512 .f32) (main_arg5 : FVec F S256x1024 .f32) (main_arg6 : FVec F S40000x256 .f32) (main_arg7 : FVec F S128x1024 .f32) (main_arg8 : FVec F S50000x128 .f32) : IVec S_ 1 :=
  let main_c : IVec S_ 32 := constantI S_ 32 0#32
  let main_v0 : IVec S8192 32 := broadcastInDim S8192 ![] bcast_S_S8192 main_c
  let main_v1 : IVec S8192 1 := cmpi .sge main_arg1 main_v0
  let main_c_0 : IVec S_ 1 := constantI S_ 1 1#1
  let main_v2 : IVec S_ 1 := (fun x v => Host.reduce IntOp.andi x v reducesTo_S8192_S_d0 h_S_) main_v1 main_c_0
  let main_v3 : FVec F S8192x1024 .f32 := Host.absf main_arg0
  let main_cst : FVec F S_ .f32 := constant S_ .f32 0x7F800000#32
  let main_v4 : FVec F S8192x1024 .f32 := broadcastInDim S8192x1024 ![] bcast_S_S8192x1024 main_cst
  let main_v5 : IVec S8192x1024 1 := cmpf .olt main_v3 main_v4
  let main_c_1 : IVec S_ 1 := constantI S_ 1 1#1
  let main_v6 : IVec S_ 1 := (fun x v => Host.reduce IntOp.andi x v reducesTo_S8192x1024_S_d0_1 h_S_) main_v5 main_c_1
  let main_v7 : IVec S_ 1 := andi main_v2 main_v6
  let main_v8 : FVec F S2003x1024 .f32 := Host.absf main_arg2
  let main_cst_2 : FVec F S_ .f32 := constant S_ .f32 0x7F800000#32
  let main_v9 : FVec F S2003x1024 .f32 := broadcastInDim S2003x1024 ![] bcast_S_S2003x1024 main_cst_2
  let main_v10 : IVec S2003x1024 1 := cmpf .olt main_v8 main_v9
  let main_c_3 : IVec S_ 1 := constantI S_ 1 1#1
  let main_v11 : IVec S_ 1 := (fun x v => Host.reduce IntOp.andi x v reducesTo_S2003x1024_S_d0_1 h_S_) main_v10 main_c_3
  let main_v12 : IVec S_ 1 := andi main_v7 main_v11
  let main_v13 : FVec F S512x1024 .f32 := Host.absf main_arg3
  let main_cst_4 : FVec F S_ .f32 := constant S_ .f32 0x7F800000#32
  let main_v14 : FVec F S512x1024 .f32 := broadcastInDim S512x1024 ![] bcast_S_S512x1024 main_cst_4
  let main_v15 : IVec S512x1024 1 := cmpf .olt main_v13 main_v14
  let main_c_5 : IVec S_ 1 := constantI S_ 1 1#1
  fn_part1 (F := F) main_arg4 main_arg5 main_arg6 main_arg7 main_arg8 main_v12 main_v15 main_c_5
-- ==== Kernel.lean ====
abbrev S8192x1024 : Shape := ⟨2, ![8192, 1024]⟩
abbrev S8192 : Shape := ⟨1, ![8192]⟩
abbrev S2003x1024 : Shape := ⟨2, ![2003, 1024]⟩
abbrev S512x1024 : Shape := ⟨2, ![512, 1024]⟩
abbrev S8000x512 : Shape := ⟨2, ![8000, 512]⟩
abbrev S256x1024 : Shape := ⟨2, ![256, 1024]⟩
abbrev S40000x256 : Shape := ⟨2, ![40000, 256]⟩
abbrev S128x1024 : Shape := ⟨2, ![128, 1024]⟩
abbrev S50000x128 : Shape := ⟨2, ![50000, 128]⟩
abbrev S896x1024 : Shape := ⟨2, ![896, 1024]⟩
abbrev S8192x896 : Shape := ⟨2, ![8192, 896]⟩
abbrev S2048x1024 : Shape := ⟨2, ![2048, 1024]⟩
abbrev S2048x896 : Shape := ⟨2, ![2048, 896]⟩
abbrev S_ : Shape := ⟨0, ![]⟩
abbrev S8192x1 : Shape := ⟨2, ![8192, 1]⟩
abbrev S8192x512 : Shape := ⟨2, ![8192, 512]⟩
abbrev S512x512 : Shape := ⟨2, ![512, 512]⟩
abbrev S8192x256 : Shape := ⟨2, ![8192, 256]⟩
abbrev S512x256 : Shape := ⟨2, ![512, 256]⟩
abbrev S8192x128 : Shape := ⟨2, ![8192, 128]⟩
abbrev S512x128 : Shape := ⟨2, ![512, 128]⟩

abbrev nBuf : Space → Nat
  | .hbm => 117
  | .vmem => 37
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S2003x1024, .f32⟩
  | .hbm, ⟨3, _⟩ => ⟨S512x1024, .f32⟩
  | .hbm, ⟨4, _⟩ => ⟨S8000x512, .f32⟩
  | .hbm, ⟨5, _⟩ => ⟨S256x1024, .f32⟩
  | .hbm, ⟨6, _⟩ => ⟨S40000x256, .f32⟩
  | .hbm, ⟨7, _⟩ => ⟨S128x1024, .f32⟩
  | .hbm, ⟨8, _⟩ => ⟨S50000x128, .f32⟩
  | .hbm, ⟨9, _⟩ => ⟨S8000x512, .bf16⟩
  | .hbm, ⟨10, _⟩ => ⟨S40000x256, .bf16⟩
  | .hbm, ⟨11, _⟩ => ⟨S50000x128, .bf16⟩
  | .hbm, ⟨12, _⟩ => ⟨S896x1024, .f32⟩
  | .hbm, ⟨13, _⟩ => ⟨S896x1024, .bf16⟩
  | .hbm, ⟨14, _⟩ => ⟨S8192x896, .bf16⟩
  | .hbm, ⟨15, _⟩ => ⟨S8192x1024, .bf16⟩
  | .hbm, ⟨16, _⟩ => ⟨S_, .i32⟩
  | .hbm, ⟨17, _⟩ => ⟨S8192, .i32⟩
  | .hbm, ⟨18, _⟩ => ⟨S8192, .i1⟩
  | .hbm, ⟨19, _⟩ => ⟨S_, .i32⟩
  | .hbm, ⟨20, _⟩ => ⟨S_, .i32⟩
  | .hbm, ⟨21, _⟩ => ⟨S8192, .i32⟩
  | .hbm, ⟨22, _⟩ => ⟨S8192, .i32⟩
  | .hbm, ⟨23, _⟩ => ⟨S8192x1, .f32⟩
  | .hbm, ⟨24, _⟩ => ⟨S8192, .f32⟩
  | .hbm, ⟨25, _⟩ => ⟨S_, .f32⟩
  | .hbm, ⟨26, _⟩ => ⟨S8192, .f32⟩
  | .hbm, ⟨27, _⟩ => ⟨S_, .i32⟩
  | .hbm, ⟨28, _⟩ => ⟨S8192, .i32⟩
  | .hbm, ⟨29, _⟩ => ⟨S8192, .i1⟩
  | .hbm, ⟨30, _⟩ => ⟨S_, .i32⟩
  | .hbm, ⟨31, _⟩ => ⟨S8192, .i32⟩
  | .hbm, ⟨32, _⟩ => ⟨S8192, .i1⟩
  | .hbm, ⟨33, _⟩ => ⟨S8192, .i1⟩
  | .hbm, ⟨34, _⟩ => ⟨S_, .i32⟩
  | .hbm, ⟨35, _⟩ => ⟨S_, .i32⟩
  | .hbm, ⟨36, _⟩ => ⟨S8192, .i32⟩
  | .hbm, ⟨37, _⟩ => ⟨S8192, .i32⟩
  | .hbm, ⟨38, _⟩ => ⟨S_, .i32⟩
  | .hbm, ⟨39, _⟩ => ⟨S8192, .i32⟩
  | .hbm, ⟨40, _⟩ => ⟨S8192, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S8192, .i32⟩
  | .hbm, ⟨45, _⟩ => ⟨S8192, .i32⟩
  | .hbm, ⟨46, _⟩ => ⟨S_, .i32⟩
  | .hbm, ⟨47, _⟩ => ⟨S8192, .i32⟩
  | .hbm, ⟨48, _⟩ => ⟨S8192, .i32⟩
  | .hbm, ⟨49, _⟩ => ⟨S8192x512, .bf16⟩
  | .hbm, ⟨50, _⟩ => ⟨S8192, .f32⟩
  | .hbm, ⟨51, _⟩ => ⟨S_, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S8192, .f32⟩
  | .hbm, ⟨56, _⟩ => ⟨S_, .i32⟩
  | .hbm, ⟨57, _⟩ => ⟨S8192, .i32⟩
  | .hbm, ⟨58, _⟩ => ⟨S8192, .i1⟩
  | .hbm, ⟨59, _⟩ => ⟨S_, .i32⟩
  | .hbm, ⟨60, _⟩ => ⟨S8192, .i32⟩
  | .hbm, ⟨61, _⟩ => ⟨S8192, .i1⟩
  | .hbm, ⟨62, _⟩ => ⟨S8192, .i1⟩
  | .hbm, ⟨63, _⟩ => ⟨S_, .i32⟩
  | .hbm, ⟨64, _⟩ => ⟨S_, .i32⟩
  | .hbm, ⟨65, _⟩ => ⟨S8192, .i32⟩
  | .hbm, ⟨66, _⟩ => ⟨S8192, .i32⟩
  | .hbm, ⟨67, _⟩ => ⟨S_, .i32⟩
  | .hbm, ⟨68, _⟩ => ⟨S8192, .i32⟩
  | .hbm, ⟨69, _⟩ => ⟨S8192, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S8192, .i32⟩
  | .hbm, ⟨74, _⟩ => ⟨S8192, .i32⟩
  | .hbm, ⟨75, _⟩ => ⟨S_, .i32⟩
  | .hbm, ⟨76, _⟩ => ⟨S8192, .i32⟩
  | .hbm, ⟨77, _⟩ => ⟨S8192, .i32⟩
  | .hbm, ⟨78, _⟩ => ⟨S8192x256, .bf16⟩
  | .hbm, ⟨79, _⟩ => ⟨S8192, .f32⟩
  | .hbm, ⟨80, _⟩ => ⟨S_, .f32⟩
  | .hbm, ⟨81, _⟩ => ⟨S_, .f32⟩
  | .hbm, ⟨82, _⟩ => ⟨S8192, .f32⟩
  | .hbm, ⟨83, _⟩ => ⟨S8192, .f32⟩
  | .hbm, ⟨84, _⟩ => ⟨S8192, .f32⟩
  | .hbm, ⟨85, _⟩ => ⟨S_, .i32⟩
  | .hbm, ⟨86, _⟩ => ⟨S8192, .i32⟩
  | .hbm, ⟨87, _⟩ => ⟨S8192, .i1⟩
  | .hbm, ⟨88, _⟩ => ⟨S_, .i32⟩
  | .hbm, ⟨89, _⟩ => ⟨S8192, .i32⟩
  | .hbm, ⟨90, _⟩ => ⟨S8192, .i1⟩
  | .hbm, ⟨91, _⟩ => ⟨S8192, .i1⟩
  | .hbm, ⟨92, _⟩ => ⟨S_, .i32⟩
  | .hbm, ⟨93, _⟩ => ⟨S_, .i32⟩
  | .hbm, ⟨94, _⟩ => ⟨S8192, .i32⟩
  | .hbm, ⟨95, _⟩ => ⟨S8192, .i32⟩
  | .hbm, ⟨96, _⟩ => ⟨S_, .i32⟩
  | .hbm, ⟨97, _⟩ => ⟨S8192, .i32⟩
  | .hbm, ⟨98, _⟩ => ⟨S8192, .i32⟩
  | .hbm, ⟨99, _⟩ => ⟨S_, .i32⟩
  | .hbm, ⟨100, _⟩ => ⟨S_, .i32⟩
  | .hbm, ⟨101, _⟩ => ⟨S_, .i32⟩
  | .hbm, ⟨102, _⟩ => ⟨S8192, .i32⟩
  | .hbm, ⟨103, _⟩ => ⟨S8192, .i32⟩
  | .hbm, ⟨104, _⟩ => ⟨S_, .i32⟩
  | .hbm, ⟨105, _⟩ => ⟨S8192, .i32⟩
  | .hbm, ⟨106, _⟩ => ⟨S8192, .i32⟩
  | .hbm, ⟨107, _⟩ => ⟨S8192x128, .bf16⟩
  | .hbm, ⟨108, _⟩ => ⟨S8192, .f32⟩
  | .hbm, ⟨109, _⟩ => ⟨S_, .f32⟩
  | .hbm, ⟨110, _⟩ => ⟨S_, .f32⟩
  | .hbm, ⟨111, _⟩ => ⟨S8192, .f32⟩
  | .hbm, ⟨112, _⟩ => ⟨S8192, .f32⟩
  | .hbm, ⟨113, _⟩ => ⟨S8192, .f32⟩
  | .hbm, ⟨114, _⟩ => ⟨S8192, .f32⟩
  | .hbm, ⟨115, _⟩ => ⟨S8192, .f32⟩
  | .hbm, ⟨116, _⟩ => ⟨S8192, .f32⟩
  | .local _ .vmem, ⟨0, _⟩ => ⟨S2048x1024, .f32⟩
  | .local _ .vmem, ⟨1, _⟩ => ⟨S2048x1024, .f32⟩
  | .local _ .vmem, ⟨2, _⟩ => ⟨S896x1024, .bf16⟩
  | .local _ .vmem, ⟨3, _⟩ => ⟨S2048x896, .bf16⟩
  | .local _ .vmem, ⟨4, _⟩ => ⟨S2048x896, .bf16⟩
  | .local _ .vmem, ⟨5, _⟩ => ⟨S8192x512, .bf16⟩
  | .local _ .vmem, ⟨6, _⟩ => ⟨S512x512, .bf16⟩
  | .local _ .vmem, ⟨7, _⟩ => ⟨S512x512, .bf16⟩
  | .local _ .vmem, ⟨8, _⟩ => ⟨S8192, .i32⟩
  | .local _ .vmem, ⟨9, _⟩ => ⟨S8192, .f32⟩
  | .local _ .vmem, ⟨10, _⟩ => ⟨S8192, .f32⟩
  | .local _ .vmem, ⟨11, _⟩ => ⟨S8192, .f32⟩
  | .local _ .vmem, ⟨12, _⟩ => ⟨S8192, .f32⟩
  | .local _ .vmem, ⟨13, _⟩ => ⟨S8192x256, .bf16⟩
  | .local _ .vmem, ⟨14, _⟩ => ⟨S512x256, .bf16⟩
  | .local _ .vmem, ⟨15, _⟩ => ⟨S512x256, .bf16⟩
  | .local _ .vmem, ⟨16, _⟩ => ⟨S8192, .i32⟩
  | .local _ .vmem, ⟨17, _⟩ => ⟨S8192, .f32⟩
  | .local _ .vmem, ⟨18, _⟩ => ⟨S8192, .f32⟩
  | .local _ .vmem, ⟨19, _⟩ => ⟨S8192, .f32⟩
  | .local _ .vmem, ⟨20, _⟩ => ⟨S8192, .f32⟩
  | .local _ .vmem, ⟨21, _⟩ => ⟨S8192x128, .bf16⟩
  | .local _ .vmem, ⟨22, _⟩ => ⟨S512x128, .bf16⟩
  | .local _ .vmem, ⟨23, _⟩ => ⟨S512x128, .bf16⟩
  | .local _ .vmem, ⟨24, _⟩ => ⟨S8192, .i32⟩
  | .local _ .vmem, ⟨25, _⟩ => ⟨S8192, .f32⟩
  | .local _ .vmem, ⟨26, _⟩ => ⟨S8192, .f32⟩
  | .local _ .vmem, ⟨27, _⟩ => ⟨S8192, .f32⟩
  | .local _ .vmem, ⟨28, _⟩ => ⟨S8192, .f32⟩
  | .local _ .vmem, ⟨29, _⟩ => ⟨S8192x1024, .bf16⟩
  | .local _ .vmem, ⟨30, _⟩ => ⟨S512x1024, .f32⟩
  | .local _ .vmem, ⟨31, _⟩ => ⟨S512x1024, .f32⟩
  | .local _ .vmem, ⟨32, _⟩ => ⟨S8192, .i32⟩
  | .local _ .vmem, ⟨33, _⟩ => ⟨S8192, .f32⟩
  | .local _ .vmem, ⟨34, _⟩ => ⟨S8192, .f32⟩
  | .local _ .vmem, ⟨35, _⟩ => ⟨S8192, .f32⟩
  | .local _ .vmem, ⟨36, _⟩ => ⟨S8192, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_call0_v0 : Ref sig .tc := ⟨.hbm, 20, rfl⟩
abbrev main_call0_v1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_c_1 : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_call1_v0 : Ref sig .tc := ⟨.hbm, 35, rfl⟩
abbrev main_call1_v1 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_c_6 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_7 : Ref sig .tc := ⟨.hbm, 51, rfl⟩
abbrev main_call3_v0 : Ref sig .tc := ⟨.hbm, 52, rfl⟩
abbrev main_call3_v1 : Ref sig .tc := ⟨.hbm, 53, rfl⟩
abbrev main_v24 : Ref sig .tc := ⟨.hbm, 54, rfl⟩
abbrev main_v25 : Ref sig .tc := ⟨.hbm, 55, rfl⟩
abbrev main_c_8 : Ref sig .tc := ⟨.hbm, 56, rfl⟩
abbrev main_v26 : Ref sig .tc := ⟨.hbm, 57, rfl⟩
abbrev main_v27 : Ref sig .tc := ⟨.hbm, 58, rfl⟩
abbrev main_c_9 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_c_10 : Ref sig .tc := ⟨.hbm, 63, rfl⟩
abbrev main_call4_v0 : Ref sig .tc := ⟨.hbm, 64, rfl⟩
abbrev main_call4_v1 : Ref sig .tc := ⟨.hbm, 65, rfl⟩
abbrev main_v31 : Ref sig .tc := ⟨.hbm, 66, rfl⟩
abbrev main_c_11 : Ref sig .tc := ⟨.hbm, 67, rfl⟩
abbrev main_v32 : Ref sig .tc := ⟨.hbm, 68, rfl⟩
abbrev main_v33 : Ref sig .tc := ⟨.hbm, 69, rfl⟩
abbrev main_c_12 : Ref sig .tc := ⟨.hbm, 70, rfl⟩
abbrev main_c_13 : Ref sig .tc := ⟨.hbm, 71, rfl⟩
abbrev main_call5_v0 : Ref sig .tc := ⟨.hbm, 72, rfl⟩
abbrev main_call5_v1 : Ref sig .tc := ⟨.hbm, 73, rfl⟩
abbrev main_call5_v2 : Ref sig .tc := ⟨.hbm, 74, rfl⟩
abbrev main_call5_v3 : Ref sig .tc := ⟨.hbm, 75, rfl⟩
abbrev main_call5_v4 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_cst_14 : Ref sig .tc := ⟨.hbm, 80, rfl⟩
abbrev main_call6_v0 : Ref sig .tc := ⟨.hbm, 81, rfl⟩
abbrev main_call6_v1 : Ref sig .tc := ⟨.hbm, 82, rfl⟩
abbrev main_v37 : Ref sig .tc := ⟨.hbm, 83, rfl⟩
abbrev main_v38 : Ref sig .tc := ⟨.hbm, 84, rfl⟩
abbrev main_c_15 : Ref sig .tc := ⟨.hbm, 85, rfl⟩
abbrev main_v39 : Ref sig .tc := ⟨.hbm, 86, rfl⟩
abbrev main_v40 : Ref sig .tc := ⟨.hbm, 87, rfl⟩
abbrev main_c_16 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_c_17 : Ref sig .tc := ⟨.hbm, 92, rfl⟩
abbrev main_call7_v0 : Ref sig .tc := ⟨.hbm, 93, rfl⟩
abbrev main_call7_v1 : Ref sig .tc := ⟨.hbm, 94, rfl⟩
abbrev main_v44 : Ref sig .tc := ⟨.hbm, 95, rfl⟩
abbrev main_c_18 : Ref sig .tc := ⟨.hbm, 96, rfl⟩
abbrev main_v45 : Ref sig .tc := ⟨.hbm, 97, rfl⟩
abbrev main_v46 : Ref sig .tc := ⟨.hbm, 98, rfl⟩
abbrev main_c_19 : Ref sig .tc := ⟨.hbm, 99, rfl⟩
abbrev main_c_20 : Ref sig .tc := ⟨.hbm, 100, rfl⟩
abbrev main_call8_v0 : Ref sig .tc := ⟨.hbm, 101, rfl⟩
abbrev main_call8_v1 : Ref sig .tc := ⟨.hbm, 102, rfl⟩
abbrev main_call8_v2 : Ref sig .tc := ⟨.hbm, 103, rfl⟩
abbrev main_call8_v3 : Ref sig .tc := ⟨.hbm, 104, rfl⟩
abbrev main_call8_v4 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_cst_21 : Ref sig .tc := ⟨.hbm, 109, rfl⟩
abbrev main_call9_v0 : Ref sig .tc := ⟨.hbm, 110, rfl⟩
abbrev main_call9_v1 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_scratch0 : Ref sig .tc := ⟨.vmem, 10, rfl⟩
abbrev cc1_scratch1 : Ref sig .tc := ⟨.vmem, 11, rfl⟩
abbrev cc1_scratch2 : Ref sig .tc := ⟨.vmem, 12, rfl⟩
abbrev cc2_stg0_0 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_scratch0 : Ref sig .tc := ⟨.vmem, 18, rfl⟩
abbrev cc2_scratch1 : Ref sig .tc := ⟨.vmem, 19, rfl⟩
abbrev cc2_scratch2 : Ref sig .tc := ⟨.vmem, 20, rfl⟩
abbrev cc3_stg0_0 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_scratch0 : Ref sig .tc := ⟨.vmem, 26, rfl⟩
abbrev cc3_scratch1 : Ref sig .tc := ⟨.vmem, 27, rfl⟩
abbrev cc3_scratch2 : Ref sig .tc := ⟨.vmem, 28, rfl⟩
abbrev cc4_stg0_0 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_scratch0 : Ref sig .tc := ⟨.vmem, 34, rfl⟩
abbrev cc4_scratch1 : Ref sig .tc := ⟨.vmem, 35, rfl⟩
abbrev cc4_scratch2 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem3_0 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem3_0 : DmaSem sig := 14
abbrev cc3_sem0_0 : DmaSem sig := 15
abbrev cc3_sem1_0 : DmaSem sig := 16
abbrev cc3_sem1_1 : DmaSem sig := 17
abbrev cc3_sem2_0 : DmaSem sig := 18
abbrev cc3_sem3_0 : DmaSem sig := 19
abbrev cc4_sem0_0 : DmaSem sig := 20
abbrev cc4_sem1_0 : DmaSem sig := 21
abbrev cc4_sem1_1 : DmaSem sig := 22
abbrev cc4_sem2_0 : DmaSem sig := 23
abbrev cc4_sem3_0 : DmaSem sig := 24

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S896x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def k1_cond2 (i : grid1.Coords) : BitVec 1 :=
  let arg0 : BitVec 32 := BitVec.ofNat 32 (i 0).val
  let c15_i32 : BitVec 32 := 15#32
  let v48 : BitVec 1 := Scalar.cmpi .eq arg0 c15_i32
  let v49 : BitVec 32 := Scalar.extui v48
  let c0_i32_16 : BitVec 32 := 0#32
  let v50 : BitVec 1 := Scalar.cmpi .ne v49 c0_i32_16
  v50

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 1 → Memref sig .tc .vmem S8192x512 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8192 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![79], ![false]⟩

def k2_cond2 (i : grid2.Coords) : BitVec 1 :=
  let arg0 : BitVec 32 := BitVec.ofNat 32 (i 0).val
  let c78_i32 : BitVec 32 := 78#32
  let v48 : BitVec 1 := Scalar.cmpi .eq arg0 c78_i32
  let v49 : BitVec 32 := Scalar.extui v48
  let c0_i32_16 : BitVec 32 := 0#32
  let v50 : BitVec 1 := Scalar.cmpi .ne v49 c0_i32_16
  v50

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

abbrev stage2_0 : Fin 1 → Memref sig .tc .vmem S8192x256 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S512x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S8192 .i32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S8192 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev grid3 : Pipeline.Grid := ⟨1, ![98], ![false]⟩

def k3_cond2 (i : grid3.Coords) : BitVec 1 :=
  let arg0 : BitVec 32 := BitVec.ofNat 32 (i 0).val
  let c97_i32 : BitVec 32 := 97#32
  let v48 : BitVec 1 := Scalar.cmpi .eq arg0 c97_i32
  let v49 : BitVec 32 := Scalar.extui v48
  let c0_i32_16 : BitVec 32 := 0#32
  let v50 : BitVec 1 := Scalar.cmpi .ne v49 c0_i32_16
  v50

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

abbrev stage3_0 : Fin 1 → Memref sig .tc .vmem S8192x128 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S512x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S8192 .i32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S8192 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev grid4 : Pipeline.Grid := ⟨1, ![4], ![false]⟩

def k4_cond2 (i : grid4.Coords) : BitVec 1 :=
  let arg0 : BitVec 32 := BitVec.ofNat 32 (i 0).val
  let c3_i32 : BitVec 32 := 3#32
  let v48 : BitVec 1 := Scalar.cmpi .eq arg0 c3_i32
  let v49 : BitVec 32 := Scalar.extui v48
  let c0_i32_16 : BitVec 32 := 0#32
  let v50 : BitVec 1 := Scalar.cmpi .ne v49 c0_i32_16
  v50

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

abbrev stage4_0 : Fin 1 → Memref sig .tc .vmem S8192x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 2 → Memref sig .tc .vmem S512x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S8192 .i32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S8192 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]
-- ==== KernelIdeal.lean ====
variable {F : FTy → Type} [FloatOps F] [Named F]
def κ : String → Option EReal := fun
  | "mask" => some ⊥
  | _ => none
-- ==== ReferenceIdeal.lean ====
abbrev S8192x1024 : Shape := ⟨2, ![8192, 1024]⟩
abbrev S8192 : Shape := ⟨1, ![8192]⟩
abbrev S2003x1024 : Shape := ⟨2, ![2003, 1024]⟩
abbrev S512x1024 : Shape := ⟨2, ![512, 1024]⟩
abbrev S8000x512 : Shape := ⟨2, ![8000, 512]⟩
abbrev S256x1024 : Shape := ⟨2, ![256, 1024]⟩
abbrev S40000x256 : Shape := ⟨2, ![40000, 256]⟩
abbrev S128x1024 : Shape := ⟨2, ![128, 1024]⟩
abbrev S50000x128 : Shape := ⟨2, ![50000, 128]⟩
abbrev S1024x2003 : Shape := ⟨2, ![1024, 2003]⟩
abbrev S8192x2003 : Shape := ⟨2, ![8192, 2003]⟩
abbrev S_ : Shape := ⟨0, ![]⟩
abbrev S8192x1 : Shape := ⟨2, ![8192, 1]⟩
abbrev S1024x512 : Shape := ⟨2, ![1024, 512]⟩
abbrev S8192x512 : Shape := ⟨2, ![8192, 512]⟩
abbrev S512x8000 : Shape := ⟨2, ![512, 8000]⟩
abbrev S8192x8000 : Shape := ⟨2, ![8192, 8000]⟩
abbrev S8192x1x1 : Shape := ⟨3, ![8192, 1, 1]⟩
abbrev S1 : Shape := ⟨1, ![1]⟩
abbrev S1x1x1 : Shape := ⟨3, ![1, 1, 1]⟩
abbrev S1024x256 : Shape := ⟨2, ![1024, 256]⟩
abbrev S8192x256 : Shape := ⟨2, ![8192, 256]⟩
abbrev S256x40000 : Shape := ⟨2, ![256, 40000]⟩
abbrev S8192x40000 : Shape := ⟨2, ![8192, 40000]⟩
abbrev S1024x128 : Shape := ⟨2, ![1024, 128]⟩
abbrev S8192x128 : Shape := ⟨2, ![8192, 128]⟩
abbrev S128x50000 : Shape := ⟨2, ![128, 50000]⟩
abbrev S8192x50000 : Shape := ⟨2, ![8192, 50000]⟩

abbrev nBuf : Space → Nat
  | .hbm => 259
  | .vmem => 0
  | .smem => 0
  | _ => 0

abbrev hbmTy0_0 (i : Nat) : BufTy := match i % 128 with
  | 0 => ⟨S8192x1024, .f32⟩
  | 1 => ⟨S8192, .i32⟩
  | 2 => ⟨S2003x1024, .f32⟩
  | 3 => ⟨S512x1024, .f32⟩
  | 4 => ⟨S8000x512, .f32⟩
  | 5 => ⟨S256x1024, .f32⟩
  | 6 => ⟨S40000x256, .f32⟩
  | 7 => ⟨S128x1024, .f32⟩
  | 8 => ⟨S50000x128, .f32⟩
  | 9 => ⟨S1024x2003, .f32⟩
  | 10 => ⟨S8192x2003, .f32⟩
  | 11 => ⟨S_, .f32⟩
  | 12 => ⟨S8192, .f32⟩
  | 13 => ⟨S_, .f32⟩
  | 14 => ⟨S8192, .f32⟩
  | 15 => ⟨S8192, .f32⟩
  | 16 => ⟨S8192x1, .f32⟩
  | 17 => ⟨S8192x2003, .f32⟩
  | 18 => ⟨S8192x2003, .f32⟩
  | 19 => ⟨S8192x2003, .f32⟩
  | 20 => ⟨S_, .f32⟩
  | 21 => ⟨S8192, .f32⟩
  | 22 => ⟨S8192x1, .f32⟩
  | 23 => ⟨S8192x1, .f32⟩
  | 24 => ⟨S8192x2003, .f32⟩
  | 25 => ⟨S8192x2003, .f32⟩
  | 26 => ⟨S_, .f32⟩
  | 27 => ⟨S8192, .f32⟩
  | 28 => ⟨S_, .i32⟩
  | 29 => ⟨S8192, .i32⟩
  | 30 => ⟨S8192, .i1⟩
  | 31 => ⟨S_, .i32⟩
  | 32 => ⟨S_, .i32⟩
  | 33 => ⟨S8192, .i32⟩
  | 34 => ⟨S8192, .i32⟩
  | 35 => ⟨S_, .i32⟩
  | 36 => ⟨S8192, .i32⟩
  | 37 => ⟨S8192, .i1⟩
  | 38 => ⟨S_, .i32⟩
  | 39 => ⟨S8192, .i32⟩
  | 40 => ⟨S8192, .i1⟩
  | 41 => ⟨S8192, .i1⟩
  | 42 => ⟨S_, .i32⟩
  | 43 => ⟨S_, .i32⟩
  | 44 => ⟨S8192, .i32⟩
  | 45 => ⟨S8192, .i32⟩
  | 46 => ⟨S1024x512, .f32⟩
  | 47 => ⟨S8192x512, .f32⟩
  | 48 => ⟨S512x8000, .f32⟩
  | 49 => ⟨S8192x8000, .f32⟩
  | 50 => ⟨S_, .f32⟩
  | 51 => ⟨S8192, .f32⟩
  | 52 => ⟨S_, .f32⟩
  | 53 => ⟨S8192, .f32⟩
  | 54 => ⟨S8192, .f32⟩
  | 55 => ⟨S8192x1, .f32⟩
  | 56 => ⟨S8192x8000, .f32⟩
  | 57 => ⟨S8192x8000, .f32⟩
  | 58 => ⟨S8192x8000, .f32⟩
  | 59 => ⟨S_, .f32⟩
  | 60 => ⟨S8192, .f32⟩
  | 61 => ⟨S8192x1, .f32⟩
  | 62 => ⟨S8192x1, .f32⟩
  | 63 => ⟨S8192x8000, .f32⟩
  | 64 => ⟨S8192x8000, .f32⟩
  | 65 => ⟨S_, .i32⟩
  | 66 => ⟨S8192, .i32⟩
  | 67 => ⟨S8192, .i32⟩
  | 68 => ⟨S_, .i32⟩
  | 69 => ⟨S_, .i32⟩
  | 70 => ⟨S_, .i32⟩
  | 71 => ⟨S8192, .i32⟩
  | 72 => ⟨S8192, .i32⟩
  | 73 => ⟨S_, .i32⟩
  | 74 => ⟨S8192, .i32⟩
  | 75 => ⟨S8192, .i32⟩
  | 76 => ⟨S8192x1, .i32⟩
  | 77 => ⟨S_, .i32⟩
  | 78 => ⟨S8192x1, .i32⟩
  | 79 => ⟨S8192x1, .i1⟩
  | 80 => ⟨S_, .i32⟩
  | 81 => ⟨S8192x1, .i32⟩
  | 82 => ⟨S8192x1, .i32⟩
  | 83 => ⟨S8192x1, .i32⟩
  | 84 => ⟨S8192x1x1, .i32⟩
  | 85 => ⟨S1, .i32⟩
  | 86 => ⟨S_, .i32⟩
  | 87 => ⟨S8192x1x1, .i32⟩
  | 88 => ⟨S8192x1x1, .i1⟩
  | 89 => ⟨S1x1x1, .i32⟩
  | 90 => ⟨S8192x1x1, .i32⟩
  | 91 => ⟨S8192x1x1, .i1⟩
  | 92 => ⟨S8192x1x1, .i1⟩
  | 93 => ⟨S_, .i1⟩
  | 94 => ⟨S8192x1, .i1⟩
  | 95 => ⟨S8192x1, .f32⟩
  | 96 => ⟨S_, .f32⟩
  | 97 => ⟨S8192x1, .f32⟩
  | 98 => ⟨S8192x1, .f32⟩
  | 99 => ⟨S8192, .f32⟩
  | 100 => ⟨S8192, .f32⟩
  | 101 => ⟨S_, .i32⟩
  | 102 => ⟨S8192, .i32⟩
  | 103 => ⟨S8192, .i1⟩
  | 104 => ⟨S_, .i32⟩
  | 105 => ⟨S8192, .i32⟩
  | 106 => ⟨S8192, .i1⟩
  | 107 => ⟨S8192, .i1⟩
  | 108 => ⟨S_, .i32⟩
  | 109 => ⟨S_, .i32⟩
  | 110 => ⟨S8192, .i32⟩
  | 111 => ⟨S8192, .i32⟩
  | 112 => ⟨S1024x256, .f32⟩
  | 113 => ⟨S8192x256, .f32⟩
  | 114 => ⟨S256x40000, .f32⟩
  | 115 => ⟨S8192x40000, .f32⟩
  | 116 => ⟨S_, .f32⟩
  | 117 => ⟨S8192, .f32⟩
  | 118 => ⟨S_, .f32⟩
  | 119 => ⟨S8192, .f32⟩
  | 120 => ⟨S8192, .f32⟩
  | 121 => ⟨S8192x1, .f32⟩
  | 122 => ⟨S8192x40000, .f32⟩
  | 123 => ⟨S8192x40000, .f32⟩
  | 124 => ⟨S8192x40000, .f32⟩
  | 125 => ⟨S_, .f32⟩
  | 126 => ⟨S8192, .f32⟩
  | 127 => ⟨S8192x1, .f32⟩
  | _ => ⟨S8192x1024, .f32⟩

abbrev hbmTy0_1 (i : Nat) : BufTy := match i % 128 with
  | 0 => ⟨S8192x1, .f32⟩
  | 1 => ⟨S8192x40000, .f32⟩
  | 2 => ⟨S8192x40000, .f32⟩
  | 3 => ⟨S_, .i32⟩
  | 4 => ⟨S8192, .i32⟩
  | 5 => ⟨S8192, .i32⟩
  | 6 => ⟨S_, .i32⟩
  | 7 => ⟨S_, .i32⟩
  | 8 => ⟨S_, .i32⟩
  | 9 => ⟨S8192, .i32⟩
  | 10 => ⟨S8192, .i32⟩
  | 11 => ⟨S_, .i32⟩
  | 12 => ⟨S8192, .i32⟩
  | 13 => ⟨S8192, .i32⟩
  | 14 => ⟨S8192x1, .i32⟩
  | 15 => ⟨S_, .i32⟩
  | 16 => ⟨S8192x1, .i32⟩
  | 17 => ⟨S8192x1, .i1⟩
  | 18 => ⟨S_, .i32⟩
  | 19 => ⟨S8192x1, .i32⟩
  | 20 => ⟨S8192x1, .i32⟩
  | 21 => ⟨S8192x1, .i32⟩
  | 22 => ⟨S8192x1x1, .i32⟩
  | 23 => ⟨S1, .i32⟩
  | 24 => ⟨S_, .i32⟩
  | 25 => ⟨S8192x1x1, .i32⟩
  | 26 => ⟨S8192x1x1, .i1⟩
  | 27 => ⟨S1x1x1, .i32⟩
  | 28 => ⟨S8192x1x1, .i32⟩
  | 29 => ⟨S8192x1x1, .i1⟩
  | 30 => ⟨S8192x1x1, .i1⟩
  | 31 => ⟨S_, .i1⟩
  | 32 => ⟨S8192x1, .i1⟩
  | 33 => ⟨S8192x1, .f32⟩
  | 34 => ⟨S_, .f32⟩
  | 35 => ⟨S8192x1, .f32⟩
  | 36 => ⟨S8192x1, .f32⟩
  | 37 => ⟨S8192, .f32⟩
  | 38 => ⟨S8192, .f32⟩
  | 39 => ⟨S_, .i32⟩
  | 40 => ⟨S8192, .i32⟩
  | 41 => ⟨S8192, .i1⟩
  | 42 => ⟨S_, .i32⟩
  | 43 => ⟨S8192, .i32⟩
  | 44 => ⟨S8192, .i1⟩
  | 45 => ⟨S8192, .i1⟩
  | 46 => ⟨S_, .i32⟩
  | 47 => ⟨S_, .i32⟩
  | 48 => ⟨S8192, .i32⟩
  | 49 => ⟨S8192, .i32⟩
  | 50 => ⟨S1024x128, .f32⟩
  | 51 => ⟨S8192x128, .f32⟩
  | 52 => ⟨S128x50000, .f32⟩
  | 53 => ⟨S8192x50000, .f32⟩
  | 54 => ⟨S_, .f32⟩
  | 55 => ⟨S8192, .f32⟩
  | 56 => ⟨S_, .f32⟩
  | 57 => ⟨S8192, .f32⟩
  | 58 => ⟨S8192, .f32⟩
  | 59 => ⟨S8192x1, .f32⟩
  | 60 => ⟨S8192x50000, .f32⟩
  | 61 => ⟨S8192x50000, .f32⟩
  | 62 => ⟨S8192x50000, .f32⟩
  | 63 => ⟨S_, .f32⟩
  | 64 => ⟨S8192, .f32⟩
  | 65 => ⟨S8192x1, .f32⟩
  | 66 => ⟨S8192x1, .f32⟩
  | 67 => ⟨S8192x50000, .f32⟩
  | 68 => ⟨S8192x50000, .f32⟩
  | 69 => ⟨S_, .i32⟩
  | 70 => ⟨S8192, .i32⟩
  | 71 => ⟨S8192, .i32⟩
  | 72 => ⟨S_, .i32⟩
  | 73 => ⟨S_, .i32⟩
  | 74 => ⟨S_, .i32⟩
  | 75 => ⟨S8192, .i32⟩
  | 76 => ⟨S8192, .i32⟩
  | 77 => ⟨S_, .i32⟩
  | 78 => ⟨S8192, .i32⟩
  | 79 => ⟨S8192, .i32⟩
  | 80 => ⟨S8192x1, .i32⟩
  | 81 => ⟨S_, .i32⟩
  | 82 => ⟨S8192x1, .i32⟩
  | 83 => ⟨S8192x1, .i1⟩
  | 84 => ⟨S_, .i32⟩
  | 85 => ⟨S8192x1, .i32⟩
  | 86 => ⟨S8192x1, .i32⟩
  | 87 => ⟨S8192x1, .i32⟩
  | 88 => ⟨S8192x1x1, .i32⟩
  | 89 => ⟨S1, .i32⟩
  | 90 => ⟨S_, .i32⟩
  | 91 => ⟨S8192x1x1, .i32⟩
  | 92 => ⟨S8192x1x1, .i1⟩
  | 93 => ⟨S1x1x1, .i32⟩
  | 94 => ⟨S8192x1x1, .i32⟩
  | 95 => ⟨S8192x1x1, .i1⟩
  | 96 => ⟨S8192x1x1, .i1⟩
  | 97 => ⟨S_, .i1⟩
  | 98 => ⟨S8192x1, .i1⟩
  | 99 => ⟨S8192x1, .f32⟩
  | 100 => ⟨S_, .f32⟩
  | 101 => ⟨S8192x1, .f32⟩
  | 102 => ⟨S8192x1, .f32⟩
  | 103 => ⟨S8192, .f32⟩
  | 104 => ⟨S8192, .f32⟩
  | 105 => ⟨S8192x1, .i32⟩
  | 106 => ⟨S_, .i32⟩
  | 107 => ⟨S8192x1, .i32⟩
  | 108 => ⟨S8192x1, .i1⟩
  | 109 => ⟨S_, .i32⟩
  | 110 => ⟨S8192x1, .i32⟩
  | 111 => ⟨S8192x1, .i32⟩
  | 112 => ⟨S8192x1, .i32⟩
  | 113 => ⟨S8192x1x1, .i32⟩
  | 114 => ⟨S1, .i32⟩
  | 115 => ⟨S_, .i32⟩
  | 116 => ⟨S8192x1x1, .i32⟩
  | 117 => ⟨S8192x1x1, .i1⟩
  | 118 => ⟨S1x1x1, .i32⟩
  | 119 => ⟨S8192x1x1, .i32⟩
  | 120 => ⟨S8192x1x1, .i1⟩
  | 121 => ⟨S8192x1x1, .i1⟩
  | 122 => ⟨S_, .i1⟩
  | 123 => ⟨S8192x1, .i1⟩
  | 124 => ⟨S8192x1, .f32⟩
  | 125 => ⟨S_, .f32⟩
  | 126 => ⟨S8192x1, .f32⟩
  | 127 => ⟨S8192x1, .f32⟩
  | _ => ⟨S8192x1024, .f32⟩

abbrev hbmTy0_2 (i : Nat) : BufTy := match i % 128 with
  | 0 => ⟨S8192, .f32⟩
  | 1 => ⟨S8192, .f32⟩
  | 2 => ⟨S8192, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_cst : Ref sig .tc := ⟨.hbm, 11, rfl⟩
abbrev main_call0_v0 : Ref sig .tc := ⟨.hbm, 12, rfl⟩
abbrev main_call0_cst_0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_cst_1 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_v2 : Ref sig .tc := ⟨.hbm, 25, rfl⟩
abbrev main_cst : Ref sig .tc := ⟨.hbm, 26, rfl⟩
abbrev main_v3 : Ref sig .tc := ⟨.hbm, 27, rfl⟩
abbrev main_c : Ref sig .tc := ⟨.hbm, 28, rfl⟩
abbrev main_v4 : Ref sig .tc := ⟨.hbm, 29, rfl⟩
abbrev main_v5 : Ref sig .tc := ⟨.hbm, 30, rfl⟩
abbrev main_c_0 : Ref sig .tc := ⟨.hbm, 31, rfl⟩
abbrev main_call1_v0 : Ref sig .tc := ⟨.hbm, 32, rfl⟩
abbrev main_call1_v1 : Ref sig .tc := ⟨.hbm, 33, rfl⟩
abbrev main_v6 : Ref sig .tc := ⟨.hbm, 34, rfl⟩
abbrev main_c_1 : Ref sig .tc := ⟨.hbm, 35, rfl⟩
abbrev main_v7 : Ref sig .tc := ⟨.hbm, 36, rfl⟩
abbrev main_v8 : Ref sig .tc := ⟨.hbm, 37, rfl⟩
abbrev main_c_2 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_c_3 : Ref sig .tc := ⟨.hbm, 42, rfl⟩
abbrev main_call2_v0 : Ref sig .tc := ⟨.hbm, 43, rfl⟩
abbrev main_call2_v1 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_call3_cst : Ref sig .tc := ⟨.hbm, 50, rfl⟩
abbrev main_call3_v0 : Ref sig .tc := ⟨.hbm, 51, rfl⟩
abbrev main_call3_cst_0 : Ref sig .tc := ⟨.hbm, 52, rfl⟩
abbrev main_call3_v1 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_call3_v5 : Ref sig .tc := ⟨.hbm, 57, rfl⟩
abbrev main_call3_v6 : Ref sig .tc := ⟨.hbm, 58, rfl⟩
abbrev main_call3_cst_1 : Ref sig .tc := ⟨.hbm, 59, rfl⟩
abbrev main_call3_v7 : Ref sig .tc := ⟨.hbm, 60, rfl⟩
abbrev main_call3_v8 : Ref sig .tc := ⟨.hbm, 61, rfl⟩
abbrev main_call3_v9 : Ref sig .tc := ⟨.hbm, 62, rfl⟩
abbrev main_call3_v10 : Ref sig .tc := ⟨.hbm, 63, rfl⟩
abbrev main_v17 : Ref sig .tc := ⟨.hbm, 64, rfl⟩
abbrev main_c_4 : Ref sig .tc := ⟨.hbm, 65, rfl⟩
abbrev main_v18 : Ref sig .tc := ⟨.hbm, 66, rfl⟩
abbrev main_v19 : Ref sig .tc := ⟨.hbm, 67, rfl⟩
abbrev main_c_5 : Ref sig .tc := ⟨.hbm, 68, rfl⟩
abbrev main_c_6 : Ref sig .tc := ⟨.hbm, 69, rfl⟩
abbrev main_call4_v0 : Ref sig .tc := ⟨.hbm, 70, rfl⟩
abbrev main_call4_v1 : Ref sig .tc := ⟨.hbm, 71, rfl⟩
abbrev main_call4_v2 : Ref sig .tc := ⟨.hbm, 72, rfl⟩
abbrev main_call4_v3 : Ref sig .tc := ⟨.hbm, 73, rfl⟩
abbrev main_call4_v4 : Ref sig .tc := ⟨.hbm, 74, rfl⟩
abbrev main_v20 : Ref sig .tc := ⟨.hbm, 75, rfl⟩
abbrev main_v21 : Ref sig .tc := ⟨.hbm, 76, rfl⟩
abbrev main_call5_c : Ref sig .tc := ⟨.hbm, 77, rfl⟩
abbrev main_call5_v0 : Ref sig .tc := ⟨.hbm, 78, rfl⟩
abbrev main_call5_v1 : Ref sig .tc := ⟨.hbm, 79, rfl⟩
abbrev main_call5_c_0 : Ref sig .tc := ⟨.hbm, 80, rfl⟩
abbrev main_call5_v2 : Ref sig .tc := ⟨.hbm, 81, rfl⟩
abbrev main_call5_v3 : Ref sig .tc := ⟨.hbm, 82, rfl⟩
abbrev main_call5_v4 : Ref sig .tc := ⟨.hbm, 83, rfl⟩
abbrev main_call5_v5 : Ref sig .tc := ⟨.hbm, 84, rfl⟩
abbrev main_call5_c_1 : Ref sig .tc := ⟨.hbm, 85, rfl⟩
abbrev main_call5_c_2 : Ref sig .tc := ⟨.hbm, 86, rfl⟩
abbrev main_call5_v6 : Ref sig .tc := ⟨.hbm, 87, rfl⟩
abbrev main_call5_v7 : Ref sig .tc := ⟨.hbm, 88, rfl⟩
abbrev main_call5_v8 : Ref sig .tc := ⟨.hbm, 89, rfl⟩
abbrev main_call5_v9 : Ref sig .tc := ⟨.hbm, 90, rfl⟩
abbrev main_call5_v10 : Ref sig .tc := ⟨.hbm, 91, rfl⟩
abbrev main_call5_v11 : Ref sig .tc := ⟨.hbm, 92, rfl⟩
abbrev main_call5_c_3 : Ref sig .tc := ⟨.hbm, 93, rfl⟩
abbrev main_call5_v12 : Ref sig .tc := ⟨.hbm, 94, rfl⟩
abbrev main_call5_v13 : Ref sig .tc := ⟨.hbm, 95, rfl⟩
abbrev main_call5_cst : Ref sig .tc := ⟨.hbm, 96, rfl⟩
abbrev main_call5_v14 : Ref sig .tc := ⟨.hbm, 97, rfl⟩
abbrev main_v22 : Ref sig .tc := ⟨.hbm, 98, rfl⟩
abbrev main_v23 : Ref sig .tc := ⟨.hbm, 99, rfl⟩
abbrev main_v24 : Ref sig .tc := ⟨.hbm, 100, rfl⟩
abbrev main_c_7 : Ref sig .tc := ⟨.hbm, 101, rfl⟩
abbrev main_v25 : Ref sig .tc := ⟨.hbm, 102, rfl⟩
abbrev main_v26 : Ref sig .tc := ⟨.hbm, 103, rfl⟩
abbrev main_c_8 : Ref sig .tc := ⟨.hbm, 104, rfl⟩
abbrev main_v27 : Ref sig .tc := ⟨.hbm, 105, rfl⟩
abbrev main_v28 : Ref sig .tc := ⟨.hbm, 106, rfl⟩
abbrev main_v29 : Ref sig .tc := ⟨.hbm, 107, rfl⟩
abbrev main_c_9 : Ref sig .tc := ⟨.hbm, 108, rfl⟩
abbrev main_call7_v0 : Ref sig .tc := ⟨.hbm, 109, rfl⟩
abbrev main_call7_v1 : Ref sig .tc := ⟨.hbm, 110, rfl⟩
abbrev main_v30 : Ref sig .tc := ⟨.hbm, 111, rfl⟩
abbrev main_v31 : Ref sig .tc := ⟨.hbm, 112, rfl⟩
abbrev main_v32 : Ref sig .tc := ⟨.hbm, 113, rfl⟩
abbrev main_v33 : Ref sig .tc := ⟨.hbm, 114, rfl⟩
abbrev main_v34 : Ref sig .tc := ⟨.hbm, 115, rfl⟩
abbrev main_call8_cst : Ref sig .tc := ⟨.hbm, 116, rfl⟩
abbrev main_call8_v0 : Ref sig .tc := ⟨.hbm, 117, rfl⟩
abbrev main_call8_cst_0 : Ref sig .tc := ⟨.hbm, 118, rfl⟩
abbrev main_call8_v1 : Ref sig .tc := ⟨.hbm, 119, rfl⟩
abbrev main_call8_v2 : Ref sig .tc := ⟨.hbm, 120, rfl⟩
abbrev main_call8_v3 : Ref sig .tc := ⟨.hbm, 121, rfl⟩
abbrev main_call8_v4 : Ref sig .tc := ⟨.hbm, 122, rfl⟩
abbrev main_call8_v5 : Ref sig .tc := ⟨.hbm, 123, rfl⟩
abbrev main_call8_v6 : Ref sig .tc := ⟨.hbm, 124, rfl⟩
abbrev main_call8_cst_1 : Ref sig .tc := ⟨.hbm, 125, rfl⟩
abbrev main_call8_v7 : Ref sig .tc := ⟨.hbm, 126, rfl⟩
abbrev main_call8_v8 : Ref sig .tc := ⟨.hbm, 127, rfl⟩
abbrev main_call8_v9 : Ref sig .tc := ⟨.hbm, 128, rfl⟩
abbrev main_call8_v10 : Ref sig .tc := ⟨.hbm, 129, rfl⟩
abbrev main_v35 : Ref sig .tc := ⟨.hbm, 130, rfl⟩
abbrev main_c_10 : Ref sig .tc := ⟨.hbm, 131, rfl⟩
abbrev main_v36 : Ref sig .tc := ⟨.hbm, 132, rfl⟩
abbrev main_v37 : Ref sig .tc := ⟨.hbm, 133, rfl⟩
abbrev main_c_11 : Ref sig .tc := ⟨.hbm, 134, rfl⟩
abbrev main_c_12 : Ref sig .tc := ⟨.hbm, 135, rfl⟩
abbrev main_call9_v0 : Ref sig .tc := ⟨.hbm, 136, rfl⟩
abbrev main_call9_v1 : Ref sig .tc := ⟨.hbm, 137, rfl⟩
abbrev main_call9_v2 : Ref sig .tc := ⟨.hbm, 138, rfl⟩
abbrev main_call9_v3 : Ref sig .tc := ⟨.hbm, 139, rfl⟩
abbrev main_call9_v4 : Ref sig .tc := ⟨.hbm, 140, rfl⟩
abbrev main_v38 : Ref sig .tc := ⟨.hbm, 141, rfl⟩
abbrev main_v39 : Ref sig .tc := ⟨.hbm, 142, rfl⟩
abbrev main_call10_c : Ref sig .tc := ⟨.hbm, 143, rfl⟩
abbrev main_call10_v0 : Ref sig .tc := ⟨.hbm, 144, rfl⟩
abbrev main_call10_v1 : Ref sig .tc := ⟨.hbm, 145, rfl⟩
abbrev main_call10_c_0 : Ref sig .tc := ⟨.hbm, 146, rfl⟩
abbrev main_call10_v2 : Ref sig .tc := ⟨.hbm, 147, rfl⟩
abbrev main_call10_v3 : Ref sig .tc := ⟨.hbm, 148, rfl⟩
abbrev main_call10_v4 : Ref sig .tc := ⟨.hbm, 149, rfl⟩
abbrev main_call10_v5 : Ref sig .tc := ⟨.hbm, 150, rfl⟩
abbrev main_call10_c_1 : Ref sig .tc := ⟨.hbm, 151, rfl⟩
abbrev main_call10_c_2 : Ref sig .tc := ⟨.hbm, 152, rfl⟩
abbrev main_call10_v6 : Ref sig .tc := ⟨.hbm, 153, rfl⟩
abbrev main_call10_v7 : Ref sig .tc := ⟨.hbm, 154, rfl⟩
abbrev main_call10_v8 : Ref sig .tc := ⟨.hbm, 155, rfl⟩
abbrev main_call10_v9 : Ref sig .tc := ⟨.hbm, 156, rfl⟩
abbrev main_call10_v10 : Ref sig .tc := ⟨.hbm, 157, rfl⟩
abbrev main_call10_v11 : Ref sig .tc := ⟨.hbm, 158, rfl⟩
abbrev main_call10_c_3 : Ref sig .tc := ⟨.hbm, 159, rfl⟩
abbrev main_call10_v12 : Ref sig .tc := ⟨.hbm, 160, rfl⟩
abbrev main_call10_v13 : Ref sig .tc := ⟨.hbm, 161, rfl⟩
abbrev main_call10_cst : Ref sig .tc := ⟨.hbm, 162, rfl⟩
abbrev main_call10_v14 : Ref sig .tc := ⟨.hbm, 163, rfl⟩
abbrev main_v40 : Ref sig .tc := ⟨.hbm, 164, rfl⟩
abbrev main_v41 : Ref sig .tc := ⟨.hbm, 165, rfl⟩
abbrev main_v42 : Ref sig .tc := ⟨.hbm, 166, rfl⟩
abbrev main_c_13 : Ref sig .tc := ⟨.hbm, 167, rfl⟩
abbrev main_v43 : Ref sig .tc := ⟨.hbm, 168, rfl⟩
abbrev main_v44 : Ref sig .tc := ⟨.hbm, 169, rfl⟩
abbrev main_c_14 : Ref sig .tc := ⟨.hbm, 170, rfl⟩
abbrev main_v45 : Ref sig .tc := ⟨.hbm, 171, rfl⟩
abbrev main_v46 : Ref sig .tc := ⟨.hbm, 172, rfl⟩
abbrev main_v47 : Ref sig .tc := ⟨.hbm, 173, rfl⟩
abbrev main_c_15 : Ref sig .tc := ⟨.hbm, 174, rfl⟩
abbrev main_call12_v0 : Ref sig .tc := ⟨.hbm, 175, rfl⟩
abbrev main_call12_v1 : Ref sig .tc := ⟨.hbm, 176, rfl⟩
abbrev main_v48 : Ref sig .tc := ⟨.hbm, 177, rfl⟩
abbrev main_v49 : Ref sig .tc := ⟨.hbm, 178, rfl⟩
abbrev main_v50 : Ref sig .tc := ⟨.hbm, 179, rfl⟩
abbrev main_v51 : Ref sig .tc := ⟨.hbm, 180, rfl⟩
abbrev main_v52 : Ref sig .tc := ⟨.hbm, 181, rfl⟩
abbrev main_call13_cst : Ref sig .tc := ⟨.hbm, 182, rfl⟩
abbrev main_call13_v0 : Ref sig .tc := ⟨.hbm, 183, rfl⟩
abbrev main_call13_cst_0 : Ref sig .tc := ⟨.hbm, 184, rfl⟩
abbrev main_call13_v1 : Ref sig .tc := ⟨.hbm, 185, rfl⟩
abbrev main_call13_v2 : Ref sig .tc := ⟨.hbm, 186, rfl⟩
abbrev main_call13_v3 : Ref sig .tc := ⟨.hbm, 187, rfl⟩
abbrev main_call13_v4 : Ref sig .tc := ⟨.hbm, 188, rfl⟩
abbrev main_call13_v5 : Ref sig .tc := ⟨.hbm, 189, rfl⟩
abbrev main_call13_v6 : Ref sig .tc := ⟨.hbm, 190, rfl⟩
abbrev main_call13_cst_1 : Ref sig .tc := ⟨.hbm, 191, rfl⟩
abbrev main_call13_v7 : Ref sig .tc := ⟨.hbm, 192, rfl⟩
abbrev main_call13_v8 : Ref sig .tc := ⟨.hbm, 193, rfl⟩
abbrev main_call13_v9 : Ref sig .tc := ⟨.hbm, 194, rfl⟩
abbrev main_call13_v10 : Ref sig .tc := ⟨.hbm, 195, rfl⟩
abbrev main_v53 : Ref sig .tc := ⟨.hbm, 196, rfl⟩
abbrev main_c_16 : Ref sig .tc := ⟨.hbm, 197, rfl⟩
abbrev main_v54 : Ref sig .tc := ⟨.hbm, 198, rfl⟩
abbrev main_v55 : Ref sig .tc := ⟨.hbm, 199, rfl⟩
abbrev main_c_17 : Ref sig .tc := ⟨.hbm, 200, rfl⟩
abbrev main_c_18 : Ref sig .tc := ⟨.hbm, 201, rfl⟩
abbrev main_call14_v0 : Ref sig .tc := ⟨.hbm, 202, rfl⟩
abbrev main_call14_v1 : Ref sig .tc := ⟨.hbm, 203, rfl⟩
abbrev main_call14_v2 : Ref sig .tc := ⟨.hbm, 204, rfl⟩
abbrev main_call14_v3 : Ref sig .tc := ⟨.hbm, 205, rfl⟩
abbrev main_call14_v4 : Ref sig .tc := ⟨.hbm, 206, rfl⟩
abbrev main_v56 : Ref sig .tc := ⟨.hbm, 207, rfl⟩
abbrev main_v57 : Ref sig .tc := ⟨.hbm, 208, rfl⟩
abbrev main_call15_c : Ref sig .tc := ⟨.hbm, 209, rfl⟩
abbrev main_call15_v0 : Ref sig .tc := ⟨.hbm, 210, rfl⟩
abbrev main_call15_v1 : Ref sig .tc := ⟨.hbm, 211, rfl⟩
abbrev main_call15_c_0 : Ref sig .tc := ⟨.hbm, 212, rfl⟩
abbrev main_call15_v2 : Ref sig .tc := ⟨.hbm, 213, rfl⟩
abbrev main_call15_v3 : Ref sig .tc := ⟨.hbm, 214, rfl⟩
abbrev main_call15_v4 : Ref sig .tc := ⟨.hbm, 215, rfl⟩
abbrev main_call15_v5 : Ref sig .tc := ⟨.hbm, 216, rfl⟩
abbrev main_call15_c_1 : Ref sig .tc := ⟨.hbm, 217, rfl⟩
abbrev main_call15_c_2 : Ref sig .tc := ⟨.hbm, 218, rfl⟩
abbrev main_call15_v6 : Ref sig .tc := ⟨.hbm, 219, rfl⟩
abbrev main_call15_v7 : Ref sig .tc := ⟨.hbm, 220, rfl⟩
abbrev main_call15_v8 : Ref sig .tc := ⟨.hbm, 221, rfl⟩
abbrev main_call15_v9 : Ref sig .tc := ⟨.hbm, 222, rfl⟩
abbrev main_call15_v10 : Ref sig .tc := ⟨.hbm, 223, rfl⟩
abbrev main_call15_v11 : Ref sig .tc := ⟨.hbm, 224, rfl⟩
abbrev main_call15_c_3 : Ref sig .tc := ⟨.hbm, 225, rfl⟩
abbrev main_call15_v12 : Ref sig .tc := ⟨.hbm, 226, rfl⟩
abbrev main_call15_v13 : Ref sig .tc := ⟨.hbm, 227, rfl⟩
abbrev main_call15_cst : Ref sig .tc := ⟨.hbm, 228, rfl⟩
abbrev main_call15_v14 : Ref sig .tc := ⟨.hbm, 229, rfl⟩
abbrev main_v58 : Ref sig .tc := ⟨.hbm, 230, rfl⟩
abbrev main_v59 : Ref sig .tc := ⟨.hbm, 231, rfl⟩
abbrev main_v60 : Ref sig .tc := ⟨.hbm, 232, rfl⟩
abbrev main_v61 : Ref sig .tc := ⟨.hbm, 233, rfl⟩
abbrev main_call17_c : Ref sig .tc := ⟨.hbm, 234, rfl⟩
abbrev main_call17_v0 : Ref sig .tc := ⟨.hbm, 235, rfl⟩
abbrev main_call17_v1 : Ref sig .tc := ⟨.hbm, 236, rfl⟩
abbrev main_call17_c_0 : Ref sig .tc := ⟨.hbm, 237, rfl⟩
abbrev main_call17_v2 : Ref sig .tc := ⟨.hbm, 238, rfl⟩
abbrev main_call17_v3 : Ref sig .tc := ⟨.hbm, 239, rfl⟩
abbrev main_call17_v4 : Ref sig .tc := ⟨.hbm, 240, rfl⟩
abbrev main_call17_v5 : Ref sig .tc := ⟨.hbm, 241, rfl⟩
abbrev main_call17_c_1 : Ref sig .tc := ⟨.hbm, 242, rfl⟩
abbrev main_call17_c_2 : Ref sig .tc := ⟨.hbm, 243, rfl⟩
abbrev main_call17_v6 : Ref sig .tc := ⟨.hbm, 244, rfl⟩
abbrev main_call17_v7 : Ref sig .tc := ⟨.hbm, 245, rfl⟩
abbrev main_call17_v8 : Ref sig .tc := ⟨.hbm, 246, rfl⟩
abbrev main_call17_v9 : Ref sig .tc := ⟨.hbm, 247, rfl⟩
abbrev main_call17_v10 : Ref sig .tc := ⟨.hbm, 248, rfl⟩
abbrev main_call17_v11 : Ref sig .tc := ⟨.hbm, 249, rfl⟩
abbrev main_call17_c_3 : Ref sig .tc := ⟨.hbm, 250, rfl⟩
abbrev main_call17_v12 : Ref sig .tc := ⟨.hbm, 251, rfl⟩
abbrev main_call17_v13 : Ref sig .tc := ⟨.hbm, 252, rfl⟩
abbrev main_call17_cst : Ref sig .tc := ⟨.hbm, 253, rfl⟩
abbrev main_call17_v14 : Ref sig .tc := ⟨.hbm, 254, rfl⟩
abbrev main_v62 : Ref sig .tc := ⟨.hbm, 255, rfl⟩
abbrev main_v63 : Ref sig .tc := ⟨.hbm, 256, rfl⟩
abbrev main_v64 : Ref sig .tc := ⟨.hbm, 257, rfl⟩
abbrev main_v65 : Ref sig .tc := ⟨.hbm, 258, rfl⟩

abbrev nD : Nat := 1
abbrev τ : Topo := Topo.v7x

variable {F : FTy → Type} [FloatOps F]
-- ==== Proof.Common.lean ====
/-
  Facts about relational pipeline data and host segments that do not depend on the program: what a resident input's staging
  buffer may hold, a region's arrays put back among the unscoped buffers when one of them is written, and a host segment run
  from contents known only up to a family.
-/
module

public import Idealize.ShloMosaic.Lib.Pipeline.Kit
public import Idealize.ShloMosaic.Lib.Pipeline.Regions
public import Idealize.ShloMosaic.Lib.Pipeline.SegConseq
public import Idealize.ShloMosaic.Lib.Pipeline.Frame
public import Idealize.ShloMosaic.Lib.Pipeline.RegionArrays

@[expose] public section

noncomputable section

namespace Cert.Common

open Idealize.ShloMosaic Idealize.ShloMosaic.Pipeline
open Idealize.SL
open Idealize.SL.BI (sProp bigSep bigSep_congr bigSep_mono bigSep_exists_pi bigSep_pure_sep)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- An input window fetched at the first point only, which the body leaves as it found it, holds that fetch at every point. -/
theorem finds_resident {Λ₀ : Labels} {cfg : Cfg sig Λ₀} {c : Dev nD} (rd : RDat τ Val Ix Name U Lvl cfg c) (w : Fin cfg.W) (h0 : 0 < cfg.N)
    (hin : (cfg.win w).isOut = false) (hf : ∀ t, (cfg.win w).fetch t = true ↔ t.val = 0)
    (ha : ∀ t Y X, rd.after w t Y X → X = Y) :
    ∀ (n : ℕ) (hn : n < cfg.N) (Y : (cfg.win w).block.Idx → Val (cfg.win w).elt), rd.Finds w ⟨n, hn⟩ Y → ∃ d, Y = rd.fetched w ⟨0, h0⟩ d
  | 0, _, Y, h => (rd.finds_of_fetch ((hf _).mpr rfl) Y).mp h
  | n + 1, hn, Y, h => by
    have hff : (cfg.win w).fetch ⟨n + 1, hn⟩ = false := by
      cases hx : (cfg.win w).fetch ⟨n + 1, hn⟩ with
      | false => rfl
      | true => exact absurd ((hf _).mp hx) (Nat.succ_ne_zero n)
    rcases (rd.finds_of_pos hff (Nat.succ_ne_zero n) Y).mp h with h1 | ⟨Y', h1, h2⟩
    · exfalso
      unfold Window.flush at h1
      rw [hin] at h1
      exact Bool.false_ne_true h1
    · obtain ⟨d, hd⟩ := finds_resident rd w h0 hin hf ha n (Nat.lt_of_succ_lt hn) Y' h1
      exact ⟨d, (ha _ _ _ h2).trans hd⟩

section Exit

variable {Λ₀ : Labels} {P : Type}
variable (pcs : P → PCfg sig Λ₀ Val) (a : (p : P) → (pcs p).Adm)
  (rdats : (p : P) → (c : Dev nD) → RDat τ Val Ix Name U Lvl (pin pcs a p) c)

/-- A region's arrays at whatever they may hold after the write-backs below `n`, all but `wo` being inputs, and the unscoped
    rest are the core's unscoped buffers with `wo`'s array replaced by something it may hold. -/
theorem arraysAt_exit {p : P} (hw : WinFacts (pin pcs a p).spec) (harr : ∀ w, ((pin pcs a p).spec w).arr.IsWhole) (c : Dev nD)
    (hshare : ∀ w, (rdats p c).share w = fullShare) (n : ℕ)
    (V : (b : Ref sig .tc) → Buf Val ((c.tc : Thread nD τ).loc b))
    (hA : ∀ w, (rdats p c).A w = V (arrRef (pin pcs a p).spec w))
    (wo : Fin (pin pcs a p).W) (hin : ∀ w, w ≠ wo → ((pin pcs a p).win w).isOut = false)
    (Vn : Buf Val ((c.tc : Thread nD τ).loc (arrRef (pin pcs a p).spec wo)) → (b : Ref sig .tc) → Buf Val ((c.tc : Thread nD τ).loc b))
    (h1 : ∀ G, Vn G (arrRef (pin pcs a p).spec wo) = G) (h2 : ∀ G b, b ≠ arrRef (pin pcs a p).spec wo → Vn G b = V b) :
    iprop((rdats p c).arraysAt n ∗ unscopedRest (pin pcs a p).spec c V)
      ⊢ (iprop(∃ G, ⌜(rdats p c).ArrAt wo n G⌝ ∗ unscopedBufs c (Vn G)) : sProp 𝕄) := by
  rw [RDat.arraysAt_eq pcs a rdats p c harr hshare n]
  haveI : ∀ w : Fin (pin pcs a p).W, Nonempty (Buf Val (((pin pcs a p).spec w).arr.view.loc (c.tc : Thread nD τ))) := fun w => ⟨(rdats p c).A w⟩
  iintro ⟨Ha, Hr⟩
  ihave H := (bigSep_exists_pi Finset.univ fun (w : Fin (pin pcs a p).W) (G : Buf Val (((pin pcs a p).spec w).arr.view.loc (c.tc : Thread nD τ))) =>
    (iprop(⌜(rdats p c).ArrAt w n G⌝ ∗ (((c.tc : Thread nD τ).loc (arrRef (pin pcs a p).spec w)) ↦{fullShare} G)) : sProp 𝕄)) $$ Ha
  icases H with ⟨%G, H⟩
  ihave H := (bigSep_pure_sep Finset.univ _ _) $$ H
  icases H with ⟨%hG, H⟩
  iexists (G wo)
  isplitr
  · ipureintro; exact hG wo (Finset.mem_univ _)
  have e : ∀ w, G w = Vn (G wo) (arrRef (pin pcs a p).spec w) := fun w => by
    by_cases hwo : w = wo
    · subst hwo; exact (h1 _).symm
    · have h3 := hG w (Finset.mem_univ _)
      rw [(rdats p c).ArrAt_in w (hin w hwo) n] at h3
      rw [h2 _ _ (fun h => hwo (hw.arr_inj h)), ← hA w]; exact h3
  rw [unscopedBufs_split (pin pcs a) p hw.arr_unscoped hw.arr_inj c (Vn (G wo))]
  isplitl [H]
  · iapply (Entails.of_eq (bigSep_congr fun w _ => by rw [← e w])); iexact H
  · unfold unscopedRest
    iapply (Entails.of_eq (bigSep_congr fun b hb => by
      rw [h2 _ b (fun h => (Finset.mem_sdiff.mp hb).2 (h ▸ Finset.mem_image_of_mem _ (Finset.mem_univ wo)))])); iexact Hr

end Exit

section Region

variable {Λ₀ : Labels} {P : Type} [Fintype P] [Preorder Lvl]
variable (pcs : P → PCfg sig Λ₀ Val) (a : (p : P) → (pcs p).Adm)
  (rdats : (p : P) → (c : Dev nD) → RDat τ Val Ix Name U Lvl (pin pcs a p) c) (ι : Ix)
  (defs₀ : Defs nD τ sig Val Λ₀) (𝒱₀ : Variants) (L : GSem nD τ sig → Finset Ix) (lv : GSem nD τ sig → Ix → Lvl)

/-- What a core holds between two items: its unscoped buffers at a member of a family of contents, known up to `R`, and its tallies. -/
def stateOf {α : Type} (R : Dev nD → α → Prop) (V : α → Dev nD → Valuation τ sig Val) (c : Dev nD) : sProp 𝕄 :=
  iprop(∃ o, ⌜R c o⌝ ∗ StableHlo.held (c.tc : Thread nD τ) (ucRefs τ sig) (V o c) ∗ ∃ W, owes (c.tc : Thread nD τ) (0 : CellTallies nD τ sig Ix) W)

set_option backward.isDefEq.respectTransparency.types false in
/-- A kernel region with one result, no table and no semaphore of its own, between such states: what it reads is known (`hA`), and
    whatever its result may end as, some member of the family of contents after it has that result and is unchanged elsewhere. -/
def relSeg {α : Type} (p : P) (hw : WinFacts (pin pcs a p).spec) (harr : ∀ w, ((pin pcs a p).spec w).arr.IsWhole)
    (hpos : ∀ w : Fin (pin pcs a p).W, 0 < ((pin pcs a p).spec w).block.numel)
    (hstage : ∀ (w : Fin (pin pcs a p).W) (s : Fin ((pin pcs a p).spec w).nbuf), (((pin pcs a p).spec w).stage s).IsWhole)
    (hK : (pcs p).pre.K = 0) (hshare : ∀ c w, (rdats p c).share w = fullShare) (howed : ∀ c t, (rdats p c).owed t = 0)
    (hrec : ∀ c t, (rdats p c).recorded t = Set.univ)
    (hbody : ∀ c, (rdats p c).BodyObligation defs₀ 𝒱₀ ι Set.univ)
    (hin : ∀ c, (scopedRest (pin pcs a p).spec c : sProp 𝕄) ⊢ (rdats p c).Φ 0)
    (hout : ∀ c, (rdats p c).Φ (Fin.last (pin pcs a p).N) ⊢ (scopedRest (pin pcs a p).spec c : sProp 𝕄))
    (R R' : Dev nD → α → Prop) (V V' : α → Dev nD → Valuation τ sig Val)
    (hA : ∀ c o, R c o → ∀ w, (rdats p c).A w = V o c (Proc.devRef .tc (arrRef (pin pcs a p).spec w)))
    (wo : Fin (pin pcs a p).W) (hwo : ∀ w, w ≠ wo → ((pin pcs a p).win w).isOut = false)
    (hstep : ∀ c o, R c o → ∀ G, (rdats p c).ArrAt wo (pin pcs a p).N G → ∃ o', R' c o'
      ∧ V' o' c (Proc.devRef .tc (arrRef (pin pcs a p).spec wo)) = G
      ∧ ∀ b : Ref sig .tc, b ≠ arrRef (pin pcs a p).spec wo → V' o' c (Proc.devRef .tc b) = V o c (Proc.devRef .tc b)) :
    RDat.RegionSeg pcs a rdats ι defs₀ 𝒱₀ L lv p where
  win := hw.to₀
  block_pos := hpos
  stage_whole := hstage
  K := PEmpty
  osem k := k.elim
  ho := OwnSemFacts.none _
  hbody := hbody
  hwaits := RDat.hwaits_of_owed_zero pcs a rdats ι L lv p howed
  pre := stateOf R V
  post := stateOf R' V'
  X _ := BI.emp
  Y _ := BI.emp
  Z c := iprop(∃ o, ⌜R c o⌝ ∗ unscopedRest (pin pcs a p).spec c fun b => V o c (Proc.devRef .tc b))
  hentry c := by
    rw [ownSems0_none, prefHeld_of_none _ hK]
    unfold stateOf
    iintro ⟨⟨%o, %ho, Hh, HO⟩, -, -⟩
    ihave Hh := (Entails.of_eq (unscopedBufs_held c (V o c)).symm) $$ Hh
    ihave H := (RDat.arrays_of_unscopedBufs pcs a rdats hw harr c (hshare c) (fun b => V o c (Proc.devRef .tc b)) (hA c o ho)) $$ Hh
    icases H with ⟨Ha, Hr⟩
    imodintro
    isplitl [Ha]; · iexact Ha
    isplitr; · iempintro
    isplitl [HO]
    · unfold RDat.owesAt owesWithin
      rw [howed c 0]
      icases HO with ⟨%W, HO⟩; iexists W; isplitr; · ipureintro; rw [show (rdats p c).bound ι 0 = _ from rfl]; exact fun _ _ => Or.inl (by rw [hrec]; trivial)
      iexact HO
    isplitr; · iempintro
    iexists o
    isplitr; · ipureintro; exact ho
    iexact Hr
  hin c := by
    rw [prefHeld_of_none _ hK]
    iintro ⟨-, -, Hr⟩
    iapply (hin c); iexact Hr
  hout c := by
    rw [ownSems0_none]
    iintro H
    isplitr; · iempintro
    isplitr; · iempintro
    iapply (hout c); iexact H
  hexit c := by
    unfold stateOf
    iintro ⟨Ha, HO, -, ⟨%o, %ho, Hr⟩⟩
    classical
    have hx := arraysAt_exit pcs a rdats hw harr c (hshare c) (pin pcs a p).N (fun b => V o c (Proc.devRef .tc b)) (hA c o ho) wo hwo
      (fun G => Function.update (fun b : Ref sig .tc => V o c (Proc.devRef .tc b)) (arrRef (pin pcs a p).spec wo) G)
      (fun G => Function.update_self ..) (fun G b hb => Function.update_of_ne hb ..)
    ihave H := hx $$ [Ha Hr]
    · isplitl [Ha] <;> iassumption
    icases H with ⟨%G, %hG, H⟩
    obtain ⟨o', h1, h2, h3⟩ := hstep c o ho G hG
    have e : Function.update (fun b : Ref sig .tc => V o c (Proc.devRef .tc b)) (arrRef (pin pcs a p).spec wo) G
        = fun b : Ref sig .tc => V' o' c (Proc.devRef .tc b) := by
      funext b
      by_cases hb : b = arrRef (pin pcs a p).spec wo
      · subst hb; rw [Function.update_self]; exact h2.symm
      · rw [Function.update_of_ne hb]; exact (h3 b hb).symm
    ihave H := (Entails.of_eq ((congrArg (unscopedBufs c) e).trans (unscopedBufs_held c (V' o' c)))) $$ H
    imodintro
    iexists o'
    isplitr; · ipureintro; exact h1
    isplitl [H]; · iexact H
    unfold RDat.owesAt owesWithin
    rw [howed c _]
    icases HO with ⟨%W, -, HO⟩; iexists W; iexact HO

end Region

section Segs

variable {Λ₀ : Labels} {P : Type} [Fintype P] [Preorder Lvl]
variable {pcs : P → PCfg sig Λ₀ Val} {defs₀ : Defs nD τ sig Val Λ₀} {𝒱₀ : Variants}
  {L : GSem nD τ sig → Finset Ix} {lv : GSem nD τ sig → Ix → Lvl}

/-- A host stretch run from a member of a family of contents, which member being known only up to `R`. -/
def exOps {α : Type} (R : Dev nD → α → Prop) (ops : List (HloOp τ sig Val)) (hS : ∀ op ∈ ops, op.bufs ⊆ ucRefs τ sig)
    (hf : ∀ op ∈ ops, op.fresh = ∅) (V : α → Dev nD → Valuation τ sig Val) :
    HostSeg (Ix := Ix) (Name := Name) (U := U) (Lvl := Lvl) pcs defs₀ 𝒱₀ L lv where
  prog := StableHlo.seq ops
  pre := stateOf R V
  post := stateOf R fun o c => StableHlo.after ops (V o c)
  run c {β} k K := by
    have h := fun o => (HostSeg.ofOps (Name := Name) (U := U) pcs defs₀ 𝒱₀ L lv (ucRefs τ sig) ops hS hf (V o)
      fun c => iprop(∃ W, owes (c.tc : Thread nD τ) (0 : CellTallies nD τ sig Ix) W)).run c k K
    dsimp only [HostSeg.ofOps] at h
    unfold stateOf
    iintro ⟨Hk, Hbd, ⟨%o, %ho, Hpre⟩, Hlv⟩
    iapply (h o)
    isplitl [Hk]
    · iintro ⟨Hbd, Hpost⟩
      iapply Hk
      isplitl [Hbd]; · iexact Hbd
      iexists o
      isplitr; · ipureintro; exact ho
      iexact Hpost
    isplitl [Hbd]; · iexact Hbd
    isplitl [Hpre]; · iexact Hpre
    iexact Hlv

end Segs

end Cert.Common

end
-- ==== Proof.KI.Body.lean ====
module

public import proofs.«01_k».proof.Proof.Gen.KernelIdeal.Skeleton
public import proofs.«01_k».proof.Proof.Gen.KernelIdeal.Launch
public import Idealize.ShloMosaic.Lib.Pipeline.Frame
public import Idealize.ShloMosaic.Lib.Tactic
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The three running vectors of the online log-sum-exp: the maximum, the scaled sum, the gathered logit. -/
abbrev Acc (F : FTy → Type) : Type := Vec F S8192 .f32 × Vec F S8192 .f32 × Vec F S8192 .f32

/-! ## The matrix product -/

/-- The product's body, from its staging buffers at `x w o`, leaves the rounded product in the result's. -/
def Runs0 (c : Dev nD) (i : grid0.Coords)
    (arg1 : Memref sig .tc .vmem S2048x1024 .f32) (harg1 : arg1.IsWhole) (arg2 : Memref sig .tc .vmem S896x1024 .bf16) (harg2 : arg2.IsWhole)
    (arg3 : Memref sig .tc .vmem S2048x896 .bf16) (harg3 : arg3.IsWhole)
    (x : Vec F S2048x1024 .f32) (w : Vec F S896x1024 .bf16) (o o' : Vec F S2048x896 .bf16) : Prop :=
  ∀ K : PUnit → sProp 𝕄,
    iprop(owns (c : Thread nD τ) arg1 fullShare x ∗ owns (c : Thread nD τ) arg2 fullShare w ∗ owns (c : Thread nD τ) arg3 fullShare o
        ∗ (iprop(owns (c : Thread nD τ) arg1 fullShare x ∗ owns (c : Thread nD τ) arg2 fullShare w ∗ owns (c : Thread nD τ) arg3 fullShare o') -∗ K ⟨⟩))
      ⊢ wp frame (wpE (defs₀ (F := F)) Variants.none c none) Set.univ (cc0__matmul_body i arg1 harg1 arg2 harg2 arg3 harg3) K

theorem run0 (c : Dev nD) (i : grid0.Coords)
    (arg1 : Memref sig .tc .vmem S2048x1024 .f32) (harg1 : arg1.IsWhole) (arg2 : Memref sig .tc .vmem S896x1024 .bf16) (harg2 : arg2.IsWhole)
    (arg3 : Memref sig .tc .vmem S2048x896 .bf16) (harg3 : arg3.IsWhole)
    (x : Vec F S2048x1024 .f32) (w : Vec F S896x1024 .bf16) (o : Vec F S2048x896 .bf16) :
    Runs0 c i arg1 harg1 arg2 harg2 arg3 harg3 x w o (k0_pay1 x w) := by
  intro K
  simp only [cc0__matmul_body_eq_skeleton]; unfold cc0__matmul_body_skel
  unfold owns
  iintro ⟨⟨%f1, %e1, H1⟩, ⟨%f2, %e2, H2⟩, ⟨%f3, %e3, H3⟩, Hk⟩
  subst e1 e2 e3
  sl_exec
  sl_step
  iapply Hk
  isplitl [H1]; · iexists _; isplitr; swap; (· iexact H1); ipureintro; rfl
  isplitl [H2]; · iexists _; isplitr; swap; (· iexact H2); ipureintro; rfl
  iexists _; isplitr; swap; (· iexact H3); ipureintro
  repeat delta run0.sl.r run0.sl.r_1
  simp -proj only [View.read_writes_full, View.readAt_full, View.readCov_full]

/-! ## Region 1 -/

/-- Whether a grid point is the first (the kernel's own test). -/
abbrev isFirst1 (i : grid1.Coords) : Prop :=
  Scalar.cmpi .ne (Scalar.extui (Scalar.cmpi .eq (BitVec.ofNat 32 (i 0).val) 0#32) : BitVec 32) 0#32 = 1#1

/-- What the first point stores into the running vectors. -/
def init1 : Acc F := (k1_pay3 (F := F), k1_pay4 (F := F), k1_pay5 (F := F))

/-- One grid point on the running vectors. -/
def step1 (i : grid1.Coords) (h : Vec F S8192x512 .bf16) (w : Vec F S512x512 .bf16) (r : Vec F S8192 .i32) (st : Acc F) : Acc F :=
  (k1_pay10 i h w st.1,
   k1_pay1 (k1_pay7 i h w) (k1_pay9 i h w st.1) st.2.1 (k1_pay11 i h w st.1),
   k1_pay8 i h w r st.2.2)

/-- The result that the last point stores. -/
def out1 (st : Acc F) : Vec F S8192 .f32 := k1_pay2 st.2.2 st.1 st.2.1

open Classical in
/-- The running vectors after a point: restarted at the first. -/
def next1 (i : grid1.Coords) (h : Vec F S8192x512 .bf16) (w : Vec F S512x512 .bf16) (r : Vec F S8192 .i32) (st : Acc F) : Acc F :=
  step1 i h w r (if isFirst1 i then init1 else st)

/-- The kernel's body, from its four staging buffers at `h w r o` and three scratch vectors at `st`, leaves the result's staging
    buffer at `o'` and the vectors at `st'`. -/
def Runs1 (c : Dev nD) (i : grid1.Coords)
    (arg1 : Memref sig .tc .vmem S8192x512 .bf16) (harg1 : arg1.IsWhole) (arg2 : Memref sig .tc .vmem S512x512 .bf16) (harg2 : arg2.IsWhole)
    (arg3 : Memref sig .tc .vmem S8192 .i32) (harg3 : arg3.IsWhole) (arg4 : Memref sig .tc .vmem S8192 .f32) (harg4 : arg4.IsWhole)
    (arg5 : Memref sig .tc .vmem S8192 .f32) (harg5 : arg5.IsWhole) (arg6 : Memref sig .tc .vmem S8192 .f32) (harg6 : arg6.IsWhole)
    (arg7 : Memref sig .tc .vmem S8192 .f32) (harg7 : arg7.IsWhole)
    (h : Vec F S8192x512 .bf16) (w : Vec F S512x512 .bf16) (r : Vec F S8192 .i32) (o : Vec F S8192 .f32) (st : Acc F) (o' : Vec F S8192 .f32) (st' : Acc F) : Prop :=
  ∀ K : PUnit → sProp 𝕄,
    iprop(owns (c : Thread nD τ) arg1 fullShare h ∗ owns (c : Thread nD τ) arg2 fullShare w ∗ owns (c : Thread nD τ) arg3 fullShare r
        ∗ owns (c : Thread nD τ) arg4 fullShare o ∗ owns (c : Thread nD τ) arg5 fullShare st.1 ∗ owns (c : Thread nD τ) arg6 fullShare st.2.1
        ∗ owns (c : Thread nD τ) arg7 fullShare st.2.2
        ∗ (iprop(owns (c : Thread nD τ) arg1 fullShare h ∗ owns (c : Thread nD τ) arg2 fullShare w ∗ owns (c : Thread nD τ) arg3 fullShare r
            ∗ owns (c : Thread nD τ) arg4 fullShare o'
            ∗ owns (c : Thread nD τ) arg5 fullShare st'.1
            ∗ owns (c : Thread nD τ) arg6 fullShare st'.2.1
            ∗ owns (c : Thread nD τ) arg7 fullShare st'.2.2) -∗ K ⟨⟩))
      ⊢ wp frame (wpE (defs₀ (F := F)) Variants.none c none) Set.univ
          (cc1__lse_body i arg1 harg1 arg2 harg2 arg3 harg3 arg4 harg4 arg5 harg5 arg6 harg6 arg7 harg7) K

/-- The first point: the running vectors restarted. -/
theorem run1_first (c : Dev nD) (i : grid1.Coords)
    (arg1 : Memref sig .tc .vmem S8192x512 .bf16) (harg1 : arg1.IsWhole) (arg2 : Memref sig .tc .vmem S512x512 .bf16) (harg2 : arg2.IsWhole)
    (arg3 : Memref sig .tc .vmem S8192 .i32) (harg3 : arg3.IsWhole) (arg4 : Memref sig .tc .vmem S8192 .f32) (harg4 : arg4.IsWhole)
    (arg5 : Memref sig .tc .vmem S8192 .f32) (harg5 : arg5.IsWhole) (arg6 : Memref sig .tc .vmem S8192 .f32) (harg6 : arg6.IsWhole)
    (arg7 : Memref sig .tc .vmem S8192 .f32) (harg7 : arg7.IsWhole)
    (h : Vec F S8192x512 .bf16) (w : Vec F S512x512 .bf16) (r : Vec F S8192 .i32) (o : Vec F S8192 .f32) (st : Acc F)
    (h0 : isFirst1 i) (h2 : ¬ k1_cond2 i = 1#1) :
    Runs1 c i arg1 harg1 arg2 harg2 arg3 harg3 arg4 harg4 arg5 harg5 arg6 harg6 arg7 harg7 h w r o st (o) (step1 i h w r init1) := by
  intro K
  obtain ⟨m, s, t⟩ := st
  simp only [cc1__lse_body_eq_skeleton]; unfold cc1__lse_body_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, Hk⟩
  dsimp only at e5 e6 e7
  subst e1 e2 e3 e4 e5 e6 e7
  sl_exec
  sl_step
  iapply Hk
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]
  · iexists _; isplitr; swap; (· iexact H4); ipureintro
    rfl
  isplitl [H5]
  · iexists _; isplitr; swap; (· iexact H5); ipureintro
    repeat delta run1_first.sl.H5_1 run1_first.sl.H6_1 run1_first.sl.H7_1 run1_first.sl.r run1_first.sl.r_1 run1_first.sl.r_2 run1_first.sl.v18 run1_first.sl.v29 run1_first.sl.v35
    simp -proj only [step1, init1, out1, View.read_writes_full, View.readAt_full, View.readCov_full]
  isplitl [H6]
  · iexists _; isplitr; swap; (· iexact H6); ipureintro
    repeat delta run1_first.sl.H5_1 run1_first.sl.H6_1 run1_first.sl.H7_1 run1_first.sl.r run1_first.sl.r_1 run1_first.sl.r_2 run1_first.sl.v18 run1_first.sl.v29 run1_first.sl.v35
    simp -proj only [step1, init1, out1, View.read_writes_full, View.readAt_full, View.readCov_full]
  iexists _; isplitr; swap; (· iexact H7); ipureintro
  repeat delta run1_first.sl.H5_1 run1_first.sl.H6_1 run1_first.sl.H7_1 run1_first.sl.r run1_first.sl.r_1 run1_first.sl.r_2 run1_first.sl.v18 run1_first.sl.v29 run1_first.sl.v35
  simp -proj only [step1, init1, out1, View.read_writes_full, View.readAt_full, View.readCov_full]

/-- A point neither first nor last. -/
theorem run1_mid (c : Dev nD) (i : grid1.Coords)
    (arg1 : Memref sig .tc .vmem S8192x512 .bf16) (harg1 : arg1.IsWhole) (arg2 : Memref sig .tc .vmem S512x512 .bf16) (harg2 : arg2.IsWhole)
    (arg3 : Memref sig .tc .vmem S8192 .i32) (harg3 : arg3.IsWhole) (arg4 : Memref sig .tc .vmem S8192 .f32) (harg4 : arg4.IsWhole)
    (arg5 : Memref sig .tc .vmem S8192 .f32) (harg5 : arg5.IsWhole) (arg6 : Memref sig .tc .vmem S8192 .f32) (harg6 : arg6.IsWhole)
    (arg7 : Memref sig .tc .vmem S8192 .f32) (harg7 : arg7.IsWhole)
    (h : Vec F S8192x512 .bf16) (w : Vec F S512x512 .bf16) (r : Vec F S8192 .i32) (o : Vec F S8192 .f32) (st : Acc F)
    (h0 : ¬ isFirst1 i) (h2 : ¬ k1_cond2 i = 1#1) :
    Runs1 c i arg1 harg1 arg2 harg2 arg3 harg3 arg4 harg4 arg5 harg5 arg6 harg6 arg7 harg7 h w r o st (o) (step1 i h w r st) := by
  intro K
  obtain ⟨m, s, t⟩ := st
  simp only [cc1__lse_body_eq_skeleton]; unfold cc1__lse_body_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, Hk⟩
  dsimp only at e5 e6 e7
  subst e1 e2 e3 e4 e5 e6 e7
  sl_exec
  sl_step
  iapply Hk
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]
  · iexists _; isplitr; swap; (· iexact H4); ipureintro
    rfl
  isplitl [H5]
  · iexists _; isplitr; swap; (· iexact H5); ipureintro
    repeat delta run1_mid.sl.r run1_mid.sl.r_1 run1_mid.sl.r_2 run1_mid.sl.r_3
    simp -proj only [step1, init1, out1, View.read_writes_full, View.readAt_full, View.readCov_full]
  isplitl [H6]
  · iexists _; isplitr; swap; (· iexact H6); ipureintro
    repeat delta run1_mid.sl.r run1_mid.sl.r_1 run1_mid.sl.r_2 run1_mid.sl.r_3
    simp -proj only [step1, init1, out1, View.read_writes_full, View.readAt_full, View.readCov_full]
  iexists _; isplitr; swap; (· iexact H7); ipureintro
  repeat delta run1_mid.sl.r run1_mid.sl.r_1 run1_mid.sl.r_2 run1_mid.sl.r_3
  simp -proj only [step1, init1, out1, View.read_writes_full, View.readAt_full, View.readCov_full]

/-- The last point: the result stored. -/
theorem run1_last (c : Dev nD) (i : grid1.Coords)
    (arg1 : Memref sig .tc .vmem S8192x512 .bf16) (harg1 : arg1.IsWhole) (arg2 : Memref sig .tc .vmem S512x512 .bf16) (harg2 : arg2.IsWhole)
    (arg3 : Memref sig .tc .vmem S8192 .i32) (harg3 : arg3.IsWhole) (arg4 : Memref sig .tc .vmem S8192 .f32) (harg4 : arg4.IsWhole)
    (arg5 : Memref sig .tc .vmem S8192 .f32) (harg5 : arg5.IsWhole) (arg6 : Memref sig .tc .vmem S8192 .f32) (harg6 : arg6.IsWhole)
    (arg7 : Memref sig .tc .vmem S8192 .f32) (harg7 : arg7.IsWhole)
    (h : Vec F S8192x512 .bf16) (w : Vec F S512x512 .bf16) (r : Vec F S8192 .i32) (o : Vec F S8192 .f32) (st : Acc F)
    (h0 : ¬ isFirst1 i) (h2 : k1_cond2 i = 1#1) :
    Runs1 c i arg1 harg1 arg2 harg2 arg3 harg3 arg4 harg4 arg5 harg5 arg6 harg6 arg7 harg7 h w r o st (out1 (step1 i h w r st)) (step1 i h w r st) := by
  intro K
  obtain ⟨m, s, t⟩ := st
  simp only [cc1__lse_body_eq_skeleton]; unfold cc1__lse_body_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, Hk⟩
  dsimp only at e5 e6 e7
  subst e1 e2 e3 e4 e5 e6 e7
  sl_exec
  sl_step
  iapply Hk
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]
  · iexists _; isplitr; swap; (· iexact H4); ipureintro
    repeat delta run1_last.sl.H5_1 run1_last.sl.H6_1 run1_last.sl.H7_1 run1_last.sl.r run1_last.sl.r_1 run1_last.sl.r_2 run1_last.sl.r_3 run1_last.sl.v51 run1_last.sl.v52 run1_last.sl.v53
    simp -proj only [step1, init1, out1, View.read_writes_full, View.readAt_full, View.readCov_full]
  isplitl [H5]
  · iexists _; isplitr; swap; (· iexact H5); ipureintro
    repeat delta run1_last.sl.H5_1 run1_last.sl.H6_1 run1_last.sl.H7_1 run1_last.sl.r run1_last.sl.r_1 run1_last.sl.r_2 run1_last.sl.r_3 run1_last.sl.v51 run1_last.sl.v52 run1_last.sl.v53
    simp -proj only [step1, init1, out1, View.read_writes_full, View.readAt_full, View.readCov_full]
  isplitl [H6]
  · iexists _; isplitr; swap; (· iexact H6); ipureintro
    repeat delta run1_last.sl.H5_1 run1_last.sl.H6_1 run1_last.sl.H7_1 run1_last.sl.r run1_last.sl.r_1 run1_last.sl.r_2 run1_last.sl.r_3 run1_last.sl.v51 run1_last.sl.v52 run1_last.sl.v53
    simp -proj only [step1, init1, out1, View.read_writes_full, View.readAt_full, View.readCov_full]
  iexists _; isplitr; swap; (· iexact H7); ipureintro
  repeat delta run1_last.sl.H5_1 run1_last.sl.H6_1 run1_last.sl.H7_1 run1_last.sl.r run1_last.sl.r_1 run1_last.sl.r_2 run1_last.sl.r_3 run1_last.sl.v51 run1_last.sl.v52 run1_last.sl.v53
  simp -proj only [step1, init1, out1, View.read_writes_full, View.readAt_full, View.readCov_full]

open Classical in
/-- Any point but one both first and last. -/
theorem run1 (c : Dev nD) (i : grid1.Coords)
    (arg1 : Memref sig .tc .vmem S8192x512 .bf16) (harg1 : arg1.IsWhole) (arg2 : Memref sig .tc .vmem S512x512 .bf16) (harg2 : arg2.IsWhole)
    (arg3 : Memref sig .tc .vmem S8192 .i32) (harg3 : arg3.IsWhole) (arg4 : Memref sig .tc .vmem S8192 .f32) (harg4 : arg4.IsWhole)
    (arg5 : Memref sig .tc .vmem S8192 .f32) (harg5 : arg5.IsWhole) (arg6 : Memref sig .tc .vmem S8192 .f32) (harg6 : arg6.IsWhole)
    (arg7 : Memref sig .tc .vmem S8192 .f32) (harg7 : arg7.IsWhole)
    (h : Vec F S8192x512 .bf16) (w : Vec F S512x512 .bf16) (r : Vec F S8192 .i32) (o : Vec F S8192 .f32) (st : Acc F)
    (hfl : ¬ (isFirst1 i ∧ k1_cond2 i = 1#1)) :
    Runs1 c i arg1 harg1 arg2 harg2 arg3 harg3 arg4 harg4 arg5 harg5 arg6 harg6 arg7 harg7 h w r o st (if k1_cond2 i = 1#1 then out1 (next1 i h w r st) else o) (next1 i h w r st) := by
  unfold next1
  by_cases h0 : isFirst1 i <;> by_cases h2 : k1_cond2 i = 1#1
  · exact absurd ⟨h0, h2⟩ hfl
  · rw [if_pos h0, if_neg h2]; exact run1_first c i arg1 harg1 arg2 harg2 arg3 harg3 arg4 harg4 arg5 harg5 arg6 harg6 arg7 harg7 h w r o st h0 h2
  · rw [if_neg h0, if_pos h2]; exact run1_last c i arg1 harg1 arg2 harg2 arg3 harg3 arg4 harg4 arg5 harg5 arg6 harg6 arg7 harg7 h w r o st h0 h2
  · rw [if_neg h0, if_neg h2]; exact run1_mid c i arg1 harg1 arg2 harg2 arg3 harg3 arg4 harg4 arg5 harg5 arg6 harg6 arg7 harg7 h w r o st h0 h2

/-! ## Region 2 -/

/-- Whether a grid point is the first (the kernel's own test). -/
abbrev isFirst2 (i : grid2.Coords) : Prop :=
  Scalar.cmpi .ne (Scalar.extui (Scalar.cmpi .eq (BitVec.ofNat 32 (i 0).val) 0#32) : BitVec 32) 0#32 = 1#1

/-- What the first point stores into the running vectors. -/
def init2 : Acc F := (k2_pay3 (F := F), k2_pay4 (F := F), k2_pay5 (F := F))

/-- One grid point on the running vectors. -/
def step2 (i : grid2.Coords) (h : Vec F S8192x256 .bf16) (w : Vec F S512x256 .bf16) (r : Vec F S8192 .i32) (st : Acc F) : Acc F :=
  (k2_pay10 i h w st.1,
   k2_pay1 (k2_pay7 i h w) (k2_pay9 i h w st.1) st.2.1 (k2_pay11 i h w st.1),
   k2_pay8 i h w r st.2.2)

/-- The result that the last point stores. -/
def out2 (st : Acc F) : Vec F S8192 .f32 := k2_pay2 st.2.2 st.1 st.2.1

open Classical in
/-- The running vectors after a point: restarted at the first. -/
def next2 (i : grid2.Coords) (h : Vec F S8192x256 .bf16) (w : Vec F S512x256 .bf16) (r : Vec F S8192 .i32) (st : Acc F) : Acc F :=
  step2 i h w r (if isFirst2 i then init2 else st)

/-- The kernel's body, from its four staging buffers at `h w r o` and three scratch vectors at `st`, leaves the result's staging
    buffer at `o'` and the vectors at `st'`. -/
def Runs2 (c : Dev nD) (i : grid2.Coords)
    (arg1 : Memref sig .tc .vmem S8192x256 .bf16) (harg1 : arg1.IsWhole) (arg2 : Memref sig .tc .vmem S512x256 .bf16) (harg2 : arg2.IsWhole)
    (arg3 : Memref sig .tc .vmem S8192 .i32) (harg3 : arg3.IsWhole) (arg4 : Memref sig .tc .vmem S8192 .f32) (harg4 : arg4.IsWhole)
    (arg5 : Memref sig .tc .vmem S8192 .f32) (harg5 : arg5.IsWhole) (arg6 : Memref sig .tc .vmem S8192 .f32) (harg6 : arg6.IsWhole)
    (arg7 : Memref sig .tc .vmem S8192 .f32) (harg7 : arg7.IsWhole)
    (h : Vec F S8192x256 .bf16) (w : Vec F S512x256 .bf16) (r : Vec F S8192 .i32) (o : Vec F S8192 .f32) (st : Acc F) (o' : Vec F S8192 .f32) (st' : Acc F) : Prop :=
  ∀ K : PUnit → sProp 𝕄,
    iprop(owns (c : Thread nD τ) arg1 fullShare h ∗ owns (c : Thread nD τ) arg2 fullShare w ∗ owns (c : Thread nD τ) arg3 fullShare r
        ∗ owns (c : Thread nD τ) arg4 fullShare o ∗ owns (c : Thread nD τ) arg5 fullShare st.1 ∗ owns (c : Thread nD τ) arg6 fullShare st.2.1
        ∗ owns (c : Thread nD τ) arg7 fullShare st.2.2
        ∗ (iprop(owns (c : Thread nD τ) arg1 fullShare h ∗ owns (c : Thread nD τ) arg2 fullShare w ∗ owns (c : Thread nD τ) arg3 fullShare r
            ∗ owns (c : Thread nD τ) arg4 fullShare o'
            ∗ owns (c : Thread nD τ) arg5 fullShare st'.1
            ∗ owns (c : Thread nD τ) arg6 fullShare st'.2.1
            ∗ owns (c : Thread nD τ) arg7 fullShare st'.2.2) -∗ K ⟨⟩))
      ⊢ wp frame (wpE (defs₀ (F := F)) Variants.none c none) Set.univ
          (cc2__lse_body i arg1 harg1 arg2 harg2 arg3 harg3 arg4 harg4 arg5 harg5 arg6 harg6 arg7 harg7) K

/-- The first point: the running vectors restarted. -/
theorem run2_first (c : Dev nD) (i : grid2.Coords)
    (arg1 : Memref sig .tc .vmem S8192x256 .bf16) (harg1 : arg1.IsWhole) (arg2 : Memref sig .tc .vmem S512x256 .bf16) (harg2 : arg2.IsWhole)
    (arg3 : Memref sig .tc .vmem S8192 .i32) (harg3 : arg3.IsWhole) (arg4 : Memref sig .tc .vmem S8192 .f32) (harg4 : arg4.IsWhole)
    (arg5 : Memref sig .tc .vmem S8192 .f32) (harg5 : arg5.IsWhole) (arg6 : Memref sig .tc .vmem S8192 .f32) (harg6 : arg6.IsWhole)
    (arg7 : Memref sig .tc .vmem S8192 .f32) (harg7 : arg7.IsWhole)
    (h : Vec F S8192x256 .bf16) (w : Vec F S512x256 .bf16) (r : Vec F S8192 .i32) (o : Vec F S8192 .f32) (st : Acc F)
    (h0 : isFirst2 i) (h2 : ¬ k2_cond2 i = 1#1) :
    Runs2 c i arg1 harg1 arg2 harg2 arg3 harg3 arg4 harg4 arg5 harg5 arg6 harg6 arg7 harg7 h w r o st (o) (step2 i h w r init2) := by
  intro K
  obtain ⟨m, s, t⟩ := st
  simp only [cc2__lse_body_eq_skeleton]; unfold cc2__lse_body_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, Hk⟩
  dsimp only at e5 e6 e7
  subst e1 e2 e3 e4 e5 e6 e7
  sl_exec
  sl_step
  iapply Hk
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]
  · iexists _; isplitr; swap; (· iexact H4); ipureintro
    rfl
  isplitl [H5]
  · iexists _; isplitr; swap; (· iexact H5); ipureintro
    repeat delta run2_first.sl.H5_1 run2_first.sl.H6_1 run2_first.sl.H7_1 run2_first.sl.r run2_first.sl.r_1 run2_first.sl.r_2 run2_first.sl.v18 run2_first.sl.v29 run2_first.sl.v35
    simp -proj only [step2, init2, out2, View.read_writes_full, View.readAt_full, View.readCov_full]
  isplitl [H6]
  · iexists _; isplitr; swap; (· iexact H6); ipureintro
    repeat delta run2_first.sl.H5_1 run2_first.sl.H6_1 run2_first.sl.H7_1 run2_first.sl.r run2_first.sl.r_1 run2_first.sl.r_2 run2_first.sl.v18 run2_first.sl.v29 run2_first.sl.v35
    simp -proj only [step2, init2, out2, View.read_writes_full, View.readAt_full, View.readCov_full]
  iexists _; isplitr; swap; (· iexact H7); ipureintro
  repeat delta run2_first.sl.H5_1 run2_first.sl.H6_1 run2_first.sl.H7_1 run2_first.sl.r run2_first.sl.r_1 run2_first.sl.r_2 run2_first.sl.v18 run2_first.sl.v29 run2_first.sl.v35
  simp -proj only [step2, init2, out2, View.read_writes_full, View.readAt_full, View.readCov_full]

/-- A point neither first nor last. -/
theorem run2_mid (c : Dev nD) (i : grid2.Coords)
    (arg1 : Memref sig .tc .vmem S8192x256 .bf16) (harg1 : arg1.IsWhole) (arg2 : Memref sig .tc .vmem S512x256 .bf16) (harg2 : arg2.IsWhole)
    (arg3 : Memref sig .tc .vmem S8192 .i32) (harg3 : arg3.IsWhole) (arg4 : Memref sig .tc .vmem S8192 .f32) (harg4 : arg4.IsWhole)
    (arg5 : Memref sig .tc .vmem S8192 .f32) (harg5 : arg5.IsWhole) (arg6 : Memref sig .tc .vmem S8192 .f32) (harg6 : arg6.IsWhole)
    (arg7 : Memref sig .tc .vmem S8192 .f32) (harg7 : arg7.IsWhole)
    (h : Vec F S8192x256 .bf16) (w : Vec F S512x256 .bf16) (r : Vec F S8192 .i32) (o : Vec F S8192 .f32) (st : Acc F)
    (h0 : ¬ isFirst2 i) (h2 : ¬ k2_cond2 i = 1#1) :
    Runs2 c i arg1 harg1 arg2 harg2 arg3 harg3 arg4 harg4 arg5 harg5 arg6 harg6 arg7 harg7 h w r o st (o) (step2 i h w r st) := by
  intro K
  obtain ⟨m, s, t⟩ := st
  simp only [cc2__lse_body_eq_skeleton]; unfold cc2__lse_body_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, Hk⟩
  dsimp only at e5 e6 e7
  subst e1 e2 e3 e4 e5 e6 e7
  sl_exec
  sl_step
  iapply Hk
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]
  · iexists _; isplitr; swap; (· iexact H4); ipureintro
    rfl
  isplitl [H5]
  · iexists _; isplitr; swap; (· iexact H5); ipureintro
    repeat delta run2_mid.sl.r run2_mid.sl.r_1 run2_mid.sl.r_2 run2_mid.sl.r_3
    simp -proj only [step2, init2, out2, View.read_writes_full, View.readAt_full, View.readCov_full]
  isplitl [H6]
  · iexists _; isplitr; swap; (· iexact H6); ipureintro
    repeat delta run2_mid.sl.r run2_mid.sl.r_1 run2_mid.sl.r_2 run2_mid.sl.r_3
    simp -proj only [step2, init2, out2, View.read_writes_full, View.readAt_full, View.readCov_full]
  iexists _; isplitr; swap; (· iexact H7); ipureintro
  repeat delta run2_mid.sl.r run2_mid.sl.r_1 run2_mid.sl.r_2 run2_mid.sl.r_3
  simp -proj only [step2, init2, out2, View.read_writes_full, View.readAt_full, View.readCov_full]

/-- The last point: the result stored. -/
theorem run2_last (c : Dev nD) (i : grid2.Coords)
    (arg1 : Memref sig .tc .vmem S8192x256 .bf16) (harg1 : arg1.IsWhole) (arg2 : Memref sig .tc .vmem S512x256 .bf16) (harg2 : arg2.IsWhole)
    (arg3 : Memref sig .tc .vmem S8192 .i32) (harg3 : arg3.IsWhole) (arg4 : Memref sig .tc .vmem S8192 .f32) (harg4 : arg4.IsWhole)
    (arg5 : Memref sig .tc .vmem S8192 .f32) (harg5 : arg5.IsWhole) (arg6 : Memref sig .tc .vmem S8192 .f32) (harg6 : arg6.IsWhole)
    (arg7 : Memref sig .tc .vmem S8192 .f32) (harg7 : arg7.IsWhole)
    (h : Vec F S8192x256 .bf16) (w : Vec F S512x256 .bf16) (r : Vec F S8192 .i32) (o : Vec F S8192 .f32) (st : Acc F)
    (h0 : ¬ isFirst2 i) (h2 : k2_cond2 i = 1#1) :
    Runs2 c i arg1 harg1 arg2 harg2 arg3 harg3 arg4 harg4 arg5 harg5 arg6 harg6 arg7 harg7 h w r o st (out2 (step2 i h w r st)) (step2 i h w r st) := by
  intro K
  obtain ⟨m, s, t⟩ := st
  simp only [cc2__lse_body_eq_skeleton]; unfold cc2__lse_body_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, Hk⟩
  dsimp only at e5 e6 e7
  subst e1 e2 e3 e4 e5 e6 e7
  sl_exec
  sl_step
  iapply Hk
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]
  · iexists _; isplitr; swap; (· iexact H4); ipureintro
    repeat delta run2_last.sl.H5_1 run2_last.sl.H6_1 run2_last.sl.H7_1 run2_last.sl.r run2_last.sl.r_1 run2_last.sl.r_2 run2_last.sl.r_3 run2_last.sl.v51 run2_last.sl.v52 run2_last.sl.v53
    simp -proj only [step2, init2, out2, View.read_writes_full, View.readAt_full, View.readCov_full]
  isplitl [H5]
  · iexists _; isplitr; swap; (· iexact H5); ipureintro
    repeat delta run2_last.sl.H5_1 run2_last.sl.H6_1 run2_last.sl.H7_1 run2_last.sl.r run2_last.sl.r_1 run2_last.sl.r_2 run2_last.sl.r_3 run2_last.sl.v51 run2_last.sl.v52 run2_last.sl.v53
    simp -proj only [step2, init2, out2, View.read_writes_full, View.readAt_full, View.readCov_full]
  isplitl [H6]
  · iexists _; isplitr; swap; (· iexact H6); ipureintro
    repeat delta run2_last.sl.H5_1 run2_last.sl.H6_1 run2_last.sl.H7_1 run2_last.sl.r run2_last.sl.r_1 run2_last.sl.r_2 run2_last.sl.r_3 run2_last.sl.v51 run2_last.sl.v52 run2_last.sl.v53
    simp -proj only [step2, init2, out2, View.read_writes_full, View.readAt_full, View.readCov_full]
  iexists _; isplitr; swap; (· iexact H7); ipureintro
  repeat delta run2_last.sl.H5_1 run2_last.sl.H6_1 run2_last.sl.H7_1 run2_last.sl.r run2_last.sl.r_1 run2_last.sl.r_2 run2_last.sl.r_3 run2_last.sl.v51 run2_last.sl.v52 run2_last.sl.v53
  simp -proj only [step2, init2, out2, View.read_writes_full, View.readAt_full, View.readCov_full]

open Classical in
/-- Any point but one both first and last. -/
theorem run2 (c : Dev nD) (i : grid2.Coords)
    (arg1 : Memref sig .tc .vmem S8192x256 .bf16) (harg1 : arg1.IsWhole) (arg2 : Memref sig .tc .vmem S512x256 .bf16) (harg2 : arg2.IsWhole)
    (arg3 : Memref sig .tc .vmem S8192 .i32) (harg3 : arg3.IsWhole) (arg4 : Memref sig .tc .vmem S8192 .f32) (harg4 : arg4.IsWhole)
    (arg5 : Memref sig .tc .vmem S8192 .f32) (harg5 : arg5.IsWhole) (arg6 : Memref sig .tc .vmem S8192 .f32) (harg6 : arg6.IsWhole)
    (arg7 : Memref sig .tc .vmem S8192 .f32) (harg7 : arg7.IsWhole)
    (h : Vec F S8192x256 .bf16) (w : Vec F S512x256 .bf16) (r : Vec F S8192 .i32) (o : Vec F S8192 .f32) (st : Acc F)
    (hfl : ¬ (isFirst2 i ∧ k2_cond2 i = 1#1)) :
    Runs2 c i arg1 harg1 arg2 harg2 arg3 harg3 arg4 harg4 arg5 harg5 arg6 harg6 arg7 harg7 h w r o st (if k2_cond2 i = 1#1 then out2 (next2 i h w r st) else o) (next2 i h w r st) := by
  unfold next2
  by_cases h0 : isFirst2 i <;> by_cases h2 : k2_cond2 i = 1#1
  · exact absurd ⟨h0, h2⟩ hfl
  · rw [if_pos h0, if_neg h2]; exact run2_first c i arg1 harg1 arg2 harg2 arg3 harg3 arg4 harg4 arg5 harg5 arg6 harg6 arg7 harg7 h w r o st h0 h2
  · rw [if_neg h0, if_pos h2]; exact run2_last c i arg1 harg1 arg2 harg2 arg3 harg3 arg4 harg4 arg5 harg5 arg6 harg6 arg7 harg7 h w r o st h0 h2
  · rw [if_neg h0, if_neg h2]; exact run2_mid c i arg1 harg1 arg2 harg2 arg3 harg3 arg4 harg4 arg5 harg5 arg6 harg6 arg7 harg7 h w r o st h0 h2

/-! ## Region 3 -/

/-- Whether a grid point is the first (the kernel's own test). -/
abbrev isFirst3 (i : grid3.Coords) : Prop :=
  Scalar.cmpi .ne (Scalar.extui (Scalar.cmpi .eq (BitVec.ofNat 32 (i 0).val) 0#32) : BitVec 32) 0#32 = 1#1

/-- What the first point stores into the running vectors. -/
def init3 : Acc F := (k3_pay3 (F := F), k3_pay4 (F := F), k3_pay5 (F := F))

/-- One grid point on the running vectors. -/
def step3 (i : grid3.Coords) (h : Vec F S8192x128 .bf16) (w : Vec F S512x128 .bf16) (r : Vec F S8192 .i32) (st : Acc F) : Acc F :=
  (k3_pay10 i h w st.1,
   k3_pay1 (k3_pay7 i h w) (k3_pay9 i h w st.1) st.2.1 (k3_pay11 i h w st.1),
   k3_pay8 i h w r st.2.2)

/-- The result that the last point stores. -/
def out3 (st : Acc F) : Vec F S8192 .f32 := k3_pay2 st.2.2 st.1 st.2.1

open Classical in
/-- The running vectors after a point: restarted at the first. -/
def next3 (i : grid3.Coords) (h : Vec F S8192x128 .bf16) (w : Vec F S512x128 .bf16) (r : Vec F S8192 .i32) (st : Acc F) : Acc F :=
  step3 i h w r (if isFirst3 i then init3 else st)

/-- The kernel's body, from its four staging buffers at `h w r o` and three scratch vectors at `st`, leaves the result's staging
    buffer at `o'` and the vectors at `st'`. -/
def Runs3 (c : Dev nD) (i : grid3.Coords)
    (arg1 : Memref sig .tc .vmem S8192x128 .bf16) (harg1 : arg1.IsWhole) (arg2 : Memref sig .tc .vmem S512x128 .bf16) (harg2 : arg2.IsWhole)
    (arg3 : Memref sig .tc .vmem S8192 .i32) (harg3 : arg3.IsWhole) (arg4 : Memref sig .tc .vmem S8192 .f32) (harg4 : arg4.IsWhole)
    (arg5 : Memref sig .tc .vmem S8192 .f32) (harg5 : arg5.IsWhole) (arg6 : Memref sig .tc .vmem S8192 .f32) (harg6 : arg6.IsWhole)
    (arg7 : Memref sig .tc .vmem S8192 .f32) (harg7 : arg7.IsWhole)
    (h : Vec F S8192x128 .bf16) (w : Vec F S512x128 .bf16) (r : Vec F S8192 .i32) (o : Vec F S8192 .f32) (st : Acc F) (o' : Vec F S8192 .f32) (st' : Acc F) : Prop :=
  ∀ K : PUnit → sProp 𝕄,
    iprop(owns (c : Thread nD τ) arg1 fullShare h ∗ owns (c : Thread nD τ) arg2 fullShare w ∗ owns (c : Thread nD τ) arg3 fullShare r
        ∗ owns (c : Thread nD τ) arg4 fullShare o ∗ owns (c : Thread nD τ) arg5 fullShare st.1 ∗ owns (c : Thread nD τ) arg6 fullShare st.2.1
        ∗ owns (c : Thread nD τ) arg7 fullShare st.2.2
        ∗ (iprop(owns (c : Thread nD τ) arg1 fullShare h ∗ owns (c : Thread nD τ) arg2 fullShare w ∗ owns (c : Thread nD τ) arg3 fullShare r
            ∗ owns (c : Thread nD τ) arg4 fullShare o'
            ∗ owns (c : Thread nD τ) arg5 fullShare st'.1
            ∗ owns (c : Thread nD τ) arg6 fullShare st'.2.1
            ∗ owns (c : Thread nD τ) arg7 fullShare st'.2.2) -∗ K ⟨⟩))
      ⊢ wp frame (wpE (defs₀ (F := F)) Variants.none c none) Set.univ
          (cc3__lse_body i arg1 harg1 arg2 harg2 arg3 harg3 arg4 harg4 arg5 harg5 arg6 harg6 arg7 harg7) K

/-- The first point: the running vectors restarted. -/
theorem run3_first (c : Dev nD) (i : grid3.Coords)
    (arg1 : Memref sig .tc .vmem S8192x128 .bf16) (harg1 : arg1.IsWhole) (arg2 : Memref sig .tc .vmem S512x128 .bf16) (harg2 : arg2.IsWhole)
    (arg3 : Memref sig .tc .vmem S8192 .i32) (harg3 : arg3.IsWhole) (arg4 : Memref sig .tc .vmem S8192 .f32) (harg4 : arg4.IsWhole)
    (arg5 : Memref sig .tc .vmem S8192 .f32) (harg5 : arg5.IsWhole) (arg6 : Memref sig .tc .vmem S8192 .f32) (harg6 : arg6.IsWhole)
    (arg7 : Memref sig .tc .vmem S8192 .f32) (harg7 : arg7.IsWhole)
    (h : Vec F S8192x128 .bf16) (w : Vec F S512x128 .bf16) (r : Vec F S8192 .i32) (o : Vec F S8192 .f32) (st : Acc F)
    (h0 : isFirst3 i) (h2 : ¬ k3_cond2 i = 1#1) :
    Runs3 c i arg1 harg1 arg2 harg2 arg3 harg3 arg4 harg4 arg5 harg5 arg6 harg6 arg7 harg7 h w r o st (o) (step3 i h w r init3) := by
  intro K
  obtain ⟨m, s, t⟩ := st
  simp only [cc3__lse_body_eq_skeleton]; unfold cc3__lse_body_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, Hk⟩
  dsimp only at e5 e6 e7
  subst e1 e2 e3 e4 e5 e6 e7
  sl_exec
  sl_step
  iapply Hk
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]
  · iexists _; isplitr; swap; (· iexact H4); ipureintro
    rfl
  isplitl [H5]
  · iexists _; isplitr; swap; (· iexact H5); ipureintro
    repeat delta run3_first.sl.H5_1 run3_first.sl.H6_1 run3_first.sl.H7_1 run3_first.sl.r run3_first.sl.r_1 run3_first.sl.r_2 run3_first.sl.v18 run3_first.sl.v29 run3_first.sl.v35
    simp -proj only [step3, init3, out3, View.read_writes_full, View.readAt_full, View.readCov_full]
  isplitl [H6]
  · iexists _; isplitr; swap; (· iexact H6); ipureintro
    repeat delta run3_first.sl.H5_1 run3_first.sl.H6_1 run3_first.sl.H7_1 run3_first.sl.r run3_first.sl.r_1 run3_first.sl.r_2 run3_first.sl.v18 run3_first.sl.v29 run3_first.sl.v35
    simp -proj only [step3, init3, out3, View.read_writes_full, View.readAt_full, View.readCov_full]
  iexists _; isplitr; swap; (· iexact H7); ipureintro
  repeat delta run3_first.sl.H5_1 run3_first.sl.H6_1 run3_first.sl.H7_1 run3_first.sl.r run3_first.sl.r_1 run3_first.sl.r_2 run3_first.sl.v18 run3_first.sl.v29 run3_first.sl.v35
  simp -proj only [step3, init3, out3, View.read_writes_full, View.readAt_full, View.readCov_full]

/-- A point neither first nor last. -/
theorem run3_mid (c : Dev nD) (i : grid3.Coords)
    (arg1 : Memref sig .tc .vmem S8192x128 .bf16) (harg1 : arg1.IsWhole) (arg2 : Memref sig .tc .vmem S512x128 .bf16) (harg2 : arg2.IsWhole)
    (arg3 : Memref sig .tc .vmem S8192 .i32) (harg3 : arg3.IsWhole) (arg4 : Memref sig .tc .vmem S8192 .f32) (harg4 : arg4.IsWhole)
    (arg5 : Memref sig .tc .vmem S8192 .f32) (harg5 : arg5.IsWhole) (arg6 : Memref sig .tc .vmem S8192 .f32) (harg6 : arg6.IsWhole)
    (arg7 : Memref sig .tc .vmem S8192 .f32) (harg7 : arg7.IsWhole)
    (h : Vec F S8192x128 .bf16) (w : Vec F S512x128 .bf16) (r : Vec F S8192 .i32) (o : Vec F S8192 .f32) (st : Acc F)
    (h0 : ¬ isFirst3 i) (h2 : ¬ k3_cond2 i = 1#1) :
    Runs3 c i arg1 harg1 arg2 harg2 arg3 harg3 arg4 harg4 arg5 harg5 arg6 harg6 arg7 harg7 h w r o st (o) (step3 i h w r st) := by
  intro K
  obtain ⟨m, s, t⟩ := st
  simp only [cc3__lse_body_eq_skeleton]; unfold cc3__lse_body_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, Hk⟩
  dsimp only at e5 e6 e7
  subst e1 e2 e3 e4 e5 e6 e7
  sl_exec
  sl_step
  iapply Hk
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]
  · iexists _; isplitr; swap; (· iexact H4); ipureintro
    rfl
  isplitl [H5]
  · iexists _; isplitr; swap; (· iexact H5); ipureintro
    repeat delta run3_mid.sl.r run3_mid.sl.r_1 run3_mid.sl.r_2 run3_mid.sl.r_3
    simp -proj only [step3, init3, out3, View.read_writes_full, View.readAt_full, View.readCov_full]
  isplitl [H6]
  · iexists _; isplitr; swap; (· iexact H6); ipureintro
    repeat delta run3_mid.sl.r run3_mid.sl.r_1 run3_mid.sl.r_2 run3_mid.sl.r_3
    simp -proj only [step3, init3, out3, View.read_writes_full, View.readAt_full, View.readCov_full]
  iexists _; isplitr; swap; (· iexact H7); ipureintro
  repeat delta run3_mid.sl.r run3_mid.sl.r_1 run3_mid.sl.r_2 run3_mid.sl.r_3
  simp -proj only [step3, init3, out3, View.read_writes_full, View.readAt_full, View.readCov_full]

/-- The last point: the result stored. -/
theorem run3_last (c : Dev nD) (i : grid3.Coords)
    (arg1 : Memref sig .tc .vmem S8192x128 .bf16) (harg1 : arg1.IsWhole) (arg2 : Memref sig .tc .vmem S512x128 .bf16) (harg2 : arg2.IsWhole)
    (arg3 : Memref sig .tc .vmem S8192 .i32) (harg3 : arg3.IsWhole) (arg4 : Memref sig .tc .vmem S8192 .f32) (harg4 : arg4.IsWhole)
    (arg5 : Memref sig .tc .vmem S8192 .f32) (harg5 : arg5.IsWhole) (arg6 : Memref sig .tc .vmem S8192 .f32) (harg6 : arg6.IsWhole)
    (arg7 : Memref sig .tc .vmem S8192 .f32) (harg7 : arg7.IsWhole)
    (h : Vec F S8192x128 .bf16) (w : Vec F S512x128 .bf16) (r : Vec F S8192 .i32) (o : Vec F S8192 .f32) (st : Acc F)
    (h0 : ¬ isFirst3 i) (h2 : k3_cond2 i = 1#1) :
    Runs3 c i arg1 harg1 arg2 harg2 arg3 harg3 arg4 harg4 arg5 harg5 arg6 harg6 arg7 harg7 h w r o st (out3 (step3 i h w r st)) (step3 i h w r st) := by
  intro K
  obtain ⟨m, s, t⟩ := st
  simp only [cc3__lse_body_eq_skeleton]; unfold cc3__lse_body_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, Hk⟩
  dsimp only at e5 e6 e7
  subst e1 e2 e3 e4 e5 e6 e7
  sl_exec
  sl_step
  iapply Hk
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]
  · iexists _; isplitr; swap; (· iexact H4); ipureintro
    repeat delta run3_last.sl.H5_1 run3_last.sl.H6_1 run3_last.sl.H7_1 run3_last.sl.r run3_last.sl.r_1 run3_last.sl.r_2 run3_last.sl.r_3 run3_last.sl.v51 run3_last.sl.v52 run3_last.sl.v53
    simp -proj only [step3, init3, out3, View.read_writes_full, View.readAt_full, View.readCov_full]
  isplitl [H5]
  · iexists _; isplitr; swap; (· iexact H5); ipureintro
    repeat delta run3_last.sl.H5_1 run3_last.sl.H6_1 run3_last.sl.H7_1 run3_last.sl.r run3_last.sl.r_1 run3_last.sl.r_2 run3_last.sl.r_3 run3_last.sl.v51 run3_last.sl.v52 run3_last.sl.v53
    simp -proj only [step3, init3, out3, View.read_writes_full, View.readAt_full, View.readCov_full]
  isplitl [H6]
  · iexists _; isplitr; swap; (· iexact H6); ipureintro
    repeat delta run3_last.sl.H5_1 run3_last.sl.H6_1 run3_last.sl.H7_1 run3_last.sl.r run3_last.sl.r_1 run3_last.sl.r_2 run3_last.sl.r_3 run3_last.sl.v51 run3_last.sl.v52 run3_last.sl.v53
    simp -proj only [step3, init3, out3, View.read_writes_full, View.readAt_full, View.readCov_full]
  iexists _; isplitr; swap; (· iexact H7); ipureintro
  repeat delta run3_last.sl.H5_1 run3_last.sl.H6_1 run3_last.sl.H7_1 run3_last.sl.r run3_last.sl.r_1 run3_last.sl.r_2 run3_last.sl.r_3 run3_last.sl.v51 run3_last.sl.v52 run3_last.sl.v53
  simp -proj only [step3, init3, out3, View.read_writes_full, View.readAt_full, View.readCov_full]

open Classical in
/-- Any point but one both first and last. -/
theorem run3 (c : Dev nD) (i : grid3.Coords)
    (arg1 : Memref sig .tc .vmem S8192x128 .bf16) (harg1 : arg1.IsWhole) (arg2 : Memref sig .tc .vmem S512x128 .bf16) (harg2 : arg2.IsWhole)
    (arg3 : Memref sig .tc .vmem S8192 .i32) (harg3 : arg3.IsWhole) (arg4 : Memref sig .tc .vmem S8192 .f32) (harg4 : arg4.IsWhole)
    (arg5 : Memref sig .tc .vmem S8192 .f32) (harg5 : arg5.IsWhole) (arg6 : Memref sig .tc .vmem S8192 .f32) (harg6 : arg6.IsWhole)
    (arg7 : Memref sig .tc .vmem S8192 .f32) (harg7 : arg7.IsWhole)
    (h : Vec F S8192x128 .bf16) (w : Vec F S512x128 .bf16) (r : Vec F S8192 .i32) (o : Vec F S8192 .f32) (st : Acc F)
    (hfl : ¬ (isFirst3 i ∧ k3_cond2 i = 1#1)) :
    Runs3 c i arg1 harg1 arg2 harg2 arg3 harg3 arg4 harg4 arg5 harg5 arg6 harg6 arg7 harg7 h w r o st (if k3_cond2 i = 1#1 then out3 (next3 i h w r st) else o) (next3 i h w r st) := by
  unfold next3
  by_cases h0 : isFirst3 i <;> by_cases h2 : k3_cond2 i = 1#1
  · exact absurd ⟨h0, h2⟩ hfl
  · rw [if_pos h0, if_neg h2]; exact run3_first c i arg1 harg1 arg2 harg2 arg3 harg3 arg4 harg4 arg5 harg5 arg6 harg6 arg7 harg7 h w r o st h0 h2
  · rw [if_neg h0, if_pos h2]; exact run3_last c i arg1 harg1 arg2 harg2 arg3 harg3 arg4 harg4 arg5 harg5 arg6 harg6 arg7 harg7 h w r o st h0 h2
  · rw [if_neg h0, if_neg h2]; exact run3_mid c i arg1 harg1 arg2 harg2 arg3 harg3 arg4 harg4 arg5 harg5 arg6 harg6 arg7 harg7 h w r o st h0 h2

/-! ## Region 4 -/

/-- Whether a grid point is the first (the kernel's own test). -/
abbrev isFirst4 (i : grid4.Coords) : Prop :=
  Scalar.cmpi .ne (Scalar.extui (Scalar.cmpi .eq (BitVec.ofNat 32 (i 0).val) 0#32) : BitVec 32) 0#32 = 1#1

/-- What the first point stores into the running vectors. -/
def init4 : Acc F := (k4_pay3 (F := F), k4_pay4 (F := F), k4_pay5 (F := F))

/-- One grid point on the running vectors. -/
def step4 (i : grid4.Coords) (h : Vec F S8192x1024 .bf16) (w : Vec F S512x1024 .f32) (r : Vec F S8192 .i32) (st : Acc F) : Acc F :=
  (k4_pay10 i h w st.1,
   k4_pay1 (k4_pay7 i h w) (k4_pay9 i h w st.1) st.2.1 (k4_pay11 i h w st.1),
   k4_pay8 i h w r st.2.2)

/-- The result that the last point stores. -/
def out4 (st : Acc F) : Vec F S8192 .f32 := k4_pay2 st.2.2 st.1 st.2.1

open Classical in
/-- The running vectors after a point: restarted at the first. -/
def next4 (i : grid4.Coords) (h : Vec F S8192x1024 .bf16) (w : Vec F S512x1024 .f32) (r : Vec F S8192 .i32) (st : Acc F) : Acc F :=
  step4 i h w r (if isFirst4 i then init4 else st)

/-- The kernel's body, from its four staging buffers at `h w r o` and three scratch vectors at `st`, leaves the result's staging
    buffer at `o'` and the vectors at `st'`. -/
def Runs4 (c : Dev nD) (i : grid4.Coords)
    (arg1 : Memref sig .tc .vmem S8192x1024 .bf16) (harg1 : arg1.IsWhole) (arg2 : Memref sig .tc .vmem S512x1024 .f32) (harg2 : arg2.IsWhole)
    (arg3 : Memref sig .tc .vmem S8192 .i32) (harg3 : arg3.IsWhole) (arg4 : Memref sig .tc .vmem S8192 .f32) (harg4 : arg4.IsWhole)
    (arg5 : Memref sig .tc .vmem S8192 .f32) (harg5 : arg5.IsWhole) (arg6 : Memref sig .tc .vmem S8192 .f32) (harg6 : arg6.IsWhole)
    (arg7 : Memref sig .tc .vmem S8192 .f32) (harg7 : arg7.IsWhole)
    (h : Vec F S8192x1024 .bf16) (w : Vec F S512x1024 .f32) (r : Vec F S8192 .i32) (o : Vec F S8192 .f32) (st : Acc F) (o' : Vec F S8192 .f32) (st' : Acc F) : Prop :=
  ∀ K : PUnit → sProp 𝕄,
    iprop(owns (c : Thread nD τ) arg1 fullShare h ∗ owns (c : Thread nD τ) arg2 fullShare w ∗ owns (c : Thread nD τ) arg3 fullShare r
        ∗ owns (c : Thread nD τ) arg4 fullShare o ∗ owns (c : Thread nD τ) arg5 fullShare st.1 ∗ owns (c : Thread nD τ) arg6 fullShare st.2.1
        ∗ owns (c : Thread nD τ) arg7 fullShare st.2.2
        ∗ (iprop(owns (c : Thread nD τ) arg1 fullShare h ∗ owns (c : Thread nD τ) arg2 fullShare w ∗ owns (c : Thread nD τ) arg3 fullShare r
            ∗ owns (c : Thread nD τ) arg4 fullShare o'
            ∗ owns (c : Thread nD τ) arg5 fullShare st'.1
            ∗ owns (c : Thread nD τ) arg6 fullShare st'.2.1
            ∗ owns (c : Thread nD τ) arg7 fullShare st'.2.2) -∗ K ⟨⟩))
      ⊢ wp frame (wpE (defs₀ (F := F)) Variants.none c none) Set.univ
          (cc4__lse_body i arg1 harg1 arg2 harg2 arg3 harg3 arg4 harg4 arg5 harg5 arg6 harg6 arg7 harg7) K

/-- The first point: the running vectors restarted. -/
theorem run4_first (c : Dev nD) (i : grid4.Coords)
    (arg1 : Memref sig .tc .vmem S8192x1024 .bf16) (harg1 : arg1.IsWhole) (arg2 : Memref sig .tc .vmem S512x1024 .f32) (harg2 : arg2.IsWhole)
    (arg3 : Memref sig .tc .vmem S8192 .i32) (harg3 : arg3.IsWhole) (arg4 : Memref sig .tc .vmem S8192 .f32) (harg4 : arg4.IsWhole)
    (arg5 : Memref sig .tc .vmem S8192 .f32) (harg5 : arg5.IsWhole) (arg6 : Memref sig .tc .vmem S8192 .f32) (harg6 : arg6.IsWhole)
    (arg7 : Memref sig .tc .vmem S8192 .f32) (harg7 : arg7.IsWhole)
    (h : Vec F S8192x1024 .bf16) (w : Vec F S512x1024 .f32) (r : Vec F S8192 .i32) (o : Vec F S8192 .f32) (st : Acc F)
    (h0 : isFirst4 i) (h2 : ¬ k4_cond2 i = 1#1) :
    Runs4 c i arg1 harg1 arg2 harg2 arg3 harg3 arg4 harg4 arg5 harg5 arg6 harg6 arg7 harg7 h w r o st (o) (step4 i h w r init4) := by
  intro K
  obtain ⟨m, s, t⟩ := st
  simp only [cc4__lse_body_eq_skeleton]; unfold cc4__lse_body_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, Hk⟩
  dsimp only at e5 e6 e7
  subst e1 e2 e3 e4 e5 e6 e7
  sl_exec
  sl_step
  iapply Hk
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]
  · iexists _; isplitr; swap; (· iexact H4); ipureintro
    rfl
  isplitl [H5]
  · iexists _; isplitr; swap; (· iexact H5); ipureintro
    repeat delta run4_first.sl.H5_1 run4_first.sl.H6_1 run4_first.sl.H7_1 run4_first.sl.r run4_first.sl.r_1 run4_first.sl.r_2 run4_first.sl.v18 run4_first.sl.v29 run4_first.sl.v35
    simp -proj only [step4, init4, out4, View.read_writes_full, View.readAt_full, View.readCov_full]
  isplitl [H6]
  · iexists _; isplitr; swap; (· iexact H6); ipureintro
    repeat delta run4_first.sl.H5_1 run4_first.sl.H6_1 run4_first.sl.H7_1 run4_first.sl.r run4_first.sl.r_1 run4_first.sl.r_2 run4_first.sl.v18 run4_first.sl.v29 run4_first.sl.v35
    simp -proj only [step4, init4, out4, View.read_writes_full, View.readAt_full, View.readCov_full]
  iexists _; isplitr; swap; (· iexact H7); ipureintro
  repeat delta run4_first.sl.H5_1 run4_first.sl.H6_1 run4_first.sl.H7_1 run4_first.sl.r run4_first.sl.r_1 run4_first.sl.r_2 run4_first.sl.v18 run4_first.sl.v29 run4_first.sl.v35
  simp -proj only [step4, init4, out4, View.read_writes_full, View.readAt_full, View.readCov_full]

/-- A point neither first nor last. -/
theorem run4_mid (c : Dev nD) (i : grid4.Coords)
    (arg1 : Memref sig .tc .vmem S8192x1024 .bf16) (harg1 : arg1.IsWhole) (arg2 : Memref sig .tc .vmem S512x1024 .f32) (harg2 : arg2.IsWhole)
    (arg3 : Memref sig .tc .vmem S8192 .i32) (harg3 : arg3.IsWhole) (arg4 : Memref sig .tc .vmem S8192 .f32) (harg4 : arg4.IsWhole)
    (arg5 : Memref sig .tc .vmem S8192 .f32) (harg5 : arg5.IsWhole) (arg6 : Memref sig .tc .vmem S8192 .f32) (harg6 : arg6.IsWhole)
    (arg7 : Memref sig .tc .vmem S8192 .f32) (harg7 : arg7.IsWhole)
    (h : Vec F S8192x1024 .bf16) (w : Vec F S512x1024 .f32) (r : Vec F S8192 .i32) (o : Vec F S8192 .f32) (st : Acc F)
    (h0 : ¬ isFirst4 i) (h2 : ¬ k4_cond2 i = 1#1) :
    Runs4 c i arg1 harg1 arg2 harg2 arg3 harg3 arg4 harg4 arg5 harg5 arg6 harg6 arg7 harg7 h w r o st (o) (step4 i h w r st) := by
  intro K
  obtain ⟨m, s, t⟩ := st
  simp only [cc4__lse_body_eq_skeleton]; unfold cc4__lse_body_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, Hk⟩
  dsimp only at e5 e6 e7
  subst e1 e2 e3 e4 e5 e6 e7
  sl_exec
  sl_step
  iapply Hk
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]
  · iexists _; isplitr; swap; (· iexact H4); ipureintro
    rfl
  isplitl [H5]
  · iexists _; isplitr; swap; (· iexact H5); ipureintro
    repeat delta run4_mid.sl.r run4_mid.sl.r_1 run4_mid.sl.r_2 run4_mid.sl.r_3
    simp -proj only [step4, init4, out4, View.read_writes_full, View.readAt_full, View.readCov_full]
  isplitl [H6]
  · iexists _; isplitr; swap; (· iexact H6); ipureintro
    repeat delta run4_mid.sl.r run4_mid.sl.r_1 run4_mid.sl.r_2 run4_mid.sl.r_3
    simp -proj only [step4, init4, out4, View.read_writes_full, View.readAt_full, View.readCov_full]
  iexists _; isplitr; swap; (· iexact H7); ipureintro
  repeat delta run4_mid.sl.r run4_mid.sl.r_1 run4_mid.sl.r_2 run4_mid.sl.r_3
  simp -proj only [step4, init4, out4, View.read_writes_full, View.readAt_full, View.readCov_full]

/-- The last point: the result stored. -/
theorem run4_last (c : Dev nD) (i : grid4.Coords)
    (arg1 : Memref sig .tc .vmem S8192x1024 .bf16) (harg1 : arg1.IsWhole) (arg2 : Memref sig .tc .vmem S512x1024 .f32) (harg2 : arg2.IsWhole)
    (arg3 : Memref sig .tc .vmem S8192 .i32) (harg3 : arg3.IsWhole) (arg4 : Memref sig .tc .vmem S8192 .f32) (harg4 : arg4.IsWhole)
    (arg5 : Memref sig .tc .vmem S8192 .f32) (harg5 : arg5.IsWhole) (arg6 : Memref sig .tc .vmem S8192 .f32) (harg6 : arg6.IsWhole)
    (arg7 : Memref sig .tc .vmem S8192 .f32) (harg7 : arg7.IsWhole)
    (h : Vec F S8192x1024 .bf16) (w : Vec F S512x1024 .f32) (r : Vec F S8192 .i32) (o : Vec F S8192 .f32) (st : Acc F)
    (h0 : ¬ isFirst4 i) (h2 : k4_cond2 i = 1#1) :
    Runs4 c i arg1 harg1 arg2 harg2 arg3 harg3 arg4 harg4 arg5 harg5 arg6 harg6 arg7 harg7 h w r o st (out4 (step4 i h w r st)) (step4 i h w r st) := by
  intro K
  obtain ⟨m, s, t⟩ := st
  simp only [cc4__lse_body_eq_skeleton]; unfold cc4__lse_body_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, Hk⟩
  dsimp only at e5 e6 e7
  subst e1 e2 e3 e4 e5 e6 e7
  sl_exec
  sl_step
  iapply Hk
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]
  · iexists _; isplitr; swap; (· iexact H4); ipureintro
    repeat delta run4_last.sl.H5_1 run4_last.sl.H6_1 run4_last.sl.H7_1 run4_last.sl.r run4_last.sl.r_1 run4_last.sl.r_2 run4_last.sl.r_3 run4_last.sl.v51 run4_last.sl.v52 run4_last.sl.v53
    simp -proj only [step4, init4, out4, View.read_writes_full, View.readAt_full, View.readCov_full]
  isplitl [H5]
  · iexists _; isplitr; swap; (· iexact H5); ipureintro
    repeat delta run4_last.sl.H5_1 run4_last.sl.H6_1 run4_last.sl.H7_1 run4_last.sl.r run4_last.sl.r_1 run4_last.sl.r_2 run4_last.sl.r_3 run4_last.sl.v51 run4_last.sl.v52 run4_last.sl.v53
    simp -proj only [step4, init4, out4, View.read_writes_full, View.readAt_full, View.readCov_full]
  isplitl [H6]
  · iexists _; isplitr; swap; (· iexact H6); ipureintro
    repeat delta run4_last.sl.H5_1 run4_last.sl.H6_1 run4_last.sl.H7_1 run4_last.sl.r run4_last.sl.r_1 run4_last.sl.r_2 run4_last.sl.r_3 run4_last.sl.v51 run4_last.sl.v52 run4_last.sl.v53
    simp -proj only [step4, init4, out4, View.read_writes_full, View.readAt_full, View.readCov_full]
  iexists _; isplitr; swap; (· iexact H7); ipureintro
  repeat delta run4_last.sl.H5_1 run4_last.sl.H6_1 run4_last.sl.H7_1 run4_last.sl.r run4_last.sl.r_1 run4_last.sl.r_2 run4_last.sl.r_3 run4_last.sl.v51 run4_last.sl.v52 run4_last.sl.v53
  simp -proj only [step4, init4, out4, View.read_writes_full, View.readAt_full, View.readCov_full]

open Classical in
/-- Any point but one both first and last. -/
theorem run4 (c : Dev nD) (i : grid4.Coords)
    (arg1 : Memref sig .tc .vmem S8192x1024 .bf16) (harg1 : arg1.IsWhole) (arg2 : Memref sig .tc .vmem S512x1024 .f32) (harg2 : arg2.IsWhole)
    (arg3 : Memref sig .tc .vmem S8192 .i32) (harg3 : arg3.IsWhole) (arg4 : Memref sig .tc .vmem S8192 .f32) (harg4 : arg4.IsWhole)
    (arg5 : Memref sig .tc .vmem S8192 .f32) (harg5 : arg5.IsWhole) (arg6 : Memref sig .tc .vmem S8192 .f32) (harg6 : arg6.IsWhole)
    (arg7 : Memref sig .tc .vmem S8192 .f32) (harg7 : arg7.IsWhole)
    (h : Vec F S8192x1024 .bf16) (w : Vec F S512x1024 .f32) (r : Vec F S8192 .i32) (o : Vec F S8192 .f32) (st : Acc F)
    (hfl : ¬ (isFirst4 i ∧ k4_cond2 i = 1#1)) :
    Runs4 c i arg1 harg1 arg2 harg2 arg3 harg3 arg4 harg4 arg5 harg5 arg6 harg6 arg7 harg7 h w r o st (if k4_cond2 i = 1#1 then out4 (next4 i h w r st) else o) (next4 i h w r st) := by
  unfold next4
  by_cases h0 : isFirst4 i <;> by_cases h2 : k4_cond2 i = 1#1
  · exact absurd ⟨h0, h2⟩ hfl
  · rw [if_pos h0, if_neg h2]; exact run4_first c i arg1 harg1 arg2 harg2 arg3 harg3 arg4 harg4 arg5 harg5 arg6 harg6 arg7 harg7 h w r o st h0 h2
  · rw [if_neg h0, if_pos h2]; exact run4_last c i arg1 harg1 arg2 harg2 arg3 harg3 arg4 harg4 arg5 harg5 arg6 harg6 arg7 harg7 h w r o st h0 h2
  · rw [if_neg h0, if_neg h2]; exact run4_mid c i arg1 harg1 arg2 harg2 arg3 harg3 arg4 harg4 arg5 harg5 arg6 harg6 arg7 harg7 h w r o st h0 h2

end Cert.KernelIdeal.Hand

end
-- ==== Proof.KI.Data.lean ====
/-
  The pipelines' proof data. Region 0's is exact: every block of the product is determined. Regions 1 to 4 stream a matrix whose
  last block may reach past its end, where the staging buffer holds whatever it held before; their data are relational: which
  running vectors a run may reach after so many points (`ReachK`), and that the result is made from ones reached at the end.
-/
module

public import proofs.«01_k».proof.Proof.KI.Body
public import proofs.«01_k».proof.Proof.Gen.KernelIdeal.Points
public import proofs.«01_k».proof.Proof.Common
public import Idealize.ShloMosaic.Lib.Pipeline.FrameBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Rounds
open Idealize.ShloMosaic.Pipeline (Dat RDat)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## The matrix product -/

section Region0

variable (c : Dev nD) (A : (w : Fin cfg0.W) → Buf (Elt F) ((cfg0.win w).arr.view.loc (c : Thread nD τ)))

/-- An input's block at a point. -/
abbrev in0 (w : Fin cfg0.W) (t : Fin cfg0.N) : ((cfg0.win w).xblock (cfg0.grid.coords t)).Idx → Elt F (cfg0.win w).elt :=
  ((cfg0.win w).blk t).view.read (Elt F) (A w)

/-- The region's proof data: each block of the result the product of the rows' block and the resident weights. -/
def data0 : Dat τ (Elt F) Unit ℕ (UR sig nD τ) ℕ cfg0 c where
  A := A
  after w t := match w with
    | ⟨0, _⟩ => in0 c A 0 t
    | ⟨1, _⟩ => in0 c A 1 t
    | ⟨2, _⟩ => k0_pay1 (in0 c A 0 t) (in0 c A 1 t)
    | ⟨_ + 3, h⟩ => absurd h (Nat.not_lt.2 (Nat.le_add_left _ _))
  Φ _ := Pipeline.scopedRest (Ix := Unit) (Name := ℕ) (U := UR sig nD τ) (Lvl := ℕ) (Val := Elt F) spec0 c
  q _ := fullShare
  owed _ := 0

theorem defs₀_row0 (t : Fin cfg0.N) : defs₀ (F := F) .tc cfg0.body (cfg0.bodyArgs t (cfg0.slots t)) = bodyAt0 t := by
  unfold defs₀; rw [Defs.onTc_tc]

/-- What the body finds in an input's staging buffer is that block. -/
theorem before0_0 (t : Fin cfg0.N) (d : (cfg0.win 0).block.Idx → Elt F (cfg0.win 0).elt) : (data0 (F := F) c A).before 0 t d = in0 c A 0 t :=
  (Dat.before_in_eq_fetched (data0 c A) 0 rfl (fun _ => rfl) (fun _ _ _ => rfl) (fun _ => rfl) t d).trans rfl

theorem before0_1 (t : Fin cfg0.N) (d : (cfg0.win 1).block.Idx → Elt F (cfg0.win 1).elt) : (data0 (F := F) c A).before 1 t d = in0 c A 1 t :=
  (Dat.before_in_eq_fetched (data0 c A) 1 rfl (fun _ => rfl) (fun _ _ _ => rfl) (fun _ => rfl) t d).trans rfl

/-- The body, at every point, keeps the region's data. -/
theorem obligation0 : Pipeline.BodyObligation (data0 (F := F) c A) (defs₀ (F := F)) Variants.none () Set.univ := fun t => by
  rw [bigSep_W0, bigSep_W0, defs₀_row0]
  rw [show (data0 (F := F) c A).Φ t.succ = (data0 (F := F) c A).Φ t.castSucc from rfl,
    show (data0 (F := F) c A).owesAt () t.succ = (data0 (F := F) c A).owesAt () t.castSucc from rfl]
  iintro ⟨HΦ, HO, ⟨%d1, H1⟩, ⟨%d2, H2⟩, ⟨%d3, H3⟩⟩
  rw [before0_0, before0_1]
  iapply (run0 c (grid0.coords t) _ _ _ _ _ _ (in0 c A 0 t) (in0 c A 1 t) _ _)
  isplitl [H1]; · iexact H1
  isplitl [H2]; · iexact H2
  isplitl [H3]; · iexact H3
  iintro ⟨H1, H2, H3⟩
  isplitl [HΦ]; · iexact HΦ
  isplitl [HO]; · iexact HO
  isplitl [H1]; · iexact H1
  isplitl [H2]; · iexact H2
  iexact H3

end Region0

/-! ## Region 1 -/

section Region1

theorem pos1 : 0 < cfg1.N := by
  rw [show cfg1.N = 16 from N_1]; decide

/-- The kernel's test for the first point says so. -/
theorem isFirst1_iff (t : Fin cfg1.N) : isFirst1 (grid1.coords t) ↔ t.val = 0 := by
  have h : ∀ t : Fin cfg1.N, isFirst1 (grid1.coords t) ↔ t.val = 0 := by decide +kernel
  exact h t

/-- The kernel's test for the last point says so. -/
theorem cond1_iff (t : Fin cfg1.N) : k1_cond2 (grid1.coords t) = 1#1 ↔ t.val = 15 := by
  have h : ∀ t : Fin cfg1.N, k1_cond2 (grid1.coords t) = 1#1 ↔ t.val = 15 := by decide +kernel
  exact h t

variable (c : Dev nD) (A : (w : Fin cfg1.W) → Buf (Elt F) ((cfg1.win w).arr.view.loc (c : Thread nD τ)))

/-- What a staging buffer that held `d` holds once the fetch at a point is in. -/
abbrev in1 (w : Fin cfg1.W) (t : Fin cfg1.N) (d : (cfg1.win w).block.Idx → Elt F (cfg1.win w).elt) : (cfg1.win w).block.Idx → Elt F (cfg1.win w).elt :=
  (cfg1.win w).fill (cfg1.grid.coords t) d (((cfg1.win w).blk t).view.read (Elt F) (A w))

/-- The running vectors that a run may have reached before a point. -/
def Reach1 : ℕ → Acc F → Prop
  | 0, _ => True
  | n + 1, st' => ∃ (hn : n < cfg1.N) (st : Acc F) (d0 : (cfg1.win 0).block.Idx → Elt F (cfg1.win 0).elt)
      (d1 : (cfg1.win 1).block.Idx → Elt F (cfg1.win 1).elt) (d2 : (cfg1.win 2).block.Idx → Elt F (cfg1.win 2).elt),
      Reach1 n st ∧ st' = next1 (grid1.coords ⟨n, hn⟩) (in1 c A 0 ⟨0, pos1⟩ d0) (in1 c A 1 ⟨n, hn⟩ d1) (in1 c A 2 ⟨0, pos1⟩ d2) st

/-- The body's invariant before a point: the scratch vectors at ones reached, the other scoped buffers at anything. -/
def Phi1 (n : ℕ) : sProp 𝕄 :=
  iprop(∃ st : Acc F, ⌜Reach1 c A n st⌝ ∗ owns (c : Thread nD τ) (Memref.whole cc1_scratch0) fullShare st.1
    ∗ owns (c : Thread nD τ) (Memref.whole cc1_scratch1) fullShare st.2.1 ∗ owns (c : Thread nD τ) (Memref.whole cc1_scratch2) fullShare st.2.2
    ∗ Pipeline.scopedRestBut (Ix := Unit) (Name := ℕ) (U := UR sig nD τ) (Lvl := ℕ) (Val := Elt F) spec1 c [cc1_scratch0, cc1_scratch1, cc1_scratch2])

/-- The region's proof data: the inputs left as found; the result, at the last point, made from vectors reached. -/
def data1 : RDat τ (Elt F) Unit ℕ (UR sig nD τ) ℕ cfg1 c where
  A := A
  after w t Y X := match w with
    | ⟨0, _⟩ => X = Y
    | ⟨1, _⟩ => X = Y
    | ⟨2, _⟩ => X = Y
    | ⟨3, _⟩ => t.val = 15 → ∃ st : Acc F, Reach1 c A 16 st ∧ X = out1 st
    | ⟨_ + 4, h⟩ => absurd h (Nat.not_lt.2 (Nat.le_add_left _ _))
  Φ t := Phi1 c A t.val
  q _ := fullShare
  owed _ := 0

theorem defs₀_row1 (t : Fin cfg1.N) : defs₀ (F := F) .tc cfg1.body (cfg1.bodyArgs t (cfg1.slots t)) = bodyAt1 t := by
  unfold defs₀; rw [Defs.onTc_tc]

/-- The body, at every point, keeps the region's data. -/
theorem obligation1 : (data1 (F := F) c A).BodyObligation (defs₀ (F := F)) Variants.none () Set.univ := fun t Y hY => by
  have m0 : ∀ t : Fin cfg1.N, t.val % 16 = 0 ↔ t.val = 0 := fun t => by
    have := t.isLt; have := N_1; have e : cfg1.N = grid1.N := rfl; omega
  obtain ⟨d0, h0⟩ := Common.finds_resident (data1 c A) 0 pos1 rfl (fun t => (fetch1_0 t).trans (m0 t)) (fun _ _ _ h => h) t.val t.isLt _ (hY 0)
  obtain ⟨d1, h1⟩ := ((data1 c A).finds_of_fetch (fetch1_1 t) _).mp (hY 1)
  obtain ⟨d2, h2⟩ := Common.finds_resident (data1 c A) 2 pos1 rfl (fun t => (fetch1_2 t).trans (m0 t)) (fun _ _ _ h => h) t.val t.isLt _ (hY 2)
  rw [bigSep_W1, bigSep_W1, defs₀_row1]
  unfold RDat.owesAt Pipeline.owesWithin
  rw [show (data1 c A).Φ t.castSucc = Phi1 c A t.val from rfl, show (data1 c A).Φ t.succ = Phi1 c A (t.val + 1) from rfl,
    show (data1 c A).owed t.castSucc = 0 from rfl, show (data1 c A).owed t.succ = 0 from rfl]
  unfold Phi1
  iintro ⟨⟨%st, %hst, H5, H6, H7, Hr⟩, ⟨%W, %hW, HO⟩, H1, H2, H3, H4⟩
  have hfl : ¬ (isFirst1 (grid1.coords t) ∧ k1_cond2 (grid1.coords t) = 1#1) := fun h => by
    have e0 := (isFirst1_iff t).mp h.1
    have e1 := (cond1_iff t).mp h.2
    omega
  iapply (run1 c (grid1.coords t) _ _ _ _ _ _ _ _ _ _ _ _ _ _ (Y 0) (Y 1) (Y 2) (Y 3) st hfl _)
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H1, H2, H3, H4, H5, H6, H7⟩
  have hst' : Reach1 c A (t.val + 1) (next1 (grid1.coords t) (Y 0) (Y 1) (Y 2) st) := by
    refine ⟨t.isLt, st, d0, d1, d2, hst, ?_⟩
    rw [h0, h1, h2]; rfl
  isplitl [H5 H6 H7 Hr]
  · iexists _
    isplitr; · ipureintro; exact hst'
    isplitl [H5]; · iexact H5
    isplitl [H6]; · iexact H6
    isplitl [H7]; · iexact H7
    iexact Hr
  isplitl [HO]
  · iexists W
    isplitr; · ipureintro; exact fun _ _ => Or.inl trivial
    iexact HO
  isplitl [H1]
  · iexists (Y 0); isplitr; · ipureintro; exact rfl
    iexact H1
  isplitl [H2]
  · iexists (Y 1); isplitr; · ipureintro; exact rfl
    iexact H2
  isplitl [H3]
  · iexists (Y 2); isplitr; · ipureintro; exact rfl
    iexact H3
  iexists _
  isplitr; swap; · iexact H4
  ipureintro
  intro ht
  rw [if_pos ((cond1_iff t).mpr ht)]
  refine ⟨_, ?_, rfl⟩
  have := hst'
  rw [ht] at this
  exact this

/-- A write-back of the result's one block is the whole array. -/
theorem write1 (t : Fin cfg1.N) (G : Buf (Elt F) ((cfg1.win 3).arr.view.loc (c : Thread nD τ))) (X : (cfg1.win 3).block.Idx → Elt F (cfg1.win 3).elt) :
    ((cfg1.win 3).blk t).view.write (Elt F) G ((cfg1.win 3).cut (cfg1.grid.coords t) X) Finset.univ = X :=
  Memref.write_access_unit_zero_univ (Elt F) main_v23 (funext fun a => by fin_cases a; exact Nat.zero_mul _) _ G X

/-- What the region leaves in its result: made from running vectors reached at the end. -/
theorem arrAt1 (G : Buf (Elt F) ((cfg1.win 3).arr.view.loc (c : Thread nD τ))) (h : (data1 (F := F) c A).ArrAt 3 cfg1.N G) :
    ∃ st : Acc F, Reach1 c A 16 st ∧ G = out1 st := by
  have e : cfg1.N = 15 + 1 := N_1
  have hl : (15 : ℕ) < cfg1.N := by rw [e]; exact Nat.lt_succ_self _
  rw [e, (data1 (F := F) c A).ArrAt_succ 3 ⟨15, hl⟩, if_pos ((flush1_3 ⟨15, hl⟩).mpr rfl)] at h
  obtain ⟨G₀, X, -, ⟨Y, -, hX⟩, rfl⟩ := h
  obtain ⟨st, h1, h2⟩ := hX rfl
  exact ⟨st, h1, (write1 c _ _ _).trans h2⟩

end Region1

/-! ## Region 2 -/

section Region2

theorem pos2 : 0 < cfg2.N := by
  rw [show cfg2.N = 79 from N_2]; decide

/-- The kernel's test for the first point says so. -/
theorem isFirst2_iff (t : Fin cfg2.N) : isFirst2 (grid2.coords t) ↔ t.val = 0 := by
  have h : ∀ t : Fin cfg2.N, isFirst2 (grid2.coords t) ↔ t.val = 0 := by decide +kernel
  exact h t

/-- The kernel's test for the last point says so. -/
theorem cond2_iff (t : Fin cfg2.N) : k2_cond2 (grid2.coords t) = 1#1 ↔ t.val = 78 := by
  have h : ∀ t : Fin cfg2.N, k2_cond2 (grid2.coords t) = 1#1 ↔ t.val = 78 := by decide +kernel
  exact h t

variable (c : Dev nD) (A : (w : Fin cfg2.W) → Buf (Elt F) ((cfg2.win w).arr.view.loc (c : Thread nD τ)))

/-- What a staging buffer that held `d` holds once the fetch at a point is in. -/
abbrev in2 (w : Fin cfg2.W) (t : Fin cfg2.N) (d : (cfg2.win w).block.Idx → Elt F (cfg2.win w).elt) : (cfg2.win w).block.Idx → Elt F (cfg2.win w).elt :=
  (cfg2.win w).fill (cfg2.grid.coords t) d (((cfg2.win w).blk t).view.read (Elt F) (A w))

/-- The running vectors that a run may have reached before a point. -/
def Reach2 : ℕ → Acc F → Prop
  | 0, _ => True
  | n + 1, st' => ∃ (hn : n < cfg2.N) (st : Acc F) (d0 : (cfg2.win 0).block.Idx → Elt F (cfg2.win 0).elt)
      (d1 : (cfg2.win 1).block.Idx → Elt F (cfg2.win 1).elt) (d2 : (cfg2.win 2).block.Idx → Elt F (cfg2.win 2).elt),
      Reach2 n st ∧ st' = next2 (grid2.coords ⟨n, hn⟩) (in2 c A 0 ⟨0, pos2⟩ d0) (in2 c A 1 ⟨n, hn⟩ d1) (in2 c A 2 ⟨0, pos2⟩ d2) st

/-- The body's invariant before a point: the scratch vectors at ones reached, the other scoped buffers at anything. -/
def Phi2 (n : ℕ) : sProp 𝕄 :=
  iprop(∃ st : Acc F, ⌜Reach2 c A n st⌝ ∗ owns (c : Thread nD τ) (Memref.whole cc2_scratch0) fullShare st.1
    ∗ owns (c : Thread nD τ) (Memref.whole cc2_scratch1) fullShare st.2.1 ∗ owns (c : Thread nD τ) (Memref.whole cc2_scratch2) fullShare st.2.2
    ∗ Pipeline.scopedRestBut (Ix := Unit) (Name := ℕ) (U := UR sig nD τ) (Lvl := ℕ) (Val := Elt F) spec2 c [cc2_scratch0, cc2_scratch1, cc2_scratch2])

/-- The region's proof data: the inputs left as found; the result, at the last point, made from vectors reached. -/
def data2 : RDat τ (Elt F) Unit ℕ (UR sig nD τ) ℕ cfg2 c where
  A := A
  after w t Y X := match w with
    | ⟨0, _⟩ => X = Y
    | ⟨1, _⟩ => X = Y
    | ⟨2, _⟩ => X = Y
    | ⟨3, _⟩ => t.val = 78 → ∃ st : Acc F, Reach2 c A 79 st ∧ X = out2 st
    | ⟨_ + 4, h⟩ => absurd h (Nat.not_lt.2 (Nat.le_add_left _ _))
  Φ t := Phi2 c A t.val
  q _ := fullShare
  owed _ := 0

theorem defs₀_row2 (t : Fin cfg2.N) : defs₀ (F := F) .tc cfg2.body (cfg2.bodyArgs t (cfg2.slots t)) = bodyAt2 t := by
  unfold defs₀; rw [Defs.onTc_tc]

/-- The body, at every point, keeps the region's data. -/
theorem obligation2 : (data2 (F := F) c A).BodyObligation (defs₀ (F := F)) Variants.none () Set.univ := fun t Y hY => by
  have m0 : ∀ t : Fin cfg2.N, t.val % 79 = 0 ↔ t.val = 0 := fun t => by
    have := t.isLt; have := N_2; have e : cfg2.N = grid2.N := rfl; omega
  obtain ⟨d0, h0⟩ := Common.finds_resident (data2 c A) 0 pos2 rfl (fun t => (fetch2_0 t).trans (m0 t)) (fun _ _ _ h => h) t.val t.isLt _ (hY 0)
  obtain ⟨d1, h1⟩ := ((data2 c A).finds_of_fetch (fetch2_1 t) _).mp (hY 1)
  obtain ⟨d2, h2⟩ := Common.finds_resident (data2 c A) 2 pos2 rfl (fun t => (fetch2_2 t).trans (m0 t)) (fun _ _ _ h => h) t.val t.isLt _ (hY 2)
  rw [bigSep_W2, bigSep_W2, defs₀_row2]
  unfold RDat.owesAt Pipeline.owesWithin
  rw [show (data2 c A).Φ t.castSucc = Phi2 c A t.val from rfl, show (data2 c A).Φ t.succ = Phi2 c A (t.val + 1) from rfl,
    show (data2 c A).owed t.castSucc = 0 from rfl, show (data2 c A).owed t.succ = 0 from rfl]
  unfold Phi2
  iintro ⟨⟨%st, %hst, H5, H6, H7, Hr⟩, ⟨%W, %hW, HO⟩, H1, H2, H3, H4⟩
  have hfl : ¬ (isFirst2 (grid2.coords t) ∧ k2_cond2 (grid2.coords t) = 1#1) := fun h => by
    have e0 := (isFirst2_iff t).mp h.1
    have e1 := (cond2_iff t).mp h.2
    omega
  iapply (run2 c (grid2.coords t) _ _ _ _ _ _ _ _ _ _ _ _ _ _ (Y 0) (Y 1) (Y 2) (Y 3) st hfl _)
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H1, H2, H3, H4, H5, H6, H7⟩
  have hst' : Reach2 c A (t.val + 1) (next2 (grid2.coords t) (Y 0) (Y 1) (Y 2) st) := by
    refine ⟨t.isLt, st, d0, d1, d2, hst, ?_⟩
    rw [h0, h1, h2]; rfl
  isplitl [H5 H6 H7 Hr]
  · iexists _
    isplitr; · ipureintro; exact hst'
    isplitl [H5]; · iexact H5
    isplitl [H6]; · iexact H6
    isplitl [H7]; · iexact H7
    iexact Hr
  isplitl [HO]
  · iexists W
    isplitr; · ipureintro; exact fun _ _ => Or.inl trivial
    iexact HO
  isplitl [H1]
  · iexists (Y 0); isplitr; · ipureintro; exact rfl
    iexact H1
  isplitl [H2]
  · iexists (Y 1); isplitr; · ipureintro; exact rfl
    iexact H2
  isplitl [H3]
  · iexists (Y 2); isplitr; · ipureintro; exact rfl
    iexact H3
  iexists _
  isplitr; swap; · iexact H4
  ipureintro
  intro ht
  rw [if_pos ((cond2_iff t).mpr ht)]
  refine ⟨_, ?_, rfl⟩
  have := hst'
  rw [ht] at this
  exact this

/-- A write-back of the result's one block is the whole array. -/
theorem write2 (t : Fin cfg2.N) (G : Buf (Elt F) ((cfg2.win 3).arr.view.loc (c : Thread nD τ))) (X : (cfg2.win 3).block.Idx → Elt F (cfg2.win 3).elt) :
    ((cfg2.win 3).blk t).view.write (Elt F) G ((cfg2.win 3).cut (cfg2.grid.coords t) X) Finset.univ = X :=
  Memref.write_access_unit_zero_univ (Elt F) main_v36 (funext fun a => by fin_cases a; exact Nat.zero_mul _) _ G X

/-- What the region leaves in its result: made from running vectors reached at the end. -/
theorem arrAt2 (G : Buf (Elt F) ((cfg2.win 3).arr.view.loc (c : Thread nD τ))) (h : (data2 (F := F) c A).ArrAt 3 cfg2.N G) :
    ∃ st : Acc F, Reach2 c A 79 st ∧ G = out2 st := by
  have e : cfg2.N = 78 + 1 := N_2
  have hl : (78 : ℕ) < cfg2.N := by rw [e]; exact Nat.lt_succ_self _
  rw [e, (data2 (F := F) c A).ArrAt_succ 3 ⟨78, hl⟩, if_pos ((flush2_3 ⟨78, hl⟩).mpr rfl)] at h
  obtain ⟨G₀, X, -, ⟨Y, -, hX⟩, rfl⟩ := h
  obtain ⟨st, h1, h2⟩ := hX rfl
  exact ⟨st, h1, (write2 c _ _ _).trans h2⟩

end Region2

/-! ## Region 3 -/

section Region3

theorem pos3 : 0 < cfg3.N := by
  rw [show cfg3.N = 98 from N_3]; decide

/-- The kernel's test for the first point says so. -/
theorem isFirst3_iff (t : Fin cfg3.N) : isFirst3 (grid3.coords t) ↔ t.val = 0 := by
  have h : ∀ t : Fin cfg3.N, isFirst3 (grid3.coords t) ↔ t.val = 0 := by decide +kernel
  exact h t

/-- The kernel's test for the last point says so. -/
theorem cond3_iff (t : Fin cfg3.N) : k3_cond2 (grid3.coords t) = 1#1 ↔ t.val = 97 := by
  have h : ∀ t : Fin cfg3.N, k3_cond2 (grid3.coords t) = 1#1 ↔ t.val = 97 := by decide +kernel
  exact h t

variable (c : Dev nD) (A : (w : Fin cfg3.W) → Buf (Elt F) ((cfg3.win w).arr.view.loc (c : Thread nD τ)))

/-- What a staging buffer that held `d` holds once the fetch at a point is in. -/
abbrev in3 (w : Fin cfg3.W) (t : Fin cfg3.N) (d : (cfg3.win w).block.Idx → Elt F (cfg3.win w).elt) : (cfg3.win w).block.Idx → Elt F (cfg3.win w).elt :=
  (cfg3.win w).fill (cfg3.grid.coords t) d (((cfg3.win w).blk t).view.read (Elt F) (A w))

/-- The running vectors that a run may have reached before a point. -/
def Reach3 : ℕ → Acc F → Prop
  | 0, _ => True
  | n + 1, st' => ∃ (hn : n < cfg3.N) (st : Acc F) (d0 : (cfg3.win 0).block.Idx → Elt F (cfg3.win 0).elt)
      (d1 : (cfg3.win 1).block.Idx → Elt F (cfg3.win 1).elt) (d2 : (cfg3.win 2).block.Idx → Elt F (cfg3.win 2).elt),
      Reach3 n st ∧ st' = next3 (grid3.coords ⟨n, hn⟩) (in3 c A 0 ⟨0, pos3⟩ d0) (in3 c A 1 ⟨n, hn⟩ d1) (in3 c A 2 ⟨0, pos3⟩ d2) st

/-- The body's invariant before a point: the scratch vectors at ones reached, the other scoped buffers at anything. -/
def Phi3 (n : ℕ) : sProp 𝕄 :=
  iprop(∃ st : Acc F, ⌜Reach3 c A n st⌝ ∗ owns (c : Thread nD τ) (Memref.whole cc3_scratch0) fullShare st.1
    ∗ owns (c : Thread nD τ) (Memref.whole cc3_scratch1) fullShare st.2.1 ∗ owns (c : Thread nD τ) (Memref.whole cc3_scratch2) fullShare st.2.2
    ∗ Pipeline.scopedRestBut (Ix := Unit) (Name := ℕ) (U := UR sig nD τ) (Lvl := ℕ) (Val := Elt F) spec3 c [cc3_scratch0, cc3_scratch1, cc3_scratch2])

/-- The region's proof data: the inputs left as found; the result, at the last point, made from vectors reached. -/
def data3 : RDat τ (Elt F) Unit ℕ (UR sig nD τ) ℕ cfg3 c where
  A := A
  after w t Y X := match w with
    | ⟨0, _⟩ => X = Y
    | ⟨1, _⟩ => X = Y
    | ⟨2, _⟩ => X = Y
    | ⟨3, _⟩ => t.val = 97 → ∃ st : Acc F, Reach3 c A 98 st ∧ X = out3 st
    | ⟨_ + 4, h⟩ => absurd h (Nat.not_lt.2 (Nat.le_add_left _ _))
  Φ t := Phi3 c A t.val
  q _ := fullShare
  owed _ := 0

theorem defs₀_row3 (t : Fin cfg3.N) : defs₀ (F := F) .tc cfg3.body (cfg3.bodyArgs t (cfg3.slots t)) = bodyAt3 t := by
  unfold defs₀; rw [Defs.onTc_tc]

/-- The body, at every point, keeps the region's data. -/
theorem obligation3 : (data3 (F := F) c A).BodyObligation (defs₀ (F := F)) Variants.none () Set.univ := fun t Y hY => by
  have m0 : ∀ t : Fin cfg3.N, t.val % 98 = 0 ↔ t.val = 0 := fun t => by
    have := t.isLt; have := N_3; have e : cfg3.N = grid3.N := rfl; omega
  obtain ⟨d0, h0⟩ := Common.finds_resident (data3 c A) 0 pos3 rfl (fun t => (fetch3_0 t).trans (m0 t)) (fun _ _ _ h => h) t.val t.isLt _ (hY 0)
  obtain ⟨d1, h1⟩ := ((data3 c A).finds_of_fetch (fetch3_1 t) _).mp (hY 1)
  obtain ⟨d2, h2⟩ := Common.finds_resident (data3 c A) 2 pos3 rfl (fun t => (fetch3_2 t).trans (m0 t)) (fun _ _ _ h => h) t.val t.isLt _ (hY 2)
  rw [bigSep_W3, bigSep_W3, defs₀_row3]
  unfold RDat.owesAt Pipeline.owesWithin
  rw [show (data3 c A).Φ t.castSucc = Phi3 c A t.val from rfl, show (data3 c A).Φ t.succ = Phi3 c A (t.val + 1) from rfl,
    show (data3 c A).owed t.castSucc = 0 from rfl, show (data3 c A).owed t.succ = 0 from rfl]
  unfold Phi3
  iintro ⟨⟨%st, %hst, H5, H6, H7, Hr⟩, ⟨%W, %hW, HO⟩, H1, H2, H3, H4⟩
  have hfl : ¬ (isFirst3 (grid3.coords t) ∧ k3_cond2 (grid3.coords t) = 1#1) := fun h => by
    have e0 := (isFirst3_iff t).mp h.1
    have e1 := (cond3_iff t).mp h.2
    omega
  iapply (run3 c (grid3.coords t) _ _ _ _ _ _ _ _ _ _ _ _ _ _ (Y 0) (Y 1) (Y 2) (Y 3) st hfl _)
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H1, H2, H3, H4, H5, H6, H7⟩
  have hst' : Reach3 c A (t.val + 1) (next3 (grid3.coords t) (Y 0) (Y 1) (Y 2) st) := by
    refine ⟨t.isLt, st, d0, d1, d2, hst, ?_⟩
    rw [h0, h1, h2]; rfl
  isplitl [H5 H6 H7 Hr]
  · iexists _
    isplitr; · ipureintro; exact hst'
    isplitl [H5]; · iexact H5
    isplitl [H6]; · iexact H6
    isplitl [H7]; · iexact H7
    iexact Hr
  isplitl [HO]
  · iexists W
    isplitr; · ipureintro; exact fun _ _ => Or.inl trivial
    iexact HO
  isplitl [H1]
  · iexists (Y 0); isplitr; · ipureintro; exact rfl
    iexact H1
  isplitl [H2]
  · iexists (Y 1); isplitr; · ipureintro; exact rfl
    iexact H2
  isplitl [H3]
  · iexists (Y 2); isplitr; · ipureintro; exact rfl
    iexact H3
  iexists _
  isplitr; swap; · iexact H4
  ipureintro
  intro ht
  rw [if_pos ((cond3_iff t).mpr ht)]
  refine ⟨_, ?_, rfl⟩
  have := hst'
  rw [ht] at this
  exact this

/-- A write-back of the result's one block is the whole array. -/
theorem write3 (t : Fin cfg3.N) (G : Buf (Elt F) ((cfg3.win 3).arr.view.loc (c : Thread nD τ))) (X : (cfg3.win 3).block.Idx → Elt F (cfg3.win 3).elt) :
    ((cfg3.win 3).blk t).view.write (Elt F) G ((cfg3.win 3).cut (cfg3.grid.coords t) X) Finset.univ = X :=
  Memref.write_access_unit_zero_univ (Elt F) main_v49 (funext fun a => by fin_cases a; exact Nat.zero_mul _) _ G X

/-- What the region leaves in its result: made from running vectors reached at the end. -/
theorem arrAt3 (G : Buf (Elt F) ((cfg3.win 3).arr.view.loc (c : Thread nD τ))) (h : (data3 (F := F) c A).ArrAt 3 cfg3.N G) :
    ∃ st : Acc F, Reach3 c A 98 st ∧ G = out3 st := by
  have e : cfg3.N = 97 + 1 := N_3
  have hl : (97 : ℕ) < cfg3.N := by rw [e]; exact Nat.lt_succ_self _
  rw [e, (data3 (F := F) c A).ArrAt_succ 3 ⟨97, hl⟩, if_pos ((flush3_3 ⟨97, hl⟩).mpr rfl)] at h
  obtain ⟨G₀, X, -, ⟨Y, -, hX⟩, rfl⟩ := h
  obtain ⟨st, h1, h2⟩ := hX rfl
  exact ⟨st, h1, (write3 c _ _ _).trans h2⟩

end Region3

/-! ## Region 4 -/

section Region4

theorem pos4 : 0 < cfg4.N := by
  rw [show cfg4.N = 4 from N_4]; decide

/-- The kernel's test for the first point says so. -/
theorem isFirst4_iff (t : Fin cfg4.N) : isFirst4 (grid4.coords t) ↔ t.val = 0 := by
  have h : ∀ t : Fin cfg4.N, isFirst4 (grid4.coords t) ↔ t.val = 0 := by decide +kernel
  exact h t

/-- The kernel's test for the last point says so. -/
theorem cond4_iff (t : Fin cfg4.N) : k4_cond2 (grid4.coords t) = 1#1 ↔ t.val = 3 := by
  have h : ∀ t : Fin cfg4.N, k4_cond2 (grid4.coords t) = 1#1 ↔ t.val = 3 := by decide +kernel
  exact h t

variable (c : Dev nD) (A : (w : Fin cfg4.W) → Buf (Elt F) ((cfg4.win w).arr.view.loc (c : Thread nD τ)))

/-- What a staging buffer that held `d` holds once the fetch at a point is in. -/
abbrev in4 (w : Fin cfg4.W) (t : Fin cfg4.N) (d : (cfg4.win w).block.Idx → Elt F (cfg4.win w).elt) : (cfg4.win w).block.Idx → Elt F (cfg4.win w).elt :=
  (cfg4.win w).fill (cfg4.grid.coords t) d (((cfg4.win w).blk t).view.read (Elt F) (A w))

/-- The running vectors that a run may have reached before a point. -/
def Reach4 : ℕ → Acc F → Prop
  | 0, _ => True
  | n + 1, st' => ∃ (hn : n < cfg4.N) (st : Acc F) (d0 : (cfg4.win 0).block.Idx → Elt F (cfg4.win 0).elt)
      (d1 : (cfg4.win 1).block.Idx → Elt F (cfg4.win 1).elt) (d2 : (cfg4.win 2).block.Idx → Elt F (cfg4.win 2).elt),
      Reach4 n st ∧ st' = next4 (grid4.coords ⟨n, hn⟩) (in4 c A 0 ⟨0, pos4⟩ d0) (in4 c A 1 ⟨n, hn⟩ d1) (in4 c A 2 ⟨0, pos4⟩ d2) st

/-- The body's invariant before a point: the scratch vectors at ones reached, the other scoped buffers at anything. -/
def Phi4 (n : ℕ) : sProp 𝕄 :=
  iprop(∃ st : Acc F, ⌜Reach4 c A n st⌝ ∗ owns (c : Thread nD τ) (Memref.whole cc4_scratch0) fullShare st.1
    ∗ owns (c : Thread nD τ) (Memref.whole cc4_scratch1) fullShare st.2.1 ∗ owns (c : Thread nD τ) (Memref.whole cc4_scratch2) fullShare st.2.2
    ∗ Pipeline.scopedRestBut (Ix := Unit) (Name := ℕ) (U := UR sig nD τ) (Lvl := ℕ) (Val := Elt F) spec4 c [cc4_scratch0, cc4_scratch1, cc4_scratch2])

/-- The region's proof data: the inputs left as found; the result, at the last point, made from vectors reached. -/
def data4 : RDat τ (Elt F) Unit ℕ (UR sig nD τ) ℕ cfg4 c where
  A := A
  after w t Y X := match w with
    | ⟨0, _⟩ => X = Y
    | ⟨1, _⟩ => X = Y
    | ⟨2, _⟩ => X = Y
    | ⟨3, _⟩ => t.val = 3 → ∃ st : Acc F, Reach4 c A 4 st ∧ X = out4 st
    | ⟨_ + 4, h⟩ => absurd h (Nat.not_lt.2 (Nat.le_add_left _ _))
  Φ t := Phi4 c A t.val
  q _ := fullShare
  owed _ := 0

theorem defs₀_row4 (t : Fin cfg4.N) : defs₀ (F := F) .tc cfg4.body (cfg4.bodyArgs t (cfg4.slots t)) = bodyAt4 t := by
  unfold defs₀; rw [Defs.onTc_tc]

/-- The body, at every point, keeps the region's data. -/
theorem obligation4 : (data4 (F := F) c A).BodyObligation (defs₀ (F := F)) Variants.none () Set.univ := fun t Y hY => by
  have m0 : ∀ t : Fin cfg4.N, t.val % 4 = 0 ↔ t.val = 0 := fun t => by
    have := t.isLt; have := N_4; have e : cfg4.N = grid4.N := rfl; omega
  obtain ⟨d0, h0⟩ := Common.finds_resident (data4 c A) 0 pos4 rfl (fun t => (fetch4_0 t).trans (m0 t)) (fun _ _ _ h => h) t.val t.isLt _ (hY 0)
  obtain ⟨d1, h1⟩ := ((data4 c A).finds_of_fetch (fetch4_1 t) _).mp (hY 1)
  obtain ⟨d2, h2⟩ := Common.finds_resident (data4 c A) 2 pos4 rfl (fun t => (fetch4_2 t).trans (m0 t)) (fun _ _ _ h => h) t.val t.isLt _ (hY 2)
  rw [bigSep_W4, bigSep_W4, defs₀_row4]
  unfold RDat.owesAt Pipeline.owesWithin
  rw [show (data4 c A).Φ t.castSucc = Phi4 c A t.val from rfl, show (data4 c A).Φ t.succ = Phi4 c A (t.val + 1) from rfl,
    show (data4 c A).owed t.castSucc = 0 from rfl, show (data4 c A).owed t.succ = 0 from rfl]
  unfold Phi4
  iintro ⟨⟨%st, %hst, H5, H6, H7, Hr⟩, ⟨%W, %hW, HO⟩, H1, H2, H3, H4⟩
  have hfl : ¬ (isFirst4 (grid4.coords t) ∧ k4_cond2 (grid4.coords t) = 1#1) := fun h => by
    have e0 := (isFirst4_iff t).mp h.1
    have e1 := (cond4_iff t).mp h.2
    omega
  iapply (run4 c (grid4.coords t) _ _ _ _ _ _ _ _ _ _ _ _ _ _ (Y 0) (Y 1) (Y 2) (Y 3) st hfl _)
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H1, H2, H3, H4, H5, H6, H7⟩
  have hst' : Reach4 c A (t.val + 1) (next4 (grid4.coords t) (Y 0) (Y 1) (Y 2) st) := by
    refine ⟨t.isLt, st, d0, d1, d2, hst, ?_⟩
    rw [h0, h1, h2]; rfl
  isplitl [H5 H6 H7 Hr]
  · iexists _
    isplitr; · ipureintro; exact hst'
    isplitl [H5]; · iexact H5
    isplitl [H6]; · iexact H6
    isplitl [H7]; · iexact H7
    iexact Hr
  isplitl [HO]
  · iexists W
    isplitr; · ipureintro; exact fun _ _ => Or.inl trivial
    iexact HO
  isplitl [H1]
  · iexists (Y 0); isplitr; · ipureintro; exact rfl
    iexact H1
  isplitl [H2]
  · iexists (Y 1); isplitr; · ipureintro; exact rfl
    iexact H2
  isplitl [H3]
  · iexists (Y 2); isplitr; · ipureintro; exact rfl
    iexact H3
  iexists _
  isplitr; swap; · iexact H4
  ipureintro
  intro ht
  rw [if_pos ((cond4_iff t).mpr ht)]
  refine ⟨_, ?_, rfl⟩
  have := hst'
  rw [ht] at this
  exact this

/-- A write-back of the result's one block is the whole array. -/
theorem write4 (t : Fin cfg4.N) (G : Buf (Elt F) ((cfg4.win 3).arr.view.loc (c : Thread nD τ))) (X : (cfg4.win 3).block.Idx → Elt F (cfg4.win 3).elt) :
    ((cfg4.win 3).blk t).view.write (Elt F) G ((cfg4.win 3).cut (cfg4.grid.coords t) X) Finset.univ = X :=
  Memref.write_access_unit_zero_univ (Elt F) main_v52 (funext fun a => by fin_cases a; exact Nat.zero_mul _) _ G X

/-- What the region leaves in its result: made from running vectors reached at the end. -/
theorem arrAt4 (G : Buf (Elt F) ((cfg4.win 3).arr.view.loc (c : Thread nD τ))) (h : (data4 (F := F) c A).ArrAt 3 cfg4.N G) :
    ∃ st : Acc F, Reach4 c A 4 st ∧ G = out4 st := by
  have e : cfg4.N = 3 + 1 := N_4
  have hl : (3 : ℕ) < cfg4.N := by rw [e]; exact Nat.lt_succ_self _
  rw [e, (data4 (F := F) c A).ArrAt_succ 3 ⟨3, hl⟩, if_pos ((flush4_3 ⟨3, hl⟩).mpr rfl)] at h
  obtain ⟨G₀, X, -, ⟨Y, -, hX⟩, rfl⟩ := h
  obtain ⟨st, h1, h2⟩ := hX rfl
  exact ⟨st, h1, (write4 c _ _ _).trans h2⟩

end Region4

end Cert.KernelIdeal.Hand

end
-- ==== Proof.KI.Host.lean ====
/-
  What the host operations leave in the buffers that the kernels read: the clipped relative indices, the head's target,
  the slices of the first product and the rounded weights, whatever the kernels before them left.
-/
module

public import proofs.«01_k».proof.Proof.Gen.KernelIdeal.Regions
public import Idealize.ShloMosaic.Lib.StableHlo.RunRead

@[expose] public section

set_option maxRecDepth 4096

noncomputable section

namespace Cert.KernelIdeal.Hand

open Cert.KernelIdeal Cert.KernelIdeal.Gen
open Idealize.ShloMosaic Idealize.ShloMosaic.TcCoe

variable {F : FTy → Type} [FloatOps F] [Named F]

/-! ## The functions of the target that the host computes -/

/-- A constant index at every row. -/
abbrev fill (n : BitVec 32) : IVec S8192 32 := broadcastInDim S8192 ![] bcast_S_S8192 (constantI S_ 32 n)

/-- A cluster's relative index: the target less the cluster's first class, clipped to the cluster. -/
def relOf (lo hi : BitVec 32) (tgt : IVec S8192 32) : IVec S8192 32 :=
  minsi (fill hi) (maxsi (fill 0#32) (subi tgt (fill lo)))

/-- Whether a target lies in a cluster. -/
def inCluster (lo hi : BitVec 32) (tgt : IVec S8192 32) : IVec S8192 1 :=
  andi (cmpi .sge tgt (fill lo)) (cmpi .slt tgt (fill hi))

/-- The head's own class: the target itself below 2000, a tail cluster's token else. -/
def headOf (tgt : IVec S8192 32) : IVec S8192 32 :=
  select (inCluster 50000#32 100000#32 tgt) (fill 2002#32)
    (select (inCluster 10000#32 50000#32 tgt) (fill 2001#32)
      (select (inCluster 2000#32 10000#32 tgt) (fill 2000#32)
        (select (cmpi .slt tgt (fill 2000#32)) tgt (fill 0#32))))

/-- Zero at every row. -/
abbrev zeros : FVec F S8192 .f32 := broadcastInDim S8192 ![] bcast_S_S8192 (constant S_ .f32 0x00000000#32)

/-- A tail cluster's contribution: the kernel's result on the cluster's rows, zero elsewhere. -/
abbrev onRows (mask : IVec S8192 1) (x : FVec F S8192 .f32) : FVec F S8192 .f32 := select mask x zeros

/-! ## Stretch by stretch -/

section Stretch
variable (V : Valuation τ sig (Elt F))

theorem ops0_v0 : StableHlo.after hostOps0 V (Proc.devRef .tc main_v0) = (truncf .bf16 · bitsLt_bf16_f32) (V (Proc.devRef .tc main_arg4)) := by after_reads_simp
theorem ops0_v1 : StableHlo.after hostOps0 V (Proc.devRef .tc main_v1) = (truncf .bf16 · bitsLt_bf16_f32) (V (Proc.devRef .tc main_arg6)) := by after_reads_simp
theorem ops0_v2 : StableHlo.after hostOps0 V (Proc.devRef .tc main_v2) = (truncf .bf16 · bitsLt_bf16_f32) (V (Proc.devRef .tc main_arg8)) := by after_reads_simp
theorem ops0_v4 : StableHlo.after hostOps0 V (Proc.devRef .tc main_v4) = (truncf .bf16 · bitsLt_bf16_f32) (concatenate S896x1024 0 [⟨S512x1024, (V (Proc.devRef .tc main_arg3))⟩, ⟨S256x1024, (V (Proc.devRef .tc main_arg5))⟩, ⟨S128x1024, (V (Proc.devRef .tc main_arg7))⟩] concatenates_S512x1024_S256x1024_S128x1024_S896x1024_d0) := by after_reads_simp; rfl
theorem ops1_v6 : StableHlo.after hostOps1 V (Proc.devRef .tc main_v6) = (truncf .bf16 · bitsLt_bf16_f32) (V (Proc.devRef .tc main_arg0)) := by after_reads_simp
theorem ops1_v8 : StableHlo.after hostOps1 V (Proc.devRef .tc main_v8) = cmpi .slt (V (Proc.devRef .tc main_arg1)) (fill 2000#32) := by after_reads_simp
theorem ops1_c_0 : StableHlo.after hostOps1 V (Proc.devRef .tc main_c_0) = constantI S_ 32 0#32 := by after_reads_simp
theorem ops11_v9 : StableHlo.after hostOps1_1 V (Proc.devRef .tc main_v9) = select (V (Proc.devRef .tc main_v8)) (V (Proc.devRef .tc main_arg1)) (broadcastInDim S8192 ![] bcast_S_S8192 (V (Proc.devRef .tc main_c_0))) := by after_reads_simp; rfl
theorem ops12_v17 : StableHlo.after hostOps1_2 V (Proc.devRef .tc main_v17) = inCluster 2000#32 10000#32 (V (Proc.devRef .tc main_arg1)) := by after_reads_simp; rfl
theorem ops12_c_3 : StableHlo.after hostOps1_2 V (Proc.devRef .tc main_c_3) = constantI S_ 32 2000#32 := by after_reads_simp
theorem ops12_v12 : StableHlo.after hostOps1_2 V (Proc.devRef .tc main_v12) = zeros := by after_reads_simp
theorem ops13_v18 : StableHlo.after hostOps1_3 V (Proc.devRef .tc main_v18) = select (V (Proc.devRef .tc main_v17)) (broadcastInDim S8192 ![] bcast_S_S8192 (V (Proc.devRef .tc main_c_3))) (V (Proc.devRef .tc main_v9)) := by after_reads_simp; rfl
theorem ops14_v20 : StableHlo.after hostOps1_4 V (Proc.devRef .tc main_v20) = subi (V (Proc.devRef .tc main_arg1)) (fill 2000#32) := by after_reads_simp
theorem ops14_c_5 : StableHlo.after hostOps1_4 V (Proc.devRef .tc main_c_5) = constantI S_ 32 0#32 := by after_reads_simp
theorem ops14_c_6 : StableHlo.after hostOps1_4 V (Proc.devRef .tc main_c_6) = constantI S_ 32 7999#32 := by after_reads_simp
theorem ops15_v21 : StableHlo.after hostOps1_5 V (Proc.devRef .tc main_v21) = minsi (broadcastInDim S8192 ![] bcast_S_S8192 (V (Proc.devRef .tc main_c_6))) (maxsi (broadcastInDim S8192 ![] bcast_S_S8192 (V (Proc.devRef .tc main_c_5))) (V (Proc.devRef .tc main_v20))) := by after_reads_simp; rfl
theorem ops16_v22 : StableHlo.after hostOps1_6 V (Proc.devRef .tc main_v22) = extractStridedSlice S8192x512 ![0, 0] (V (Proc.devRef .tc main_v5)) slices_S8192x896_S8192x512_0_0 := by after_reads_simp
theorem ops2_cst_7 : StableHlo.after hostOps2 V (Proc.devRef .tc main_cst_7) = constant S_ .f32 0x00000000#32 := by after_reads_simp
theorem ops21_v24 : StableHlo.after hostOps2_1 V (Proc.devRef .tc main_v24) = select (V (Proc.devRef .tc main_v17)) (V (Proc.devRef .tc main_v23)) (broadcastInDim S8192 ![] bcast_S_S8192 (V (Proc.devRef .tc main_cst_7))) := by after_reads_simp; rfl
theorem ops22_v25 : StableHlo.after hostOps2_2 V (Proc.devRef .tc main_v25) = addf (V (Proc.devRef .tc main_v12)) (V (Proc.devRef .tc main_v24)) := by after_reads_simp
theorem ops22_v30 : StableHlo.after hostOps2_2 V (Proc.devRef .tc main_v30) = inCluster 10000#32 50000#32 (V (Proc.devRef .tc main_arg1)) := by after_reads_simp; rfl
theorem ops22_c_10 : StableHlo.after hostOps2_2 V (Proc.devRef .tc main_c_10) = constantI S_ 32 2001#32 := by after_reads_simp
theorem ops23_v31 : StableHlo.after hostOps2_3 V (Proc.devRef .tc main_v31) = select (V (Proc.devRef .tc main_v30)) (broadcastInDim S8192 ![] bcast_S_S8192 (V (Proc.devRef .tc main_c_10))) (V (Proc.devRef .tc main_v18)) := by after_reads_simp; rfl
theorem ops24_v33 : StableHlo.after hostOps2_4 V (Proc.devRef .tc main_v33) = subi (V (Proc.devRef .tc main_arg1)) (fill 10000#32) := by after_reads_simp
theorem ops24_c_12 : StableHlo.after hostOps2_4 V (Proc.devRef .tc main_c_12) = constantI S_ 32 0#32 := by after_reads_simp
theorem ops24_c_13 : StableHlo.after hostOps2_4 V (Proc.devRef .tc main_c_13) = constantI S_ 32 39999#32 := by after_reads_simp
theorem ops25_v34 : StableHlo.after hostOps2_5 V (Proc.devRef .tc main_v34) = minsi (broadcastInDim S8192 ![] bcast_S_S8192 (V (Proc.devRef .tc main_c_13))) (maxsi (broadcastInDim S8192 ![] bcast_S_S8192 (V (Proc.devRef .tc main_c_12))) (V (Proc.devRef .tc main_v33))) := by after_reads_simp; rfl
theorem ops26_v35 : StableHlo.after hostOps2_6 V (Proc.devRef .tc main_v35) = extractStridedSlice S8192x256 ![0, 512] (V (Proc.devRef .tc main_v5)) slices_S8192x896_S8192x256_0_512 := by after_reads_simp
theorem ops3_cst_14 : StableHlo.after hostOps3 V (Proc.devRef .tc main_cst_14) = constant S_ .f32 0x00000000#32 := by after_reads_simp
theorem ops31_v37 : StableHlo.after hostOps3_1 V (Proc.devRef .tc main_v37) = select (V (Proc.devRef .tc main_v30)) (V (Proc.devRef .tc main_v36)) (broadcastInDim S8192 ![] bcast_S_S8192 (V (Proc.devRef .tc main_cst_14))) := by after_reads_simp; rfl
theorem ops32_v38 : StableHlo.after hostOps3_2 V (Proc.devRef .tc main_v38) = addf (V (Proc.devRef .tc main_v25)) (V (Proc.devRef .tc main_v37)) := by after_reads_simp
theorem ops32_v43 : StableHlo.after hostOps3_2 V (Proc.devRef .tc main_v43) = inCluster 50000#32 100000#32 (V (Proc.devRef .tc main_arg1)) := by after_reads_simp; rfl
theorem ops32_c_17 : StableHlo.after hostOps3_2 V (Proc.devRef .tc main_c_17) = constantI S_ 32 2002#32 := by after_reads_simp
theorem ops33_v44 : StableHlo.after hostOps3_3 V (Proc.devRef .tc main_v44) = select (V (Proc.devRef .tc main_v43)) (broadcastInDim S8192 ![] bcast_S_S8192 (V (Proc.devRef .tc main_c_17))) (V (Proc.devRef .tc main_v31)) := by after_reads_simp; rfl
theorem ops34_v46 : StableHlo.after hostOps3_4 V (Proc.devRef .tc main_v46) = subi (V (Proc.devRef .tc main_arg1)) (fill 50000#32) := by after_reads_simp
theorem ops34_c_19 : StableHlo.after hostOps3_4 V (Proc.devRef .tc main_c_19) = constantI S_ 32 0#32 := by after_reads_simp
theorem ops34_c_20 : StableHlo.after hostOps3_4 V (Proc.devRef .tc main_c_20) = constantI S_ 32 49999#32 := by after_reads_simp
theorem ops35_v47 : StableHlo.after hostOps3_5 V (Proc.devRef .tc main_v47) = minsi (broadcastInDim S8192 ![] bcast_S_S8192 (V (Proc.devRef .tc main_c_20))) (maxsi (broadcastInDim S8192 ![] bcast_S_S8192 (V (Proc.devRef .tc main_c_19))) (V (Proc.devRef .tc main_v46))) := by after_reads_simp; rfl
theorem ops36_v48 : StableHlo.after hostOps3_6 V (Proc.devRef .tc main_v48) = extractStridedSlice S8192x128 ![0, 768] (V (Proc.devRef .tc main_v5)) slices_S8192x896_S8192x128_0_768 := by after_reads_simp
theorem ops4_cst_21 : StableHlo.after hostOps4 V (Proc.devRef .tc main_cst_21) = constant S_ .f32 0x00000000#32 := by after_reads_simp
theorem ops41_v50 : StableHlo.after hostOps4_1 V (Proc.devRef .tc main_v50) = select (V (Proc.devRef .tc main_v43)) (V (Proc.devRef .tc main_v49)) (broadcastInDim S8192 ![] bcast_S_S8192 (V (Proc.devRef .tc main_cst_21))) := by after_reads_simp; rfl
theorem ops42_v51 : StableHlo.after hostOps4_2 V (Proc.devRef .tc main_v51) = addf (V (Proc.devRef .tc main_v38)) (V (Proc.devRef .tc main_v50)) := by after_reads_simp
theorem ops5_v54 : StableHlo.after hostOps5 V (Proc.devRef .tc main_v54) = Host.negf (addf (V (Proc.devRef .tc main_v51)) (V (Proc.devRef .tc main_v52))) := by after_reads_simp

end Stretch

/-! ## Whatever the kernels leave -/

section Chain
variable (m : (ℓ : Loc nD τ sig) → Buf (Elt F) ℓ) (outs : Outs (F := F)) (c : Dev nD)

/-- The target. -/
abbrev tgtOf : IVec S8192 32 := m ((c : Thread nD τ).loc main_arg1)

theorem left_v5 : V2 m outs c main_v5 = outs 2 main_v5 c := Function.update_self ..
theorem left_v23 : V10 m outs c main_v23 = outs 10 main_v23 c := Function.update_self ..
theorem left_v36 : V18 m outs c main_v36 = outs 18 main_v36 c := Function.update_self ..
theorem left_v49 : V26 m outs c main_v49 = outs 26 main_v49 c := Function.update_self ..
theorem left_v52 : V30 m outs c main_v52 = outs 30 main_v52 c := Function.update_self ..
theorem val_v0 : V1 m c main_v0 = (truncf .bf16 · bitsLt_bf16_f32) (m ((c : Thread nD τ).loc main_arg4)) := ops0_v0 _
theorem val_v1 : V1 m c main_v1 = (truncf .bf16 · bitsLt_bf16_f32) (m ((c : Thread nD τ).loc main_arg6)) := ops0_v1 _
theorem val_v2 : V1 m c main_v2 = (truncf .bf16 · bitsLt_bf16_f32) (m ((c : Thread nD τ).loc main_arg8)) := ops0_v2 _
theorem val_v4 : V1 m c main_v4 = (truncf .bf16 · bitsLt_bf16_f32) (concatenate S896x1024 0 [⟨S512x1024, (m ((c : Thread nD τ).loc main_arg3))⟩, ⟨S256x1024, (m ((c : Thread nD τ).loc main_arg5))⟩, ⟨S128x1024, (m ((c : Thread nD τ).loc main_arg7))⟩] concatenates_S512x1024_S256x1024_S128x1024_S896x1024_d0) := ops0_v4 _
theorem val_v6 : V3 m outs c main_v6 = (truncf .bf16 · bitsLt_bf16_f32) (m ((c : Thread nD τ).loc main_arg0)) := by
  refine (ops1_v6 _).trans ?_
  rw [V2_of m outs c main_arg0 (by decide), V1_of m c main_arg0 (by decide)]
  all_goals rfl
theorem val_v8 : V3 m outs c main_v8 = cmpi .slt (tgtOf m c) (fill 2000#32) := by
  refine (ops1_v8 _).trans ?_
  rw [V2_of m outs c main_arg1 (by decide), V1_of m c main_arg1 (by decide)]
  all_goals rfl
theorem val_c_0 : V3 m outs c main_c_0 = constantI S_ 32 0#32 := ops1_c_0 _
theorem val_v9 : V4 m outs c main_v9 = select (cmpi .slt (tgtOf m c) (fill 2000#32)) (tgtOf m c) (fill 0#32) := by
  refine (ops11_v9 _).trans ?_
  rw [val_v8, V3_of m outs c main_arg1 (by decide), V2_of m outs c main_arg1 (by decide), V1_of m c main_arg1 (by decide), val_c_0]
  all_goals rfl
theorem val_v17 : V5 m outs c main_v17 = inCluster 2000#32 10000#32 (tgtOf m c) := by
  refine (ops12_v17 _).trans ?_
  rw [V4_of m outs c main_arg1 (by decide), V3_of m outs c main_arg1 (by decide), V2_of m outs c main_arg1 (by decide), V1_of m c main_arg1 (by decide)]
  all_goals rfl
theorem val_c_3 : V5 m outs c main_c_3 = constantI S_ 32 2000#32 := ops12_c_3 _
theorem val_v12 : V5 m outs c main_v12 = zeros := ops12_v12 _
theorem val_v18 : V6 m outs c main_v18 = select (inCluster 2000#32 10000#32 (tgtOf m c)) (fill 2000#32) (select (cmpi .slt (tgtOf m c) (fill 2000#32)) (tgtOf m c) (fill 0#32)) := by
  refine (ops13_v18 _).trans ?_
  rw [val_v17, val_c_3, V5_of m outs c main_v9 (by decide), val_v9]
theorem val_v20 : V7 m outs c main_v20 = subi (tgtOf m c) (fill 2000#32) := by
  refine (ops14_v20 _).trans ?_
  rw [V6_of m outs c main_arg1 (by decide), V5_of m outs c main_arg1 (by decide), V4_of m outs c main_arg1 (by decide), V3_of m outs c main_arg1 (by decide), V2_of m outs c main_arg1 (by decide), V1_of m c main_arg1 (by decide)]
  all_goals rfl
theorem val_c_5 : V7 m outs c main_c_5 = constantI S_ 32 0#32 := ops14_c_5 _
theorem val_c_6 : V7 m outs c main_c_6 = constantI S_ 32 7999#32 := ops14_c_6 _
theorem val_v21 : V8 m outs c main_v21 = relOf 2000#32 7999#32 (tgtOf m c) := by
  refine (ops15_v21 _).trans ?_
  rw [val_c_6, val_c_5, val_v20]
  all_goals rfl
theorem val_v33 : V15 m outs c main_v33 = subi (tgtOf m c) (fill 10000#32) := by
  refine (ops24_v33 _).trans ?_
  rw [V14_of m outs c main_arg1 (by decide), V13_of m outs c main_arg1 (by decide), V12_of m outs c main_arg1 (by decide), V11_of m outs c main_arg1 (by decide), V10_of m outs c main_arg1 (by decide), V9_of m outs c main_arg1 (by decide), V8_of m outs c main_arg1 (by decide), V7_of m outs c main_arg1 (by decide), V6_of m outs c main_arg1 (by decide), V5_of m outs c main_arg1 (by decide), V4_of m outs c main_arg1 (by decide), V3_of m outs c main_arg1 (by decide), V2_of m outs c main_arg1 (by decide), V1_of m c main_arg1 (by decide)]
  all_goals rfl
theorem val_c_12 : V15 m outs c main_c_12 = constantI S_ 32 0#32 := ops24_c_12 _
theorem val_c_13 : V15 m outs c main_c_13 = constantI S_ 32 39999#32 := ops24_c_13 _
theorem val_v34 : V16 m outs c main_v34 = relOf 10000#32 39999#32 (tgtOf m c) := by
  refine (ops25_v34 _).trans ?_
  rw [val_c_13, val_c_12, val_v33]
  all_goals rfl
theorem val_v46 : V23 m outs c main_v46 = subi (tgtOf m c) (fill 50000#32) := by
  refine (ops34_v46 _).trans ?_
  rw [V22_of m outs c main_arg1 (by decide), V21_of m outs c main_arg1 (by decide), V20_of m outs c main_arg1 (by decide), V19_of m outs c main_arg1 (by decide), V18_of m outs c main_arg1 (by decide), V17_of m outs c main_arg1 (by decide), V16_of m outs c main_arg1 (by decide), V15_of m outs c main_arg1 (by decide), V14_of m outs c main_arg1 (by decide), V13_of m outs c main_arg1 (by decide), V12_of m outs c main_arg1 (by decide), V11_of m outs c main_arg1 (by decide), V10_of m outs c main_arg1 (by decide), V9_of m outs c main_arg1 (by decide), V8_of m outs c main_arg1 (by decide), V7_of m outs c main_arg1 (by decide), V6_of m outs c main_arg1 (by decide), V5_of m outs c main_arg1 (by decide), V4_of m outs c main_arg1 (by decide), V3_of m outs c main_arg1 (by decide), V2_of m outs c main_arg1 (by decide), V1_of m c main_arg1 (by decide)]
  all_goals rfl
theorem val_c_19 : V23 m outs c main_c_19 = constantI S_ 32 0#32 := ops34_c_19 _
theorem val_c_20 : V23 m outs c main_c_20 = constantI S_ 32 49999#32 := ops34_c_20 _
theorem val_v47 : V24 m outs c main_v47 = relOf 50000#32 49999#32 (tgtOf m c) := by
  refine (ops35_v47 _).trans ?_
  rw [val_c_20, val_c_19, val_v46]
  all_goals rfl
theorem val_v22 : V9 m outs c main_v22 = extractStridedSlice S8192x512 ![0, 0] (outs 2 main_v5 c) slices_S8192x896_S8192x512_0_0 := by
  refine (ops16_v22 _).trans ?_
  rw [V8_of m outs c main_v5 (by decide), V7_of m outs c main_v5 (by decide), V6_of m outs c main_v5 (by decide), V5_of m outs c main_v5 (by decide), V4_of m outs c main_v5 (by decide), V3_of m outs c main_v5 (by decide), left_v5]
theorem val_v35 : V17 m outs c main_v35 = extractStridedSlice S8192x256 ![0, 512] (outs 2 main_v5 c) slices_S8192x896_S8192x256_0_512 := by
  refine (ops26_v35 _).trans ?_
  rw [V16_of m outs c main_v5 (by decide), V15_of m outs c main_v5 (by decide), V14_of m outs c main_v5 (by decide), V13_of m outs c main_v5 (by decide), V12_of m outs c main_v5 (by decide), V11_of m outs c main_v5 (by decide), V10_of m outs c main_v5 (by decide), V9_of m outs c main_v5 (by decide), V8_of m outs c main_v5 (by decide), V7_of m outs c main_v5 (by decide), V6_of m outs c main_v5 (by decide), V5_of m outs c main_v5 (by decide), V4_of m outs c main_v5 (by decide), V3_of m outs c main_v5 (by decide), left_v5]
theorem val_v48 : V25 m outs c main_v48 = extractStridedSlice S8192x128 ![0, 768] (outs 2 main_v5 c) slices_S8192x896_S8192x128_0_768 := by
  refine (ops36_v48 _).trans ?_
  rw [V24_of m outs c main_v5 (by decide), V23_of m outs c main_v5 (by decide), V22_of m outs c main_v5 (by decide), V21_of m outs c main_v5 (by decide), V20_of m outs c main_v5 (by decide), V19_of m outs c main_v5 (by decide), V18_of m outs c main_v5 (by decide), V17_of m outs c main_v5 (by decide), V16_of m outs c main_v5 (by decide), V15_of m outs c main_v5 (by decide), V14_of m outs c main_v5 (by decide), V13_of m outs c main_v5 (by decide), V12_of m outs c main_v5 (by decide), V11_of m outs c main_v5 (by decide), V10_of m outs c main_v5 (by decide), V9_of m outs c main_v5 (by decide), V8_of m outs c main_v5 (by decide), V7_of m outs c main_v5 (by decide), V6_of m outs c main_v5 (by decide), V5_of m outs c main_v5 (by decide), V4_of m outs c main_v5 (by decide), V3_of m outs c main_v5 (by decide), left_v5]
theorem val_v30 : V13 m outs c main_v30 = inCluster 10000#32 50000#32 (tgtOf m c) := by
  refine (ops22_v30 _).trans ?_
  rw [V12_of m outs c main_arg1 (by decide), V11_of m outs c main_arg1 (by decide), V10_of m outs c main_arg1 (by decide), V9_of m outs c main_arg1 (by decide), V8_of m outs c main_arg1 (by decide), V7_of m outs c main_arg1 (by decide), V6_of m outs c main_arg1 (by decide), V5_of m outs c main_arg1 (by decide), V4_of m outs c main_arg1 (by decide), V3_of m outs c main_arg1 (by decide), V2_of m outs c main_arg1 (by decide), V1_of m c main_arg1 (by decide)]
  all_goals rfl
theorem val_c_10 : V13 m outs c main_c_10 = constantI S_ 32 2001#32 := ops22_c_10 _
theorem val_v43 : V21 m outs c main_v43 = inCluster 50000#32 100000#32 (tgtOf m c) := by
  refine (ops32_v43 _).trans ?_
  rw [V20_of m outs c main_arg1 (by decide), V19_of m outs c main_arg1 (by decide), V18_of m outs c main_arg1 (by decide), V17_of m outs c main_arg1 (by decide), V16_of m outs c main_arg1 (by decide), V15_of m outs c main_arg1 (by decide), V14_of m outs c main_arg1 (by decide), V13_of m outs c main_arg1 (by decide), V12_of m outs c main_arg1 (by decide), V11_of m outs c main_arg1 (by decide), V10_of m outs c main_arg1 (by decide), V9_of m outs c main_arg1 (by decide), V8_of m outs c main_arg1 (by decide), V7_of m outs c main_arg1 (by decide), V6_of m outs c main_arg1 (by decide), V5_of m outs c main_arg1 (by decide), V4_of m outs c main_arg1 (by decide), V3_of m outs c main_arg1 (by decide), V2_of m outs c main_arg1 (by decide), V1_of m c main_arg1 (by decide)]
  all_goals rfl
theorem val_c_17 : V21 m outs c main_c_17 = constantI S_ 32 2002#32 := ops32_c_17 _
theorem val_v31 : V14 m outs c main_v31 = select (inCluster 10000#32 50000#32 (tgtOf m c)) (fill 2001#32) (select (inCluster 2000#32 10000#32 (tgtOf m c)) (fill 2000#32) (select (cmpi .slt (tgtOf m c) (fill 2000#32)) (tgtOf m c) (fill 0#32))) := by
  refine (ops23_v31 _).trans ?_
  rw [val_v30, val_c_10, V13_of m outs c main_v18 (by decide), V12_of m outs c main_v18 (by decide), V11_of m outs c main_v18 (by decide), V10_of m outs c main_v18 (by decide), V9_of m outs c main_v18 (by decide), V8_of m outs c main_v18 (by decide), V7_of m outs c main_v18 (by decide), val_v18]
theorem val_v44 : V22 m outs c main_v44 = headOf (tgtOf m c) := by
  refine (ops33_v44 _).trans ?_
  rw [val_v43, val_c_17, V21_of m outs c main_v31 (by decide), V20_of m outs c main_v31 (by decide), V19_of m outs c main_v31 (by decide), V18_of m outs c main_v31 (by decide), V17_of m outs c main_v31 (by decide), V16_of m outs c main_v31 (by decide), V15_of m outs c main_v31 (by decide), val_v31]
  all_goals rfl
theorem val_cst_7 : V11 m outs c main_cst_7 = constant S_ .f32 0x00000000#32 := ops2_cst_7 _
theorem val_cst_14 : V19 m outs c main_cst_14 = constant S_ .f32 0x00000000#32 := ops3_cst_14 _
theorem val_cst_21 : V27 m outs c main_cst_21 = constant S_ .f32 0x00000000#32 := ops4_cst_21 _
theorem val_v24 : V12 m outs c main_v24 = onRows (inCluster 2000#32 10000#32 (tgtOf m c)) (outs 10 main_v23 c) := by
  refine (ops21_v24 _).trans ?_
  rw [V11_of m outs c main_v17 (by decide), V10_of m outs c main_v17 (by decide), V9_of m outs c main_v17 (by decide), V8_of m outs c main_v17 (by decide), V7_of m outs c main_v17 (by decide), V6_of m outs c main_v17 (by decide), val_v17, V11_of m outs c main_v23 (by decide), left_v23, val_cst_7]
theorem val_v37 : V20 m outs c main_v37 = onRows (inCluster 10000#32 50000#32 (tgtOf m c)) (outs 18 main_v36 c) := by
  refine (ops31_v37 _).trans ?_
  rw [V19_of m outs c main_v30 (by decide), V18_of m outs c main_v30 (by decide), V17_of m outs c main_v30 (by decide), V16_of m outs c main_v30 (by decide), V15_of m outs c main_v30 (by decide), V14_of m outs c main_v30 (by decide), val_v30, V19_of m outs c main_v36 (by decide), left_v36, val_cst_14]
theorem val_v50 : V28 m outs c main_v50 = onRows (inCluster 50000#32 100000#32 (tgtOf m c)) (outs 26 main_v49 c) := by
  refine (ops41_v50 _).trans ?_
  rw [V27_of m outs c main_v43 (by decide), V26_of m outs c main_v43 (by decide), V25_of m outs c main_v43 (by decide), V24_of m outs c main_v43 (by decide), V23_of m outs c main_v43 (by decide), V22_of m outs c main_v43 (by decide), val_v43, V27_of m outs c main_v49 (by decide), left_v49, val_cst_21]
theorem val_v25 : V13 m outs c main_v25 = addf zeros (onRows (inCluster 2000#32 10000#32 (tgtOf m c)) (outs 10 main_v23 c)) := by
  refine (ops22_v25 _).trans ?_
  rw [V12_of m outs c main_v12 (by decide), V11_of m outs c main_v12 (by decide), V10_of m outs c main_v12 (by decide), V9_of m outs c main_v12 (by decide), V8_of m outs c main_v12 (by decide), V7_of m outs c main_v12 (by decide), V6_of m outs c main_v12 (by decide), val_v12, val_v24]
theorem val_v38 : V21 m outs c main_v38 = addf (addf zeros (onRows (inCluster 2000#32 10000#32 (tgtOf m c)) (outs 10 main_v23 c))) (onRows (inCluster 10000#32 50000#32 (tgtOf m c)) (outs 18 main_v36 c)) := by
  refine (ops32_v38 _).trans ?_
  rw [V20_of m outs c main_v25 (by decide), V19_of m outs c main_v25 (by decide), V18_of m outs c main_v25 (by decide), V17_of m outs c main_v25 (by decide), V16_of m outs c main_v25 (by decide), V15_of m outs c main_v25 (by decide), V14_of m outs c main_v25 (by decide), val_v25, val_v37]
theorem val_v51 : V29 m outs c main_v51 = addf (addf (addf zeros (onRows (inCluster 2000#32 10000#32 (tgtOf m c)) (outs 10 main_v23 c))) (onRows (inCluster 10000#32 50000#32 (tgtOf m c)) (outs 18 main_v36 c))) (onRows (inCluster 50000#32 100000#32 (tgtOf m c)) (outs 26 main_v49 c)) := by
  refine (ops42_v51 _).trans ?_
  rw [V28_of m outs c main_v38 (by decide), V27_of m outs c main_v38 (by decide), V26_of m outs c main_v38 (by decide), V25_of m outs c main_v38 (by decide), V24_of m outs c main_v38 (by decide), V23_of m outs c main_v38 (by decide), V22_of m outs c main_v38 (by decide), val_v38, val_v50]
/-- The whole program's result, from what its kernels left. -/
theorem val_v54 : V31 m outs c main_v54 = Host.negf (addf (addf (addf (addf zeros (onRows (inCluster 2000#32 10000#32 (tgtOf m c)) (outs 10 main_v23 c))) (onRows (inCluster 10000#32 50000#32 (tgtOf m c)) (outs 18 main_v36 c))) (onRows (inCluster 50000#32 100000#32 (tgtOf m c)) (outs 26 main_v49 c))) (outs 30 main_v52 c)) := by
  refine (ops5_v54 _).trans ?_
  rw [V30_of m outs c main_v51 (by decide), val_v51, left_v52]

/-! ## At each kernel's entry -/

theorem entry0_arg0 : V1 m c main_arg0 = (m ((c : Thread nD τ).loc main_arg0)) :=
  (V1_of m c main_arg0 (by decide)).trans <| rfl
theorem entry0_v4 : V1 m c main_v4 = (truncf .bf16 · bitsLt_bf16_f32) (concatenate S896x1024 0 [⟨S512x1024, (m ((c : Thread nD τ).loc main_arg3))⟩, ⟨S256x1024, (m ((c : Thread nD τ).loc main_arg5))⟩, ⟨S128x1024, (m ((c : Thread nD τ).loc main_arg7))⟩] concatenates_S512x1024_S256x1024_S128x1024_S896x1024_d0) :=
  val_v4 m c
theorem entry0_v5 : V1 m c main_v5 = (m ((c : Thread nD τ).loc main_v5)) :=
  (V1_of m c main_v5 (by decide)).trans <| rfl
theorem entry1_v22 : V9 m outs c main_v22 = extractStridedSlice S8192x512 ![0, 0] (outs 2 main_v5 c) slices_S8192x896_S8192x512_0_0 :=
  val_v22 m outs c
theorem entry1_v0 : V9 m outs c main_v0 = (truncf .bf16 · bitsLt_bf16_f32) (m ((c : Thread nD τ).loc main_arg4)) :=
  (V9_of m outs c main_v0 (by decide)).trans <| (V8_of m outs c main_v0 (by decide)).trans <| (V7_of m outs c main_v0 (by decide)).trans <| (V6_of m outs c main_v0 (by decide)).trans <| (V5_of m outs c main_v0 (by decide)).trans <| (V4_of m outs c main_v0 (by decide)).trans <| (V3_of m outs c main_v0 (by decide)).trans <| (V2_of m outs c main_v0 (by decide)).trans <| val_v0 m c
theorem entry1_v21 : V9 m outs c main_v21 = relOf 2000#32 7999#32 (tgtOf m c) :=
  (V9_of m outs c main_v21 (by decide)).trans <| val_v21 m outs c
theorem entry1_v23 : V9 m outs c main_v23 = (m ((c : Thread nD τ).loc main_v23)) :=
  (V9_of m outs c main_v23 (by decide)).trans <| (V8_of m outs c main_v23 (by decide)).trans <| (V7_of m outs c main_v23 (by decide)).trans <| (V6_of m outs c main_v23 (by decide)).trans <| (V5_of m outs c main_v23 (by decide)).trans <| (V4_of m outs c main_v23 (by decide)).trans <| (V3_of m outs c main_v23 (by decide)).trans <| (V2_of m outs c main_v23 (by decide)).trans <| (V1_of m c main_v23 (by decide)).trans <| rfl
theorem entry2_v35 : V17 m outs c main_v35 = extractStridedSlice S8192x256 ![0, 512] (outs 2 main_v5 c) slices_S8192x896_S8192x256_0_512 :=
  val_v35 m outs c
theorem entry2_v1 : V17 m outs c main_v1 = (truncf .bf16 · bitsLt_bf16_f32) (m ((c : Thread nD τ).loc main_arg6)) :=
  (V17_of m outs c main_v1 (by decide)).trans <| (V16_of m outs c main_v1 (by decide)).trans <| (V15_of m outs c main_v1 (by decide)).trans <| (V14_of m outs c main_v1 (by decide)).trans <| (V13_of m outs c main_v1 (by decide)).trans <| (V12_of m outs c main_v1 (by decide)).trans <| (V11_of m outs c main_v1 (by decide)).trans <| (V10_of m outs c main_v1 (by decide)).trans <| (V9_of m outs c main_v1 (by decide)).trans <| (V8_of m outs c main_v1 (by decide)).trans <| (V7_of m outs c main_v1 (by decide)).trans <| (V6_of m outs c main_v1 (by decide)).trans <| (V5_of m outs c main_v1 (by decide)).trans <| (V4_of m outs c main_v1 (by decide)).trans <| (V3_of m outs c main_v1 (by decide)).trans <| (V2_of m outs c main_v1 (by decide)).trans <| val_v1 m c
theorem entry2_v34 : V17 m outs c main_v34 = relOf 10000#32 39999#32 (tgtOf m c) :=
  (V17_of m outs c main_v34 (by decide)).trans <| val_v34 m outs c
theorem entry2_v36 : V17 m outs c main_v36 = (m ((c : Thread nD τ).loc main_v36)) :=
  (V17_of m outs c main_v36 (by decide)).trans <| (V16_of m outs c main_v36 (by decide)).trans <| (V15_of m outs c main_v36 (by decide)).trans <| (V14_of m outs c main_v36 (by decide)).trans <| (V13_of m outs c main_v36 (by decide)).trans <| (V12_of m outs c main_v36 (by decide)).trans <| (V11_of m outs c main_v36 (by decide)).trans <| (V10_of m outs c main_v36 (by decide)).trans <| (V9_of m outs c main_v36 (by decide)).trans <| (V8_of m outs c main_v36 (by decide)).trans <| (V7_of m outs c main_v36 (by decide)).trans <| (V6_of m outs c main_v36 (by decide)).trans <| (V5_of m outs c main_v36 (by decide)).trans <| (V4_of m outs c main_v36 (by decide)).trans <| (V3_of m outs c main_v36 (by decide)).trans <| (V2_of m outs c main_v36 (by decide)).trans <| (V1_of m c main_v36 (by decide)).trans <| rfl
theorem entry3_v48 : V25 m outs c main_v48 = extractStridedSlice S8192x128 ![0, 768] (outs 2 main_v5 c) slices_S8192x896_S8192x128_0_768 :=
  val_v48 m outs c
theorem entry3_v2 : V25 m outs c main_v2 = (truncf .bf16 · bitsLt_bf16_f32) (m ((c : Thread nD τ).loc main_arg8)) :=
  (V25_of m outs c main_v2 (by decide)).trans <| (V24_of m outs c main_v2 (by decide)).trans <| (V23_of m outs c main_v2 (by decide)).trans <| (V22_of m outs c main_v2 (by decide)).trans <| (V21_of m outs c main_v2 (by decide)).trans <| (V20_of m outs c main_v2 (by decide)).trans <| (V19_of m outs c main_v2 (by decide)).trans <| (V18_of m outs c main_v2 (by decide)).trans <| (V17_of m outs c main_v2 (by decide)).trans <| (V16_of m outs c main_v2 (by decide)).trans <| (V15_of m outs c main_v2 (by decide)).trans <| (V14_of m outs c main_v2 (by decide)).trans <| (V13_of m outs c main_v2 (by decide)).trans <| (V12_of m outs c main_v2 (by decide)).trans <| (V11_of m outs c main_v2 (by decide)).trans <| (V10_of m outs c main_v2 (by decide)).trans <| (V9_of m outs c main_v2 (by decide)).trans <| (V8_of m outs c main_v2 (by decide)).trans <| (V7_of m outs c main_v2 (by decide)).trans <| (V6_of m outs c main_v2 (by decide)).trans <| (V5_of m outs c main_v2 (by decide)).trans <| (V4_of m outs c main_v2 (by decide)).trans <| (V3_of m outs c main_v2 (by decide)).trans <| (V2_of m outs c main_v2 (by decide)).trans <| val_v2 m c
theorem entry3_v47 : V25 m outs c main_v47 = relOf 50000#32 49999#32 (tgtOf m c) :=
  (V25_of m outs c main_v47 (by decide)).trans <| val_v47 m outs c
theorem entry3_v49 : V25 m outs c main_v49 = (m ((c : Thread nD τ).loc main_v49)) :=
  (V25_of m outs c main_v49 (by decide)).trans <| (V24_of m outs c main_v49 (by decide)).trans <| (V23_of m outs c main_v49 (by decide)).trans <| (V22_of m outs c main_v49 (by decide)).trans <| (V21_of m outs c main_v49 (by decide)).trans <| (V20_of m outs c main_v49 (by decide)).trans <| (V19_of m outs c main_v49 (by decide)).trans <| (V18_of m outs c main_v49 (by decide)).trans <| (V17_of m outs c main_v49 (by decide)).trans <| (V16_of m outs c main_v49 (by decide)).trans <| (V15_of m outs c main_v49 (by decide)).trans <| (V14_of m outs c main_v49 (by decide)).trans <| (V13_of m outs c main_v49 (by decide)).trans <| (V12_of m outs c main_v49 (by decide)).trans <| (V11_of m outs c main_v49 (by decide)).trans <| (V10_of m outs c main_v49 (by decide)).trans <| (V9_of m outs c main_v49 (by decide)).trans <| (V8_of m outs c main_v49 (by decide)).trans <| (V7_of m outs c main_v49 (by decide)).trans <| (V6_of m outs c main_v49 (by decide)).trans <| (V5_of m outs c main_v49 (by decide)).trans <| (V4_of m outs c main_v49 (by decide)).trans <| (V3_of m outs c main_v49 (by decide)).trans <| (V2_of m outs c main_v49 (by decide)).trans <| (V1_of m c main_v49 (by decide)).trans <| rfl
theorem entry4_v6 : V29 m outs c main_v6 = (truncf .bf16 · bitsLt_bf16_f32) (m ((c : Thread nD τ).loc main_arg0)) :=
  (V29_of m outs c main_v6 (by decide)).trans <| (V28_of m outs c main_v6 (by decide)).trans <| (V27_of m outs c main_v6 (by decide)).trans <| (V26_of m outs c main_v6 (by decide)).trans <| (V25_of m outs c main_v6 (by decide)).trans <| (V24_of m outs c main_v6 (by decide)).trans <| (V23_of m outs c main_v6 (by decide)).trans <| (V22_of m outs c main_v6 (by decide)).trans <| (V21_of m outs c main_v6 (by decide)).trans <| (V20_of m outs c main_v6 (by decide)).trans <| (V19_of m outs c main_v6 (by decide)).trans <| (V18_of m outs c main_v6 (by decide)).trans <| (V17_of m outs c main_v6 (by decide)).trans <| (V16_of m outs c main_v6 (by decide)).trans <| (V15_of m outs c main_v6 (by decide)).trans <| (V14_of m outs c main_v6 (by decide)).trans <| (V13_of m outs c main_v6 (by decide)).trans <| (V12_of m outs c main_v6 (by decide)).trans <| (V11_of m outs c main_v6 (by decide)).trans <| (V10_of m outs c main_v6 (by decide)).trans <| (V9_of m outs c main_v6 (by decide)).trans <| (V8_of m outs c main_v6 (by decide)).trans <| (V7_of m outs c main_v6 (by decide)).trans <| (V6_of m outs c main_v6 (by decide)).trans <| (V5_of m outs c main_v6 (by decide)).trans <| (V4_of m outs c main_v6 (by decide)).trans <| val_v6 m outs c
theorem entry4_arg2 : V29 m outs c main_arg2 = (m ((c : Thread nD τ).loc main_arg2)) :=
  (V29_of m outs c main_arg2 (by decide)).trans <| (V28_of m outs c main_arg2 (by decide)).trans <| (V27_of m outs c main_arg2 (by decide)).trans <| (V26_of m outs c main_arg2 (by decide)).trans <| (V25_of m outs c main_arg2 (by decide)).trans <| (V24_of m outs c main_arg2 (by decide)).trans <| (V23_of m outs c main_arg2 (by decide)).trans <| (V22_of m outs c main_arg2 (by decide)).trans <| (V21_of m outs c main_arg2 (by decide)).trans <| (V20_of m outs c main_arg2 (by decide)).trans <| (V19_of m outs c main_arg2 (by decide)).trans <| (V18_of m outs c main_arg2 (by decide)).trans <| (V17_of m outs c main_arg2 (by decide)).trans <| (V16_of m outs c main_arg2 (by decide)).trans <| (V15_of m outs c main_arg2 (by decide)).trans <| (V14_of m outs c main_arg2 (by decide)).trans <| (V13_of m outs c main_arg2 (by decide)).trans <| (V12_of m outs c main_arg2 (by decide)).trans <| (V11_of m outs c main_arg2 (by decide)).trans <| (V10_of m outs c main_arg2 (by decide)).trans <| (V9_of m outs c main_arg2 (by decide)).trans <| (V8_of m outs c main_arg2 (by decide)).trans <| (V7_of m outs c main_arg2 (by decide)).trans <| (V6_of m outs c main_arg2 (by decide)).trans <| (V5_of m outs c main_arg2 (by decide)).trans <| (V4_of m outs c main_arg2 (by decide)).trans <| (V3_of m outs c main_arg2 (by decide)).trans <| (V2_of m outs c main_arg2 (by decide)).trans <| (V1_of m c main_arg2 (by decide)).trans <| rfl
theorem entry4_v44 : V29 m outs c main_v44 = headOf (tgtOf m c) :=
  (V29_of m outs c main_v44 (by decide)).trans <| (V28_of m outs c main_v44 (by decide)).trans <| (V27_of m outs c main_v44 (by decide)).trans <| (V26_of m outs c main_v44 (by decide)).trans <| (V25_of m outs c main_v44 (by decide)).trans <| (V24_of m outs c main_v44 (by decide)).trans <| (V23_of m outs c main_v44 (by decide)).trans <| val_v44 m outs c
theorem entry4_v52 : V29 m outs c main_v52 = (m ((c : Thread nD τ).loc main_v52)) :=
  (V29_of m outs c main_v52 (by decide)).trans <| (V28_of m outs c main_v52 (by decide)).trans <| (V27_of m outs c main_v52 (by decide)).trans <| (V26_of m outs c main_v52 (by decide)).trans <| (V25_of m outs c main_v52 (by decide)).trans <| (V24_of m outs c main_v52 (by decide)).trans <| (V23_of m outs c main_v52 (by decide)).trans <| (V22_of m outs c main_v52 (by decide)).trans <| (V21_of m outs c main_v52 (by decide)).trans <| (V20_of m outs c main_v52 (by decide)).trans <| (V19_of m outs c main_v52 (by decide)).trans <| (V18_of m outs c main_v52 (by decide)).trans <| (V17_of m outs c main_v52 (by decide)).trans <| (V16_of m outs c main_v52 (by decide)).trans <| (V15_of m outs c main_v52 (by decide)).trans <| (V14_of m outs c main_v52 (by decide)).trans <| (V13_of m outs c main_v52 (by decide)).trans <| (V12_of m outs c main_v52 (by decide)).trans <| (V11_of m outs c main_v52 (by decide)).trans <| (V10_of m outs c main_v52 (by decide)).trans <| (V9_of m outs c main_v52 (by decide)).trans <| (V8_of m outs c main_v52 (by decide)).trans <| (V7_of m outs c main_v52 (by decide)).trans <| (V6_of m outs c main_v52 (by decide)).trans <| (V5_of m outs c main_v52 (by decide)).trans <| (V4_of m outs c main_v52 (by decide)).trans <| (V3_of m outs c main_v52 (by decide)).trans <| (V2_of m outs c main_v52 (by decide)).trans <| (V1_of m c main_v52 (by decide)).trans <| rfl

end Chain

end Cert.KernelIdeal.Hand

end
-- ==== Proof.KI.Regs.lean ====
/-
  The five kernel regions as segments of the launch: what each reads is what the host stretches and the product left, and what each
  leaves is the product (region 0) or a vector made from running vectors reached at its last point (regions 1 to 4).
-/
module

public import proofs.«01_k».proof.Proof.KI.Data
public import proofs.«01_k».proof.Proof.KI.Host
public import proofs.«01_k».proof.Proof.Gen.KernelIdeal.Regions

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Rounds
open Idealize.ShloMosaic.Pipeline (Dat RDat HostSeg)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## What the regions leave -/

variable (m : (ℓ : Loc nD τ sig) → Buf (Elt F) ℓ)

/-- The regions' results with the one of item `J` in `r` on core `c` replaced. -/
def put (o : Outs (F := F)) (J : ℕ) (r : Ref sig .tc) (c : Dev nD) (G : Buf (Elt F) ((c : Thread nD τ).loc r)) : Outs (F := F) :=
  Function.update o J (Function.update (o J) r (Function.update (o J r) c G))

theorem put_self (o : Outs (F := F)) (J : ℕ) (r : Ref sig .tc) (c : Dev nD) (G : Buf (Elt F) ((c : Thread nD τ).loc r)) :
    put o J r c G J r c = G := by
  unfold put; rw [Function.update_self, Function.update_self, Function.update_self]

theorem put_ne (o : Outs (F := F)) (J J' : ℕ) (h : J' ≠ J) (r : Ref sig .tc) (c : Dev nD) (G : Buf (Elt F) ((c : Thread nD τ).loc r)) :
    put o J r c G J' = o J' := by
  unfold put; rw [Function.update_of_ne h]

/-- The contents before a region depend on the results of the regions before it only. -/
theorem V9_congr (o o' : Outs (F := F)) (c : Dev nD) (h : o 2 main_v5 c = o' 2 main_v5 c) : V9 m o c = V9 m o' c :=
  congrArg (fun x => StableHlo.after hostOps1_6 (StableHlo.after hostOps1_5 (StableHlo.after hostOps1_4 (StableHlo.after hostOps1_3
    (StableHlo.after hostOps1_2 (StableHlo.after hostOps1_1 (StableHlo.after hostOps1 (Function.update (V1 m c) main_v5 x)))))))) h

theorem V17_congr (o o' : Outs (F := F)) (c : Dev nD) (h : o 2 main_v5 c = o' 2 main_v5 c) (h1 : o 10 main_v23 c = o' 10 main_v23 c) :
    V17 m o c = V17 m o' c :=
  congrArg₂ (fun (z : Valuation τ sig (Elt F)) x => StableHlo.after hostOps2_6 (StableHlo.after hostOps2_5 (StableHlo.after hostOps2_4 (StableHlo.after hostOps2_3
    (StableHlo.after hostOps2_2 (StableHlo.after hostOps2_1 (StableHlo.after hostOps2 (Function.update z main_v23 x)))))))) (V9_congr m o o' c h) h1

theorem V25_congr (o o' : Outs (F := F)) (c : Dev nD) (h : o 2 main_v5 c = o' 2 main_v5 c) (h1 : o 10 main_v23 c = o' 10 main_v23 c)
    (h2 : o 18 main_v36 c = o' 18 main_v36 c) : V25 m o c = V25 m o' c :=
  congrArg₂ (fun (z : Valuation τ sig (Elt F)) x => StableHlo.after hostOps3_6 (StableHlo.after hostOps3_5 (StableHlo.after hostOps3_4 (StableHlo.after hostOps3_3
    (StableHlo.after hostOps3_2 (StableHlo.after hostOps3_1 (StableHlo.after hostOps3 (Function.update z main_v36 x)))))))) (V17_congr m o o' c h h1) h2

theorem V29_congr (o o' : Outs (F := F)) (c : Dev nD) (h : o 2 main_v5 c = o' 2 main_v5 c) (h1 : o 10 main_v23 c = o' 10 main_v23 c)
    (h2 : o 18 main_v36 c = o' 18 main_v36 c) (h3 : o 26 main_v49 c = o' 26 main_v49 c) : V29 m o c = V29 m o' c :=
  congrArg₂ (fun (z : Valuation τ sig (Elt F)) x => StableHlo.after hostOps4_2 (StableHlo.after hostOps4_1 (StableHlo.after hostOps4 (Function.update z main_v49 x))))
    (V25_congr m o o' c h h1 h2) h3

/-- The arrays the product reads and writes, before it. -/
def arrs0 (c : Dev nD) (w : Fin cfg0.W) : Buf (Elt F) ((cfg0.win w).arr.view.loc (c : Thread nD τ)) := V1 m c (Proc.devRef .tc (Pipeline.arrRef spec0 w))

theorem arrs0_eq (c : Dev nD) (w : Fin cfg0.W) : (data0 c (arrs0 m c)).toR.A w = V1 m c (Proc.devRef .tc (Pipeline.arrRef spec0 w)) := by
  fin_cases w <;> rfl

/-- The product, as the region leaves it. -/
def prod (c : Dev nD) : Buf (Elt F) ((c : Thread nD τ).loc main_v5) := (data0 c (arrs0 m c)).arrAt 2 cfg0.N

/-- The regions' results with the product known. -/
def known : Outs (F := F) := fun J r c => if h : r = main_v5 then h ▸ prod m c else m ((c : Thread nD τ).loc r)

theorem known_v5 (c : Dev nD) : known m 2 main_v5 c = prod m c := by
  unfold known; rw [dif_pos rfl]

/-- The arrays region 1 reads and writes, before it. -/
def arrs1 (c : Dev nD) (w : Fin cfg1.W) : Buf (Elt F) ((cfg1.win w).arr.view.loc (c : Thread nD τ)) :=
  V9 m (known m) c (Proc.devRef .tc (Pipeline.arrRef spec1 w))

/-- They are the same whatever else the regions before left. -/
theorem arrs1_eq (c : Dev nD) (o : Outs (F := F)) (h : o 2 main_v5 c = prod m c) (w : Fin cfg1.W) :
    arrs1 m c w = V9 m o c (Proc.devRef .tc (Pipeline.arrRef spec1 w)) := by
  fin_cases w
  · exact (entry1_v22 m (known m) c).trans ((congrArg (extractStridedSlice _ _ · _) ((known_v5 m c).trans h.symm)).trans (entry1_v22 m o c).symm)
  · exact (entry1_v0 m (known m) c).trans (entry1_v0 m o c).symm
  · exact (entry1_v21 m (known m) c).trans (entry1_v21 m o c).symm
  · exact (entry1_v23 m (known m) c).trans (entry1_v23 m o c).symm

/-- The arrays region 2 reads and writes, before it. -/
def arrs2 (c : Dev nD) (w : Fin cfg2.W) : Buf (Elt F) ((cfg2.win w).arr.view.loc (c : Thread nD τ)) :=
  V17 m (known m) c (Proc.devRef .tc (Pipeline.arrRef spec2 w))

/-- They are the same whatever else the regions before left. -/
theorem arrs2_eq (c : Dev nD) (o : Outs (F := F)) (h : o 2 main_v5 c = prod m c) (w : Fin cfg2.W) :
    arrs2 m c w = V17 m o c (Proc.devRef .tc (Pipeline.arrRef spec2 w)) := by
  fin_cases w
  · exact (entry2_v35 m (known m) c).trans ((congrArg (extractStridedSlice _ _ · _) ((known_v5 m c).trans h.symm)).trans (entry2_v35 m o c).symm)
  · exact (entry2_v1 m (known m) c).trans (entry2_v1 m o c).symm
  · exact (entry2_v34 m (known m) c).trans (entry2_v34 m o c).symm
  · exact (entry2_v36 m (known m) c).trans (entry2_v36 m o c).symm

/-- The arrays region 3 reads and writes, before it. -/
def arrs3 (c : Dev nD) (w : Fin cfg3.W) : Buf (Elt F) ((cfg3.win w).arr.view.loc (c : Thread nD τ)) :=
  V25 m (known m) c (Proc.devRef .tc (Pipeline.arrRef spec3 w))

/-- They are the same whatever else the regions before left. -/
theorem arrs3_eq (c : Dev nD) (o : Outs (F := F)) (h : o 2 main_v5 c = prod m c) (w : Fin cfg3.W) :
    arrs3 m c w = V25 m o c (Proc.devRef .tc (Pipeline.arrRef spec3 w)) := by
  fin_cases w
  · exact (entry3_v48 m (known m) c).trans ((congrArg (extractStridedSlice _ _ · _) ((known_v5 m c).trans h.symm)).trans (entry3_v48 m o c).symm)
  · exact (entry3_v2 m (known m) c).trans (entry3_v2 m o c).symm
  · exact (entry3_v47 m (known m) c).trans (entry3_v47 m o c).symm
  · exact (entry3_v49 m (known m) c).trans (entry3_v49 m o c).symm

/-- The arrays region 4 reads and writes, before it. -/
def arrs4 (c : Dev nD) (w : Fin cfg4.W) : Buf (Elt F) ((cfg4.win w).arr.view.loc (c : Thread nD τ)) :=
  V29 m (known m) c (Proc.devRef .tc (Pipeline.arrRef spec4 w))

/-- They are the same whatever else the regions before left. -/
theorem arrs4_eq (c : Dev nD) (o : Outs (F := F)) (h : o 2 main_v5 c = prod m c) (w : Fin cfg4.W) :
    arrs4 m c w = V29 m o c (Proc.devRef .tc (Pipeline.arrRef spec4 w)) := by
  fin_cases w
  · exact (entry4_v6 m (known m) c).trans ((entry4_v6 m o c).symm)
  · exact (entry4_arg2 m (known m) c).trans (entry4_arg2 m o c).symm
  · exact (entry4_v44 m (known m) c).trans (entry4_v44 m o c).symm
  · exact (entry4_v52 m (known m) c).trans (entry4_v52 m o c).symm

/-- The regions' proof data. -/
def rdats : (p : Fin 5) → (c : Dev nD) → RDat τ (Elt F) Unit ℕ (UR sig nD τ) ℕ (Pipeline.pin (pcfgs (F := F)) adm p) c
  | ⟨0, _⟩ => fun c => (data0 c (arrs0 m c)).toR
  | ⟨1, _⟩ => fun c => data1 c (arrs1 m c)
  | ⟨2, _⟩ => fun c => data2 c (arrs2 m c)
  | ⟨3, _⟩ => fun c => data3 c (arrs3 m c)
  | ⟨4, _⟩ => fun c => data4 c (arrs4 m c)

/-- What is known of the regions' results after each region: -/
def After0 (c : Dev nD) (o : Outs (F := F)) : Prop := o 2 main_v5 c = prod m c
def After1 (c : Dev nD) (o : Outs (F := F)) : Prop := After0 m c o ∧ ∃ st, Reach1 c (arrs1 m c) 16 st ∧ o 10 main_v23 c = out1 st
def After2 (c : Dev nD) (o : Outs (F := F)) : Prop := After1 m c o ∧ ∃ st, Reach2 c (arrs2 m c) 79 st ∧ o 18 main_v36 c = out2 st
def After3 (c : Dev nD) (o : Outs (F := F)) : Prop := After2 m c o ∧ ∃ st, Reach3 c (arrs3 m c) 98 st ∧ o 26 main_v49 c = out3 st
def After4 (c : Dev nD) (o : Outs (F := F)) : Prop := After3 m c o ∧ ∃ st, Reach4 c (arrs4 m c) 4 st ∧ o 30 main_v52 c = out4 st

/-- No semaphore is given a level: no core owes another anything. -/
abbrev lvls : GSem nD τ sig → Finset Unit := fun _ => ∅
abbrev lvl : GSem nD τ sig → Unit → ℕ := fun _ _ => 0

/-! ## The regions as segments -/

/-- The product left in its array, the regions' results with it replaced are as known, and so are the contents. -/
theorem leave0 (c : Dev nD) (o : Outs (F := F)) (G : Buf (Elt F) ((c : Thread nD τ).loc main_v5)) (hG : G = prod m c) :
    ∃ o', After0 m c o' ∧ V2 m o' c (Proc.devRef .tc main_v5) = G
      ∧ ∀ b : Ref sig .tc, b ≠ main_v5 → V2 m o' c (Proc.devRef .tc b) = V1 m c (Proc.devRef .tc b) :=
  ⟨put o 2 main_v5 c G, (put_self o 2 main_v5 c G).trans hG, (Function.update_self ..).trans (put_self o 2 main_v5 c G),
    fun b hb => V2_of m _ c b (List.not_mem_cons_of_ne_of_not_mem hb List.not_mem_nil)⟩

theorem Phi0_in (c : Dev nD) (A : (w : Fin cfg0.W) → Buf (Elt F) ((cfg0.win w).arr.view.loc (c : Thread nD τ))) (t : Fin (cfg0.N + 1)) :
    (Pipeline.scopedRest (Ix := Unit) (Name := ℕ) (U := UR sig nD τ) (Lvl := ℕ) (Val := Elt F) spec0 c : sProp 𝕄) ⊢ (data0 c A).toR.Φ t := by
  rw [Dat.toR_Φ]; exact Entails.refl _

theorem Phi0_out (c : Dev nD) (A : (w : Fin cfg0.W) → Buf (Elt F) ((cfg0.win w).arr.view.loc (c : Thread nD τ))) (t : Fin (cfg0.N + 1)) :
    (data0 c A).toR.Φ t ⊢ (Pipeline.scopedRest (Ix := Unit) (Name := ℕ) (U := UR sig nD τ) (Lvl := ℕ) (Val := Elt F) spec0 c : sProp 𝕄) := by
  rw [Dat.toR_Φ]; exact Entails.refl _

/-- The product's region. -/
def reg0 : RDat.RegionSeg (pcfgs (F := F)) adm (rdats m) () defs₀ Variants.none lvls lvl 0 :=
  Common.relSeg (α := Outs (F := F)) pcfgs adm (rdats m) () defs₀ Variants.none lvls lvl 0 launch0.win launch0.arr_whole launch0.block_pos launch0.stage_whole rfl
    (fun c => (rdats m 0 c).share_full fun _ => rfl) (fun _ _ => rfl) (fun _ _ => rfl) (fun c => (obligation0 c (arrs0 m c)).toR)
    (fun c => Phi0_in c (arrs0 m c) 0) (fun c => Phi0_out c (arrs0 m c) _) (fun _ _ => True) (After0 m) (fun _ c => V1 m c) (fun o c => V2 m o c)
    (fun c o _ => arrs0_eq m c) 2 (fun w hw => by fin_cases w <;> first | rfl | exact absurd rfl hw)
    (fun c o _ G hG => leave0 m c o G (((data0 c (arrs0 m c)).toR_arrAt_iff 2 cfg0.N G).mp hG))

theorem Phi1_zero (c : Dev nD) (A : (w : Fin cfg1.W) → Buf (Elt F) ((cfg1.win w).arr.view.loc (c : Thread nD τ))) :
    (Pipeline.scopedRest (Ix := Unit) (Name := ℕ) (U := UR sig nD τ) (Lvl := ℕ) (Val := Elt F) spec1 c : sProp 𝕄) ⊢ Phi1 c A 0 := by
  rw [scopedRest1_split]
  unfold Phi1
  iintro ⟨⟨⟨%f0, H0⟩, ⟨%f1, H1⟩, ⟨%f2, H2⟩⟩, Hr⟩
  iexists (f0, f1, f2)
  isplitr; · ipureintro; exact trivial
  rw [owns_whole, owns_whole, owns_whole]
  isplitl [H0]; · iexact H0
  isplitl [H1]; · iexact H1
  isplitl [H2]; · iexact H2
  iexact Hr

theorem Phi1_out (c : Dev nD) (A : (w : Fin cfg1.W) → Buf (Elt F) ((cfg1.win w).arr.view.loc (c : Thread nD τ))) (n : ℕ) :
    Phi1 c A n ⊢ (Pipeline.scopedRest (Ix := Unit) (Name := ℕ) (U := UR sig nD τ) (Lvl := ℕ) (Val := Elt F) spec1 c : sProp 𝕄) := by
  rw [scopedRest1_split]
  unfold Phi1
  iintro ⟨%st, -, H0, H1, H2, Hr⟩
  ihave H0 := (Entails.of_eq (owns_whole (c : Thread nD τ) cc1_scratch0 fullShare st.1)) $$ H0
  ihave H1 := (Entails.of_eq (owns_whole (c : Thread nD τ) cc1_scratch1 fullShare st.2.1)) $$ H1
  ihave H2 := (Entails.of_eq (owns_whole (c : Thread nD τ) cc1_scratch2 fullShare st.2.2)) $$ H2
  isplitl [H0 H1 H2]
  · isplitl [H0]; · iexists _; iexact H0
    isplitl [H1]; · iexists _; iexact H1
    iexists _; iexact H2
  iexact Hr

/-- Whatever the region leaves in its result, the regions' results with it replaced are as known, and so are the contents. -/
theorem leave1 (c : Dev nD) (o : Outs (F := F)) (h : After0 m c o) (G : Buf (Elt F) ((c : Thread nD τ).loc main_v23))
    (hG : ∃ st : Acc F, Reach1 c (arrs1 m c) 16 st ∧ G = out1 st) :
    ∃ o', After1 m c o' ∧ V10 m o' c (Proc.devRef .tc main_v23) = G
      ∧ ∀ b : Ref sig .tc, b ≠ main_v23 → V10 m o' c (Proc.devRef .tc b) = V9 m o c (Proc.devRef .tc b) := by
  have e : ∀ J, J ≠ 10 → put o 10 main_v23 c G J = o J := fun J hJ => put_ne o _ J hJ _ c G
  obtain ⟨st, h1, h2⟩ := hG
  refine ⟨put o 10 main_v23 c G, ⟨?_, st, h1, (put_self o 10 main_v23 c G).trans h2⟩,
    (Function.update_self ..).trans (put_self o 10 main_v23 c G), fun b hb =>
      (V10_of m _ c b (List.not_mem_cons_of_ne_of_not_mem hb List.not_mem_nil)).trans (congrFun (V9_congr m _ _ c (congrFun (congrFun (e 2 (by decide)) _) _)) _)⟩
  unfold After0 at h ⊢; rw [e 2 (by decide)]; exact h

/-- Region 1. -/
def reg1 : RDat.RegionSeg (pcfgs (F := F)) adm (rdats m) () defs₀ Variants.none lvls lvl 1 :=
  Common.relSeg (α := Outs (F := F)) pcfgs adm (rdats m) () defs₀ Variants.none lvls lvl 1 launch1.win launch1.arr_whole launch1.block_pos launch1.stage_whole rfl
    (fun c => (rdats m 1 c).share_full fun _ => rfl) (fun _ _ => rfl) (fun _ _ => rfl) (fun c => obligation1 c (arrs1 m c))
    (fun c => Phi1_zero c (arrs1 m c)) (fun c => Phi1_out c (arrs1 m c) _) (After0 m) (After1 m) (fun o c => V9 m o c) (fun o c => V10 m o c)
    (fun c o h w => arrs1_eq m c o h w) 3 (fun w hw => by fin_cases w <;> first | rfl | exact absurd rfl hw)
    (fun c o h G hG => leave1 m c o h G (arrAt1 c (arrs1 m c) G hG))

theorem Phi2_zero (c : Dev nD) (A : (w : Fin cfg2.W) → Buf (Elt F) ((cfg2.win w).arr.view.loc (c : Thread nD τ))) :
    (Pipeline.scopedRest (Ix := Unit) (Name := ℕ) (U := UR sig nD τ) (Lvl := ℕ) (Val := Elt F) spec2 c : sProp 𝕄) ⊢ Phi2 c A 0 := by
  rw [scopedRest2_split]
  unfold Phi2
  iintro ⟨⟨⟨%f0, H0⟩, ⟨%f1, H1⟩, ⟨%f2, H2⟩⟩, Hr⟩
  iexists (f0, f1, f2)
  isplitr; · ipureintro; exact trivial
  rw [owns_whole, owns_whole, owns_whole]
  isplitl [H0]; · iexact H0
  isplitl [H1]; · iexact H1
  isplitl [H2]; · iexact H2
  iexact Hr

theorem Phi2_out (c : Dev nD) (A : (w : Fin cfg2.W) → Buf (Elt F) ((cfg2.win w).arr.view.loc (c : Thread nD τ))) (n : ℕ) :
    Phi2 c A n ⊢ (Pipeline.scopedRest (Ix := Unit) (Name := ℕ) (U := UR sig nD τ) (Lvl := ℕ) (Val := Elt F) spec2 c : sProp 𝕄) := by
  rw [scopedRest2_split]
  unfold Phi2
  iintro ⟨%st, -, H0, H1, H2, Hr⟩
  ihave H0 := (Entails.of_eq (owns_whole (c : Thread nD τ) cc2_scratch0 fullShare st.1)) $$ H0
  ihave H1 := (Entails.of_eq (owns_whole (c : Thread nD τ) cc2_scratch1 fullShare st.2.1)) $$ H1
  ihave H2 := (Entails.of_eq (owns_whole (c : Thread nD τ) cc2_scratch2 fullShare st.2.2)) $$ H2
  isplitl [H0 H1 H2]
  · isplitl [H0]; · iexists _; iexact H0
    isplitl [H1]; · iexists _; iexact H1
    iexists _; iexact H2
  iexact Hr

/-- Whatever the region leaves in its result, the regions' results with it replaced are as known, and so are the contents. -/
theorem leave2 (c : Dev nD) (o : Outs (F := F)) (h : After1 m c o) (G : Buf (Elt F) ((c : Thread nD τ).loc main_v36))
    (hG : ∃ st : Acc F, Reach2 c (arrs2 m c) 79 st ∧ G = out2 st) :
    ∃ o', After2 m c o' ∧ V18 m o' c (Proc.devRef .tc main_v36) = G
      ∧ ∀ b : Ref sig .tc, b ≠ main_v36 → V18 m o' c (Proc.devRef .tc b) = V17 m o c (Proc.devRef .tc b) := by
  have e : ∀ J, J ≠ 18 → put o 18 main_v36 c G J = o J := fun J hJ => put_ne o _ J hJ _ c G
  obtain ⟨st, h1, h2⟩ := hG
  refine ⟨put o 18 main_v36 c G, ⟨?_, st, h1, (put_self o 18 main_v36 c G).trans h2⟩,
    (Function.update_self ..).trans (put_self o 18 main_v36 c G), fun b hb =>
      (V18_of m _ c b (List.not_mem_cons_of_ne_of_not_mem hb List.not_mem_nil)).trans (congrFun (V17_congr m _ _ c (congrFun (congrFun (e 2 (by decide)) _) _) (congrFun (congrFun (e 10 (by decide)) _) _)) _)⟩
  unfold After1 After0 at h ⊢; rw [e 2 (by decide), e 10 (by decide)]; exact h

/-- Region 2. -/
def reg2 : RDat.RegionSeg (pcfgs (F := F)) adm (rdats m) () defs₀ Variants.none lvls lvl 2 :=
  Common.relSeg (α := Outs (F := F)) pcfgs adm (rdats m) () defs₀ Variants.none lvls lvl 2 launch2.win launch2.arr_whole launch2.block_pos launch2.stage_whole rfl
    (fun c => (rdats m 2 c).share_full fun _ => rfl) (fun _ _ => rfl) (fun _ _ => rfl) (fun c => obligation2 c (arrs2 m c))
    (fun c => Phi2_zero c (arrs2 m c)) (fun c => Phi2_out c (arrs2 m c) _) (After1 m) (After2 m) (fun o c => V17 m o c) (fun o c => V18 m o c)
    (fun c o h w => arrs2_eq m c o h.1 w) 3 (fun w hw => by fin_cases w <;> first | rfl | exact absurd rfl hw)
    (fun c o h G hG => leave2 m c o h G (arrAt2 c (arrs2 m c) G hG))

theorem Phi3_zero (c : Dev nD) (A : (w : Fin cfg3.W) → Buf (Elt F) ((cfg3.win w).arr.view.loc (c : Thread nD τ))) :
    (Pipeline.scopedRest (Ix := Unit) (Name := ℕ) (U := UR sig nD τ) (Lvl := ℕ) (Val := Elt F) spec3 c : sProp 𝕄) ⊢ Phi3 c A 0 := by
  rw [scopedRest3_split]
  unfold Phi3
  iintro ⟨⟨⟨%f0, H0⟩, ⟨%f1, H1⟩, ⟨%f2, H2⟩⟩, Hr⟩
  iexists (f0, f1, f2)
  isplitr; · ipureintro; exact trivial
  rw [owns_whole, owns_whole, owns_whole]
  isplitl [H0]; · iexact H0
  isplitl [H1]; · iexact H1
  isplitl [H2]; · iexact H2
  iexact Hr

theorem Phi3_out (c : Dev nD) (A : (w : Fin cfg3.W) → Buf (Elt F) ((cfg3.win w).arr.view.loc (c : Thread nD τ))) (n : ℕ) :
    Phi3 c A n ⊢ (Pipeline.scopedRest (Ix := Unit) (Name := ℕ) (U := UR sig nD τ) (Lvl := ℕ) (Val := Elt F) spec3 c : sProp 𝕄) := by
  rw [scopedRest3_split]
  unfold Phi3
  iintro ⟨%st, -, H0, H1, H2, Hr⟩
  ihave H0 := (Entails.of_eq (owns_whole (c : Thread nD τ) cc3_scratch0 fullShare st.1)) $$ H0
  ihave H1 := (Entails.of_eq (owns_whole (c : Thread nD τ) cc3_scratch1 fullShare st.2.1)) $$ H1
  ihave H2 := (Entails.of_eq (owns_whole (c : Thread nD τ) cc3_scratch2 fullShare st.2.2)) $$ H2
  isplitl [H0 H1 H2]
  · isplitl [H0]; · iexists _; iexact H0
    isplitl [H1]; · iexists _; iexact H1
    iexists _; iexact H2
  iexact Hr

/-- Whatever the region leaves in its result, the regions' results with it replaced are as known, and so are the contents. -/
theorem leave3 (c : Dev nD) (o : Outs (F := F)) (h : After2 m c o) (G : Buf (Elt F) ((c : Thread nD τ).loc main_v49))
    (hG : ∃ st : Acc F, Reach3 c (arrs3 m c) 98 st ∧ G = out3 st) :
    ∃ o', After3 m c o' ∧ V26 m o' c (Proc.devRef .tc main_v49) = G
      ∧ ∀ b : Ref sig .tc, b ≠ main_v49 → V26 m o' c (Proc.devRef .tc b) = V25 m o c (Proc.devRef .tc b) := by
  have e : ∀ J, J ≠ 26 → put o 26 main_v49 c G J = o J := fun J hJ => put_ne o _ J hJ _ c G
  obtain ⟨st, h1, h2⟩ := hG
  refine ⟨put o 26 main_v49 c G, ⟨?_, st, h1, (put_self o 26 main_v49 c G).trans h2⟩,
    (Function.update_self ..).trans (put_self o 26 main_v49 c G), fun b hb =>
      (V26_of m _ c b (List.not_mem_cons_of_ne_of_not_mem hb List.not_mem_nil)).trans (congrFun (V25_congr m _ _ c (congrFun (congrFun (e 2 (by decide)) _) _) (congrFun (congrFun (e 10 (by decide)) _) _) (congrFun (congrFun (e 18 (by decide)) _) _)) _)⟩
  unfold After2 After1 After0 at h ⊢; rw [e 2 (by decide), e 10 (by decide), e 18 (by decide)]; exact h

/-- Region 3. -/
def reg3 : RDat.RegionSeg (pcfgs (F := F)) adm (rdats m) () defs₀ Variants.none lvls lvl 3 :=
  Common.relSeg (α := Outs (F := F)) pcfgs adm (rdats m) () defs₀ Variants.none lvls lvl 3 launch3.win launch3.arr_whole launch3.block_pos launch3.stage_whole rfl
    (fun c => (rdats m 3 c).share_full fun _ => rfl) (fun _ _ => rfl) (fun _ _ => rfl) (fun c => obligation3 c (arrs3 m c))
    (fun c => Phi3_zero c (arrs3 m c)) (fun c => Phi3_out c (arrs3 m c) _) (After2 m) (After3 m) (fun o c => V25 m o c) (fun o c => V26 m o c)
    (fun c o h w => arrs3_eq m c o h.1.1 w) 3 (fun w hw => by fin_cases w <;> first | rfl | exact absurd rfl hw)
    (fun c o h G hG => leave3 m c o h G (arrAt3 c (arrs3 m c) G hG))

theorem Phi4_zero (c : Dev nD) (A : (w : Fin cfg4.W) → Buf (Elt F) ((cfg4.win w).arr.view.loc (c : Thread nD τ))) :
    (Pipeline.scopedRest (Ix := Unit) (Name := ℕ) (U := UR sig nD τ) (Lvl := ℕ) (Val := Elt F) spec4 c : sProp 𝕄) ⊢ Phi4 c A 0 := by
  rw [scopedRest4_split]
  unfold Phi4
  iintro ⟨⟨⟨%f0, H0⟩, ⟨%f1, H1⟩, ⟨%f2, H2⟩⟩, Hr⟩
  iexists (f0, f1, f2)
  isplitr; · ipureintro; exact trivial
  rw [owns_whole, owns_whole, owns_whole]
  isplitl [H0]; · iexact H0
  isplitl [H1]; · iexact H1
  isplitl [H2]; · iexact H2
  iexact Hr

theorem Phi4_out (c : Dev nD) (A : (w : Fin cfg4.W) → Buf (Elt F) ((cfg4.win w).arr.view.loc (c : Thread nD τ))) (n : ℕ) :
    Phi4 c A n ⊢ (Pipeline.scopedRest (Ix := Unit) (Name := ℕ) (U := UR sig nD τ) (Lvl := ℕ) (Val := Elt F) spec4 c : sProp 𝕄) := by
  rw [scopedRest4_split]
  unfold Phi4
  iintro ⟨%st, -, H0, H1, H2, Hr⟩
  ihave H0 := (Entails.of_eq (owns_whole (c : Thread nD τ) cc4_scratch0 fullShare st.1)) $$ H0
  ihave H1 := (Entails.of_eq (owns_whole (c : Thread nD τ) cc4_scratch1 fullShare st.2.1)) $$ H1
  ihave H2 := (Entails.of_eq (owns_whole (c : Thread nD τ) cc4_scratch2 fullShare st.2.2)) $$ H2
  isplitl [H0 H1 H2]
  · isplitl [H0]; · iexists _; iexact H0
    isplitl [H1]; · iexists _; iexact H1
    iexists _; iexact H2
  iexact Hr

/-- Whatever the region leaves in its result, the regions' results with it replaced are as known, and so are the contents. -/
theorem leave4 (c : Dev nD) (o : Outs (F := F)) (h : After3 m c o) (G : Buf (Elt F) ((c : Thread nD τ).loc main_v52))
    (hG : ∃ st : Acc F, Reach4 c (arrs4 m c) 4 st ∧ G = out4 st) :
    ∃ o', After4 m c o' ∧ V30 m o' c (Proc.devRef .tc main_v52) = G
      ∧ ∀ b : Ref sig .tc, b ≠ main_v52 → V30 m o' c (Proc.devRef .tc b) = V29 m o c (Proc.devRef .tc b) := by
  have e : ∀ J, J ≠ 30 → put o 30 main_v52 c G J = o J := fun J hJ => put_ne o _ J hJ _ c G
  obtain ⟨st, h1, h2⟩ := hG
  refine ⟨put o 30 main_v52 c G, ⟨?_, st, h1, (put_self o 30 main_v52 c G).trans h2⟩,
    (Function.update_self ..).trans (put_self o 30 main_v52 c G), fun b hb =>
      (V30_of m _ c b (List.not_mem_cons_of_ne_of_not_mem hb List.not_mem_nil)).trans (congrFun (V29_congr m _ _ c (congrFun (congrFun (e 2 (by decide)) _) _) (congrFun (congrFun (e 10 (by decide)) _) _) (congrFun (congrFun (e 18 (by decide)) _) _) (congrFun (congrFun (e 26 (by decide)) _) _)) _)⟩
  unfold After3 After2 After1 After0 at h ⊢; rw [e 2 (by decide), e 10 (by decide), e 18 (by decide), e 26 (by decide)]; exact h

/-- Region 4. -/
def reg4 : RDat.RegionSeg (pcfgs (F := F)) adm (rdats m) () defs₀ Variants.none lvls lvl 4 :=
  Common.relSeg (α := Outs (F := F)) pcfgs adm (rdats m) () defs₀ Variants.none lvls lvl 4 launch4.win launch4.arr_whole launch4.block_pos launch4.stage_whole rfl
    (fun c => (rdats m 4 c).share_full fun _ => rfl) (fun _ _ => rfl) (fun _ _ => rfl) (fun c => obligation4 c (arrs4 m c))
    (fun c => Phi4_zero c (arrs4 m c)) (fun c => Phi4_out c (arrs4 m c) _) (After3 m) (After4 m) (fun o c => V29 m o c) (fun o c => V30 m o c)
    (fun c o h w => arrs4_eq m c o h.1.1.1 w) 3 (fun w hw => by fin_cases w <;> first | rfl | exact absurd rfl hw)
    (fun c o h G hG => leave4 m c o h G (arrAt4 c (arrs4 m c) G hG))

end Cert.KernelIdeal.Hand

end
-- ==== Proof.KI.Run.lean ====
/-
  The whole program's run: from any memory it ends, without fault, with its arguments as they were, every counter at zero, and its
  result made from what the five regions left, of which is known what `After4` says.
-/
module

public import proofs.«01_k».proof.Proof.KI.Regs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Rounds
open Idealize.ShloMosaic.Pipeline (Dat RDat HostSeg)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ)

/-- A core's tallies. -/
abbrev rest (c : Dev nD) : sProp 𝕄 := iprop(∃ W, owes (c : Thread nD τ) (0 : CellTallies nD τ sig Unit) W)

theorem sub {ops : List (HloOp τ sig (Elt F))} (h : ops.Forall fun op => op.bufs ⊆ StableHlo.tcRefs τ sig) :
    ∀ op ∈ ops, op.bufs ⊆ Pipeline.ucRefs τ sig := fun op ho => Pipeline.sub_ucRefs op ((List.forall_iff_forall_mem.mp h) op ho)

theorem fresh {ops : List (HloOp τ sig (Elt F))} (h : ops.Forall fun op => op.fresh = ∅) : ∀ op ∈ ops, op.fresh = ∅ :=
  fun op ho => (List.forall_iff_forall_mem.mp h) op ho

/-! The host stretches, each from what is known of the regions before it. -/

def host0 : HostSeg (Ix := Unit) (Name := ℕ) (U := UR sig nD τ) (Lvl := ℕ) (pcfgs (F := F)) defs₀ Variants.none lvls lvl :=
  Common.exOps (α := Outs (F := F)) (fun _ _ => True) hostOps0 (sub hostOps0_sub) (fresh hostOps0_fresh) (fun _ c => V0 m c)

def host2 : HostSeg (Ix := Unit) (Name := ℕ) (U := UR sig nD τ) (Lvl := ℕ) (pcfgs (F := F)) defs₀ Variants.none lvls lvl :=
  Common.exOps (α := Outs (F := F)) (After0 m) hostOps1 (sub hostOps1_sub) (fresh hostOps1_fresh) (fun o c => V2 m o c)

def host3 : HostSeg (Ix := Unit) (Name := ℕ) (U := UR sig nD τ) (Lvl := ℕ) (pcfgs (F := F)) defs₀ Variants.none lvls lvl :=
  Common.exOps (α := Outs (F := F)) (After0 m) hostOps1_1 (sub hostOps1_1_sub) (fresh hostOps1_1_fresh) (fun o c => V3 m o c)

def host4 : HostSeg (Ix := Unit) (Name := ℕ) (U := UR sig nD τ) (Lvl := ℕ) (pcfgs (F := F)) defs₀ Variants.none lvls lvl :=
  Common.exOps (α := Outs (F := F)) (After0 m) hostOps1_2 (sub hostOps1_2_sub) (fresh hostOps1_2_fresh) (fun o c => V4 m o c)

def host5 : HostSeg (Ix := Unit) (Name := ℕ) (U := UR sig nD τ) (Lvl := ℕ) (pcfgs (F := F)) defs₀ Variants.none lvls lvl :=
  Common.exOps (α := Outs (F := F)) (After0 m) hostOps1_3 (sub hostOps1_3_sub) (fresh hostOps1_3_fresh) (fun o c => V5 m o c)

def host6 : HostSeg (Ix := Unit) (Name := ℕ) (U := UR sig nD τ) (Lvl := ℕ) (pcfgs (F := F)) defs₀ Variants.none lvls lvl :=
  Common.exOps (α := Outs (F := F)) (After0 m) hostOps1_4 (sub hostOps1_4_sub) (fresh hostOps1_4_fresh) (fun o c => V6 m o c)

def host7 : HostSeg (Ix := Unit) (Name := ℕ) (U := UR sig nD τ) (Lvl := ℕ) (pcfgs (F := F)) defs₀ Variants.none lvls lvl :=
  Common.exOps (α := Outs (F := F)) (After0 m) hostOps1_5 (sub hostOps1_5_sub) (fresh hostOps1_5_fresh) (fun o c => V7 m o c)

def host8 : HostSeg (Ix := Unit) (Name := ℕ) (U := UR sig nD τ) (Lvl := ℕ) (pcfgs (F := F)) defs₀ Variants.none lvls lvl :=
  Common.exOps (α := Outs (F := F)) (After0 m) hostOps1_6 (sub hostOps1_6_sub) (fresh hostOps1_6_fresh) (fun o c => V8 m o c)

def host10 : HostSeg (Ix := Unit) (Name := ℕ) (U := UR sig nD τ) (Lvl := ℕ) (pcfgs (F := F)) defs₀ Variants.none lvls lvl :=
  Common.exOps (α := Outs (F := F)) (After1 m) hostOps2 (sub hostOps2_sub) (fresh hostOps2_fresh) (fun o c => V10 m o c)

def host11 : HostSeg (Ix := Unit) (Name := ℕ) (U := UR sig nD τ) (Lvl := ℕ) (pcfgs (F := F)) defs₀ Variants.none lvls lvl :=
  Common.exOps (α := Outs (F := F)) (After1 m) hostOps2_1 (sub hostOps2_1_sub) (fresh hostOps2_1_fresh) (fun o c => V11 m o c)

def host12 : HostSeg (Ix := Unit) (Name := ℕ) (U := UR sig nD τ) (Lvl := ℕ) (pcfgs (F := F)) defs₀ Variants.none lvls lvl :=
  Common.exOps (α := Outs (F := F)) (After1 m) hostOps2_2 (sub hostOps2_2_sub) (fresh hostOps2_2_fresh) (fun o c => V12 m o c)

def host13 : HostSeg (Ix := Unit) (Name := ℕ) (U := UR sig nD τ) (Lvl := ℕ) (pcfgs (F := F)) defs₀ Variants.none lvls lvl :=
  Common.exOps (α := Outs (F := F)) (After1 m) hostOps2_3 (sub hostOps2_3_sub) (fresh hostOps2_3_fresh) (fun o c => V13 m o c)

def host14 : HostSeg (Ix := Unit) (Name := ℕ) (U := UR sig nD τ) (Lvl := ℕ) (pcfgs (F := F)) defs₀ Variants.none lvls lvl :=
  Common.exOps (α := Outs (F := F)) (After1 m) hostOps2_4 (sub hostOps2_4_sub) (fresh hostOps2_4_fresh) (fun o c => V14 m o c)

def host15 : HostSeg (Ix := Unit) (Name := ℕ) (U := UR sig nD τ) (Lvl := ℕ) (pcfgs (F := F)) defs₀ Variants.none lvls lvl :=
  Common.exOps (α := Outs (F := F)) (After1 m) hostOps2_5 (sub hostOps2_5_sub) (fresh hostOps2_5_fresh) (fun o c => V15 m o c)

def host16 : HostSeg (Ix := Unit) (Name := ℕ) (U := UR sig nD τ) (Lvl := ℕ) (pcfgs (F := F)) defs₀ Variants.none lvls lvl :=
  Common.exOps (α := Outs (F := F)) (After1 m) hostOps2_6 (sub hostOps2_6_sub) (fresh hostOps2_6_fresh) (fun o c => V16 m o c)

def host18 : HostSeg (Ix := Unit) (Name := ℕ) (U := UR sig nD τ) (Lvl := ℕ) (pcfgs (F := F)) defs₀ Variants.none lvls lvl :=
  Common.exOps (α := Outs (F := F)) (After2 m) hostOps3 (sub hostOps3_sub) (fresh hostOps3_fresh) (fun o c => V18 m o c)

def host19 : HostSeg (Ix := Unit) (Name := ℕ) (U := UR sig nD τ) (Lvl := ℕ) (pcfgs (F := F)) defs₀ Variants.none lvls lvl :=
  Common.exOps (α := Outs (F := F)) (After2 m) hostOps3_1 (sub hostOps3_1_sub) (fresh hostOps3_1_fresh) (fun o c => V19 m o c)

def host20 : HostSeg (Ix := Unit) (Name := ℕ) (U := UR sig nD τ) (Lvl := ℕ) (pcfgs (F := F)) defs₀ Variants.none lvls lvl :=
  Common.exOps (α := Outs (F := F)) (After2 m) hostOps3_2 (sub hostOps3_2_sub) (fresh hostOps3_2_fresh) (fun o c => V20 m o c)

def host21 : HostSeg (Ix := Unit) (Name := ℕ) (U := UR sig nD τ) (Lvl := ℕ) (pcfgs (F := F)) defs₀ Variants.none lvls lvl :=
  Common.exOps (α := Outs (F := F)) (After2 m) hostOps3_3 (sub hostOps3_3_sub) (fresh hostOps3_3_fresh) (fun o c => V21 m o c)

def host22 : HostSeg (Ix := Unit) (Name := ℕ) (U := UR sig nD τ) (Lvl := ℕ) (pcfgs (F := F)) defs₀ Variants.none lvls lvl :=
  Common.exOps (α := Outs (F := F)) (After2 m) hostOps3_4 (sub hostOps3_4_sub) (fresh hostOps3_4_fresh) (fun o c => V22 m o c)

def host23 : HostSeg (Ix := Unit) (Name := ℕ) (U := UR sig nD τ) (Lvl := ℕ) (pcfgs (F := F)) defs₀ Variants.none lvls lvl :=
  Common.exOps (α := Outs (F := F)) (After2 m) hostOps3_5 (sub hostOps3_5_sub) (fresh hostOps3_5_fresh) (fun o c => V23 m o c)

def host24 : HostSeg (Ix := Unit) (Name := ℕ) (U := UR sig nD τ) (Lvl := ℕ) (pcfgs (F := F)) defs₀ Variants.none lvls lvl :=
  Common.exOps (α := Outs (F := F)) (After2 m) hostOps3_6 (sub hostOps3_6_sub) (fresh hostOps3_6_fresh) (fun o c => V24 m o c)

def host26 : HostSeg (Ix := Unit) (Name := ℕ) (U := UR sig nD τ) (Lvl := ℕ) (pcfgs (F := F)) defs₀ Variants.none lvls lvl :=
  Common.exOps (α := Outs (F := F)) (After3 m) hostOps4 (sub hostOps4_sub) (fresh hostOps4_fresh) (fun o c => V26 m o c)

def host27 : HostSeg (Ix := Unit) (Name := ℕ) (U := UR sig nD τ) (Lvl := ℕ) (pcfgs (F := F)) defs₀ Variants.none lvls lvl :=
  Common.exOps (α := Outs (F := F)) (After3 m) hostOps4_1 (sub hostOps4_1_sub) (fresh hostOps4_1_fresh) (fun o c => V27 m o c)

def host28 : HostSeg (Ix := Unit) (Name := ℕ) (U := UR sig nD τ) (Lvl := ℕ) (pcfgs (F := F)) defs₀ Variants.none lvls lvl :=
  Common.exOps (α := Outs (F := F)) (After3 m) hostOps4_2 (sub hostOps4_2_sub) (fresh hostOps4_2_fresh) (fun o c => V28 m o c)

def host30 : HostSeg (Ix := Unit) (Name := ℕ) (U := UR sig nD τ) (Lvl := ℕ) (pcfgs (F := F)) defs₀ Variants.none lvls lvl :=
  Common.exOps (α := Outs (F := F)) (After4 m) hostOps5 (sub hostOps5_sub) (fresh hostOps5_fresh) (fun o c => V30 m o c)

set_option maxHeartbeats 1600000 in
/-- The program's items as segments. -/
def items : List (RDat.Seg (pcfgs (F := F)) adm (rdats m) () defs₀ Variants.none lvls lvl) := [
    .host (host0 m),
    .region (reg0 m),
    .host (host2 m),
    .host (host3 m),
    .host (host4 m),
    .host (host5 m),
    .host (host6 m),
    .host (host7 m),
    .host (host8 m),
    .region (reg1 m),
    .host (host10 m),
    .host (host11 m),
    .host (host12 m),
    .host (host13 m),
    .host (host14 m),
    .host (host15 m),
    .host (host16 m),
    .region (reg2 m),
    .host (host18 m),
    .host (host19 m),
    .host (host20 m),
    .host (host21 m),
    .host (host22 m),
    .host (host23 m),
    .host (host24 m),
    .region (reg3 m),
    .host (host26 m),
    .host (host27 m),
    .host (host28 m),
    .region (reg4 m),
    .host (host30 m) ]

/-- What the run ends with. -/
def Ends (c : Dev nD) (s : MemSt nD τ sig (Elt F)) : Prop :=
  (∃ o : Outs (F := F), After4 m c o ∧ s.mem ((c.tc : Thread nD τ).loc main_v54) = V31 m o c main_v54)
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)

/-- The last state, its tallies set apart. -/
theorem last_rest (c : Dev nD) :
    (iprop(∃ o : Outs (F := F), ⌜After4 m c o⌝ ∗ StableHlo.held (c : Thread nD τ) (Pipeline.ucRefs τ sig) (V31 m o c) ∗ rest (F := F) c) : sProp 𝕄)
      ⊢ iprop((∃ o : Outs (F := F), ⌜After4 m c o⌝ ∗ StableHlo.held (c : Thread nD τ) (Pipeline.ucRefs τ sig) (V31 m o c)) ∗ rest (F := F) c) := by
  iintro ⟨%o, %ho, Hh, HO⟩
  isplitl [Hh]
  · iexists o
    isplitr; · ipureintro; exact ho
    iexact Hh
  iexact HO

set_option backward.isDefEq.respectTransparency.types false in
set_option maxHeartbeats 1600000 in
/-- Every run ends so, with every counter at zero. -/
theorem run (ρ : Dev nD → PrngReg) :
    θ_run defs (onTc (τ := τ) (main (F := F))) ⟨m, fun _ => 0, ρ⟩ (fun r => (∀ c : Dev nD, Ends m c r.2) ∧ r.2.sem = fun _ => 0) := by
  refine RDat.θ_run_regions_kit_dev_sems (pcfgs (F := F)) adm (rdats m) () cellOf_inj emb₁ defs₀ Variants.none lvls lvl m ρ main
    (fun _ => items m)
    (fun c Q => by
      rewrite [main_chain c, RDat.Seg.run_eq_chain,
        show (items m).map RDat.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          Prog.lift (.customCall (Pipeline.entry 2) ()),
          StableHlo.seq hostOps3,
          StableHlo.seq hostOps3_1,
          StableHlo.seq hostOps3_2,
          StableHlo.seq hostOps3_3,
          StableHlo.seq hostOps3_4,
          StableHlo.seq hostOps3_5,
          StableHlo.seq hostOps3_6,
          Prog.lift (.customCall (Pipeline.entry 3) ()),
          StableHlo.seq hostOps4,
          StableHlo.seq hostOps4_1,
          StableHlo.seq hostOps4_2,
          Prog.lift (.customCall (Pipeline.entry 4) ()),
          StableHlo.seq hostOps5 ] from rfl]
      dsimp (config := { failIfUnchanged := false }) only
      exact .rfl)
    (fun c => by simp only [items, RDat.Seg.pipes_host, RDat.Seg.pipes_region, RDat.Seg.pipes_nil]; decide) 0 (fun _ _ => rfl) (fun _ => BI.emp)
    (initOf (Pipeline.cells cfgs cellOf_inj) (Pipeline.launchToks cfgs cellOf_inj)) ?_
    (T₀ := Common.stateOf (α := Outs (F := F)) (fun _ _ => True) fun _ c => V0 m c)
    (Tₙ := fun c => iprop(∃ o : Outs (F := F), ⌜After4 m c o⌝ ∗ StableHlo.held (c : Thread nD τ) (Pipeline.ucRefs τ sig) (V31 m o c)))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, last_rest m c⟩)
    (hinit := ?_) (QY := Ends m)
    (hfin := fun c s' => ?_) (hQ := fun _ h hz => ⟨h, funext fun g => hz g (.inr (regions_no_unscoped g.2))⟩)
  · iintro H
    imodintro
    isplitl [H]; · iapply (Entails.of_eq (ownU_emb₁ _)); iexact H
    iapply (Entails.of_eq (BI.bigSep_emp_const (M := 𝕄) (Finset.univ : Finset (Dev nD))).symm)
    iempintro
  · refine Pipeline.initEach lvls lvl fun c => ?_
    unfold Common.stateOf
    iintro ⟨⟨Hub, -, HO, -, -, -⟩, -⟩
    ihave Hh := (Entails.of_eq (Pipeline.unscopedBufs_held (Ix := Unit) (Name := ℕ) (U := UR sig nD τ) (Lvl := ℕ) c (V0 m c))) $$ Hub
    imodintro
    iexists (known m)
    isplitr; · ipureintro; exact trivial
    isplitl [Hh]; · iexact Hh
    iexists ∅; iexact HO
  · iintro ⟨⟨%o, %ho, Hh⟩, HSI⟩
    unfold StableHlo.held
    ihave Hr := (pointsTo_read_all (Pipeline.ucRefs τ sig) (fun b => ((c : Thread nD τ).1, b)) (V31 m o c) s') $$ [Hh HSI]
    · isplitl [Hh] <;> iassumption
    icases Hr with ⟨%h, HSI⟩
    imodintro
    isplitr
    · ipureintro
      exact ⟨⟨o, ho, h (Proc.devRef .tc main_v54) (Finset.mem_filter.mpr ⟨StableHlo.devRef_mem_tcRefs main_v54, by decide⟩)⟩,
        (h (Proc.devRef .tc main_arg0) (Finset.mem_filter.mpr ⟨StableHlo.devRef_mem_tcRefs main_arg0, by decide⟩)).trans (V31_main_arg0 m o c),
        (h (Proc.devRef .tc main_arg1) (Finset.mem_filter.mpr ⟨StableHlo.devRef_mem_tcRefs main_arg1, by decide⟩)).trans (V31_main_arg1 m o c),
        (h (Proc.devRef .tc main_arg2) (Finset.mem_filter.mpr ⟨StableHlo.devRef_mem_tcRefs main_arg2, by decide⟩)).trans (V31_main_arg2 m o c),
        (h (Proc.devRef .tc main_arg3) (Finset.mem_filter.mpr ⟨StableHlo.devRef_mem_tcRefs main_arg3, by decide⟩)).trans (V31_main_arg3 m o c),
        (h (Proc.devRef .tc main_arg4) (Finset.mem_filter.mpr ⟨StableHlo.devRef_mem_tcRefs main_arg4, by decide⟩)).trans (V31_main_arg4 m o c),
        (h (Proc.devRef .tc main_arg5) (Finset.mem_filter.mpr ⟨StableHlo.devRef_mem_tcRefs main_arg5, by decide⟩)).trans (V31_main_arg5 m o c),
        (h (Proc.devRef .tc main_arg6) (Finset.mem_filter.mpr ⟨StableHlo.devRef_mem_tcRefs main_arg6, by decide⟩)).trans (V31_main_arg6 m o c),
        (h (Proc.devRef .tc main_arg7) (Finset.mem_filter.mpr ⟨StableHlo.devRef_mem_tcRefs main_arg7, by decide⟩)).trans (V31_main_arg7 m o c),
        (h (Proc.devRef .tc main_arg8) (Finset.mem_filter.mpr ⟨StableHlo.devRef_mem_tcRefs main_arg8, by decide⟩)).trans (V31_main_arg8 m o c)⟩
    · iexact HSI

end Cert.KernelIdeal.Hand

end
-- ==== Proof.Val.R0.lean ====
/-
  Region 0's value: the product of the rows and the three clusters' stacked projections.
-/
module

public import proofs.«01_k».proof.Proof.KI.Data
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe
open Idealize.SL.Sem

section Value0

theorem pay1_0 (x : FVec Ideal S2048x1024 .f32) (w : FVec Ideal S896x1024 .bf16) (b : Fin 2048) (j : Fin 896) :
    k0_pay1 (F := Ideal) x w (ix2 b j) = ∑ k : Fin 1024, (x (ix2 b k) : EReal) * w (ix2 j k) := by
  pointwise [k0_pay1]

variable (c : Dev nD) (A : (w : Fin cfg0.W) → Buf (Elt Ideal) ((cfg0.win w).arr.view.loc (c : Thread nD τ)))

/-- The operands, as arrays. -/
abbrev rows0 : FVec Ideal S8192x1024 .f32 := A 0
abbrev weights0 : FVec Ideal S896x1024 .bf16 := A 1

/-- The product. -/
def product0 : FVec Ideal S8192x896 .bf16 := fun i => ∑ k : Fin 1024, (rows0 c A (ix2 (i 0) k) : EReal) * weights0 c A (ix2 (i 1) k)

theorem at0 : ∀ t : Fin cfg0.N, ((cfg0.win 0).index t 0 = (cfg0.win 2).index t 0 ∧ (cfg0.win 0).index t 1 = 0)
    ∧ ((cfg0.win 1).index t 0 = 0 ∧ (cfg0.win 1).index t 1 = 0) ∧ (cfg0.win 2).index t 1 = 0 := by decide +kernel

theorem result0 : (data0 (F := Ideal) c A).arrAt 2 cfg0.N = product0 c A := by
  refine (data0 (F := Ideal) c A).arrAt_eq_of_covers 2 _ (by decide +kernel) fun t _ y => ?_
  show k0_pay1 (F := Ideal) (in0 c A 0 t) (in0 c A 1 t) y = product0 c A (((cfg0.win 2).blk t).view.emb y)
  obtain ⟨⟨e0, e1⟩, ⟨f0, f1⟩, g1⟩ := at0 t
  have hy : y = ix2 (y 0) (y 1) := by
    funext a
    match a with
    | ⟨0, _⟩ => rfl
    | ⟨1, _⟩ => rfl
  rw [hy]
  refine (pay1_0 _ _ (y 0) (y 1)).trans ?_
  unfold product0
  refine Finset.sum_congr rfl fun k _ => ?_
  refine congrArg₂ (fun p q : EReal => p * q) ?_ ?_
  · show rows0 c A (((cfg0.win 0).blk t).view.emb (ix2 (y 0) k)) = rows0 c A _
    congr 1
    funext a
    apply Fin.ext
    match a with
    | ⟨0, _⟩ =>
      show (cfg0.win 0).index t 0 * 2048 + 1 * (y 0).val = (cfg0.win 2).index t 0 * 2048 + 1 * (y 0).val
      rw [e0]
    | ⟨1, _⟩ =>
      show (cfg0.win 0).index t 1 * 1024 + 1 * k.val = k.val
      rw [e1]; omega
  · show weights0 c A (((cfg0.win 1).blk t).view.emb (ix2 (y 1) k)) = weights0 c A _
    congr 1
    funext a
    apply Fin.ext
    match a with
    | ⟨0, _⟩ =>
      show (cfg0.win 1).index t 0 * 896 + 1 * (y 1).val = (cfg0.win 2).index t 1 * 896 + 1 * (y 1).val
      rw [f0, g1]
    | ⟨1, _⟩ =>
      show (cfg0.win 1).index t 1 * 1024 + 1 * k.val = k.val
      rw [f1]; omega

end Value0

/-! ## The slices each tail cluster's kernel reads -/

theorem slice_512 (p : FVec Ideal S8192x896 .bf16) (b : Fin 8192) (x : Fin 512) :
    extractStridedSlice S8192x512 ![0, 0] p slices_S8192x896_S8192x512_0_0 (ix2 b x) = p (ix2 b ⟨x.val, by omega⟩) := by
  pointwise

theorem slice_256 (p : FVec Ideal S8192x896 .bf16) (b : Fin 8192) (x : Fin 256) :
    extractStridedSlice S8192x256 ![0, 512] p slices_S8192x896_S8192x256_0_512 (ix2 b x) = p (ix2 b ⟨512 + x.val, by omega⟩) := by
  pointwise

theorem slice_128 (p : FVec Ideal S8192x896 .bf16) (b : Fin 8192) (x : Fin 128) :
    extractStridedSlice S8192x128 ![0, 768] p slices_S8192x896_S8192x128_0_768 (ix2 b x) = p (ix2 b ⟨768 + x.val, by omega⟩) := by
  pointwise

/-- The stacked projections. -/
abbrev stack (u : FVec Ideal S512x1024 .f32) (v : FVec Ideal S256x1024 .f32) (w : FVec Ideal S128x1024 .f32) : FVec Ideal S896x1024 .f32 :=
  concatenate S896x1024 0 [⟨S512x1024, u⟩, ⟨S256x1024, v⟩, ⟨S128x1024, w⟩] concatenates_S512x1024_S256x1024_S128x1024_S896x1024_d0

theorem stack_512 (u : FVec Ideal S512x1024 .f32) (v : FVec Ideal S256x1024 .f32) (w : FVec Ideal S128x1024 .f32) (x : Fin 512) (k : Fin 1024) :
    stack u v w (ix2 ⟨x.val, by omega⟩ k) = u (ix2 x k) := by
  unfold stack
  pointwise

theorem stack_256 (u : FVec Ideal S512x1024 .f32) (v : FVec Ideal S256x1024 .f32) (w : FVec Ideal S128x1024 .f32) (x : Fin 256) (k : Fin 1024) :
    stack u v w (ix2 ⟨512 + x.val, by omega⟩ k) = v (ix2 x k) := by
  unfold stack
  pointwise

theorem stack_128 (u : FVec Ideal S512x1024 .f32) (v : FVec Ideal S256x1024 .f32) (w : FVec Ideal S128x1024 .f32) (x : Fin 128) (k : Fin 1024) :
    stack u v w (ix2 ⟨768 + x.val, by omega⟩ k) = w (ix2 x k) := by
  unfold stack
  pointwise
  rw [dif_neg (by omega), dif_neg (by omega)]
  exact congrArg (fun n => w (ix2 n k)) (Fin.ext (show 768 + x.val - 512 - 256 = x.val by omega))

end Cert.KernelIdeal.Hand

end
-- ==== Proof.Val.Online.lean ====
/-
  One row of an online log-sum-exp over extended reals: the running maximum, the rescaled sum and the picked logit, block
  after block of 512 columns, the columns past the last class masked to minus infinity, end at the row's log-softmax.
-/
module

public import Idealize.ShloMosaic.Lib.Pointwise
public import Idealize.ShloMosaic.Lib.WordCmp
public import Mathlib.Analysis.SpecialFunctions.Log.Basic

@[expose] public section

noncomputable section

namespace Cert.Row

open Idealize.ShloMosaic

theorem coe_sum {ι : Type*} (S : Finset ι) (f : ι → ℝ) : ((∑ i ∈ S, f i : ℝ) : EReal) = ∑ i ∈ S, (f i : EReal) := by
  classical
  induction S using Finset.induction with
  | empty => simp
  | insert a S ha ih => rw [Finset.sum_insert ha, Finset.sum_insert ha, EReal.coe_add, ih]

theorem word_bot : Ideal.ofBits .f32 0xFF800000#32 = ⊥ := rfl

/-- A row's log-softmax at a class. -/
def logSoftmax (C : ℕ) (l : ℕ → ℝ) (r : ℕ) : ℝ := l r - Real.log (∑ j ∈ Finset.range C, Real.exp (l j))

/-- A column's number, as the kernel computes it from the block's and the lane's. -/
abbrev column (n k : ℕ) : BitVec 32 := IntOp.addi (Scalar.muli (BitVec.ofNat 32 n) 512#32) (BitVec.ofNat 32 k)

theorem column_toNat {n k : ℕ} (hn : n < 100) (hk : k < 512) : (column n k).toNat = 512 * n + k := by
  simp only [column, IntOp.addi, Scalar.muli, IntOp.muli, BitVec.toNat_add, BitVec.toNat_mul, BitVec.toNat_ofNat]
  omega

theorem select_lt {n k C : ℕ} (hn : n < 100) (hk : k < 512) (hC : C < 2 ^ 31) (a b : EReal) :
    Scalar.select (IntOp.cmpi .slt (column n k) (BitVec.ofNat 32 C)) a b = if 512 * n + k < C then a else b := by
  have h := column_toNat hn hk
  have hs : (column n k).slt (BitVec.ofNat 32 C) = decide (512 * n + k < C) := by
    rw [BitVec.slt, BitVec.toInt_eq_toNat_of_lt (by omega), BitVec.toInt_eq_toNat_of_lt (by simp only [BitVec.toNat_ofNat]; omega), h,
      BitVec.toNat_ofNat, Nat.mod_eq_of_lt (by omega)]
    simp only [Nat.cast_lt]
  simp only [Scalar.select, IntOp.cmpi, hs]
  by_cases hlt : 512 * n + k < C <;> simp [hlt]

theorem select_eq {n k : ℕ} (hn : n < 100) (hk : k < 512) (r : BitVec 32) (a b : EReal) :
    Scalar.select (IntOp.cmpi .eq (column n k) r) a b = if 512 * n + k = r.toNat then a else b := by
  have h := column_toNat hn hk
  have hs : (column n k == r) = decide (512 * n + k = r.toNat) := by
    rw [← h, Bool.eq_iff_iff]; simp only [beq_iff_eq, decide_eq_true_eq]
    exact BitVec.toNat_inj.symm
  simp only [Scalar.select, IntOp.cmpi, hs]
  by_cases he : 512 * n + k = r.toNat <;> simp [he]

/-- A block's masked logits. -/
def masked (C : ℕ) (l : ℕ → ℝ) (n : ℕ) (k : Fin 512) : EReal := if 512 * n + k < C then (l (512 * n + k) : EReal) else ⊥

/-- What the running values are after some blocks: some scale, the sum of exponentials at that scale, the picked logit. -/
def After (C : ℕ) (l : ℕ → ℝ) (r n : ℕ) (m s t : EReal) : Prop :=
  ∃ M : ℝ, m = M ∧ s = ((∑ j ∈ Finset.range (512 * n), if j < C then Real.exp (l j - M) else 0 : ℝ) : EReal)
    ∧ t = ((∑ j ∈ Finset.range (512 * n), if j = r then l j else 0 : ℝ) : EReal)

variable {C : ℕ} {l : ℕ → ℝ} {r n : ℕ}

/-- The maximum of a block with a real logit, with anything below infinity, is real. -/
theorem max_real (h : 512 * n < C) (m : EReal) (hm : m ≠ ⊤) :
    ∃ M : ℝ, max m (Finset.fold max ⊥ (fun k : Fin 512 => masked C l n k) Finset.univ) = M := by
  have h0 : masked C l n 0 = (l (512 * n + 0) : EReal) := if_pos (by simpa using h)
  have hlt : max m (Finset.fold max ⊥ (fun k : Fin 512 => masked C l n k) Finset.univ) < ⊤ := by
    refine max_lt (lt_top_iff_ne_top.mpr hm) ((Finset.fold_max_lt _).mpr ⟨bot_lt_top, fun k _ => ?_⟩)
    unfold masked
    split
    · exact EReal.coe_lt_top _
    · exact bot_lt_top
  have hgt : ⊥ < max m (Finset.fold max ⊥ (fun k : Fin 512 => masked C l n k) Finset.univ) := by
    refine lt_max_of_lt_right ((Finset.lt_fold_max _).mpr (Or.inr ⟨0, Finset.mem_univ _, ?_⟩))
    rw [h0]; exact EReal.bot_lt_coe _
  exact ⟨_, (EReal.coe_toReal hlt.ne hgt.ne').symm⟩

/-- The exponentials of a block's masked logits, at a real scale. -/
theorem sum_exp (M : ℝ) : ∑ k : Fin 512, Ideal.exp (masked C l n k - (M : EReal))
    = ((∑ k ∈ Finset.range 512, if 512 * n + k < C then Real.exp (l (512 * n + k) - M) else 0 : ℝ) : EReal) := by
  rw [Finset.sum_range, coe_sum]
  refine Finset.sum_congr rfl fun k _ => ?_
  unfold masked
  split
  · rw [← EReal.coe_sub, Ideal.exp_coe]
  · rw [EReal.bot_sub, Ideal.exp_bot, EReal.coe_zero]

/-- The logit picked in a block. -/
theorem sum_pick (hr : r < C) : ∑ k : Fin 512, (if 512 * n + k = r then masked C l n k else 0)
    = ((∑ k ∈ Finset.range 512, if 512 * n + k = r then l (512 * n + k) else 0 : ℝ) : EReal) := by
  rw [Finset.sum_range, coe_sum]
  refine Finset.sum_congr rfl fun k _ => ?_
  split
  case isTrue h => unfold masked; rw [if_pos (h ▸ hr)]
  case isFalse => rw [EReal.coe_zero]

theorem range_block (f : ℕ → ℝ) (n : ℕ) :
    ∑ j ∈ Finset.range (512 * (n + 1)), f j = ∑ j ∈ Finset.range (512 * n), f j + ∑ k ∈ Finset.range 512, f (512 * n + k) := by
  rw [Nat.mul_add_one, Finset.sum_range_add]

/-- The first block, from nothing. -/
theorem first (hC : 0 < C) (hr : r < C) :
    After C l r 1 (max ⊥ (Finset.fold max ⊥ (fun k : Fin 512 => masked C l 0 k) Finset.univ))
      (0 * Ideal.exp (⊥ - max ⊥ (Finset.fold max ⊥ (fun k : Fin 512 => masked C l 0 k) Finset.univ))
        + ∑ k : Fin 512, Ideal.exp (masked C l 0 k - max ⊥ (Finset.fold max ⊥ (fun k : Fin 512 => masked C l 0 k) Finset.univ)))
      (0 + ∑ k : Fin 512, (if 512 * 0 + k = r then masked C l 0 k else 0)) := by
  obtain ⟨M, hM⟩ := max_real (C := C) (l := l) (n := 0) (by simpa using hC) ⊥ bot_ne_top
  rw [hM]
  refine ⟨M, rfl, ?_, ?_⟩
  · rw [sum_exp, zero_mul, zero_add, range_block]; simp
  · rw [sum_pick hr, zero_add, range_block]; simp

/-- Another block. -/
theorem next {m s t : EReal} (h : 512 * n < C) (hr : r < C) (H : After C l r n m s t) :
    After C l r (n + 1) (max m (Finset.fold max ⊥ (fun k : Fin 512 => masked C l n k) Finset.univ))
      (s * Ideal.exp (m - max m (Finset.fold max ⊥ (fun k : Fin 512 => masked C l n k) Finset.univ))
        + ∑ k : Fin 512, Ideal.exp (masked C l n k - max m (Finset.fold max ⊥ (fun k : Fin 512 => masked C l n k) Finset.univ)))
      (t + ∑ k : Fin 512, (if 512 * n + k = r then masked C l n k else 0)) := by
  obtain ⟨M₀, rfl, rfl, rfl⟩ := H
  obtain ⟨M, hM⟩ := max_real (l := l) h (M₀ : EReal) (EReal.coe_ne_top _)
  rw [hM]
  refine ⟨M, rfl, ?_, ?_⟩
  · rw [sum_exp, ← EReal.coe_sub, Ideal.exp_coe, ← EReal.coe_mul, ← EReal.coe_add, range_block, Finset.sum_mul]
    congr 2
    refine Finset.sum_congr rfl fun j _ => ?_
    split
    · rw [← Real.exp_add]; congr 1; ring
    · exact zero_mul _
  · rw [sum_pick hr, ← EReal.coe_add, range_block]

/-- At the end: the picked logit less the scale and the logarithm of the sum is the row's log-softmax. -/
theorem final {m s t : EReal} (h : C ≤ 512 * n) (hr : r < C) (H : After C l r n m s t) :
    t - (m + Ideal.log s) = (logSoftmax C l r : ℝ) := by
  obtain ⟨M, rfl, rfl, rfl⟩ := H
  have hs : (∑ j ∈ Finset.range (512 * n), if j < C then Real.exp (l j - M) else 0)
      = (∑ j ∈ Finset.range C, Real.exp (l j)) * Real.exp (-M) := by
    rw [← Finset.sum_filter, Finset.sum_mul]
    refine Finset.sum_congr ?_ fun j _ => ?_
    · ext j; simp only [Finset.mem_filter, Finset.mem_range]; omega
    · rw [← Real.exp_add]; congr 1
  have ht : (∑ j ∈ Finset.range (512 * n), if j = r then l j else 0) = l r := by
    rw [Finset.sum_ite_eq']; exact if_pos (Finset.mem_range.mpr (by omega))
  have hpos : 0 < ∑ j ∈ Finset.range C, Real.exp (l j) :=
    Finset.sum_pos (fun _ _ => Real.exp_pos _) ⟨r, Finset.mem_range.mpr hr⟩
  rw [hs, ht, Ideal.log_coe, if_neg (not_le.mpr (mul_pos hpos (Real.exp_pos _))), ← EReal.coe_add, ← EReal.coe_sub,
    Real.log_mul hpos.ne' (Real.exp_pos _).ne', Real.log_exp]
  unfold logSoftmax
  congr 1; ring

/-- A row's log-softmax computed the other way: every logit less the row's maximum, less the logarithm of the sum of
exponentials at that scale. -/
theorem shifted (l : ℕ → ℝ) (r : ℕ) (hr : r < C) (M : ℝ) :
    ((l r : EReal) - (M : EReal)) - Ideal.log (∑ j : Fin C, Ideal.exp ((l j : EReal) - (M : EReal))) = (logSoftmax C l r : ℝ) := by
  have hpos : 0 < ∑ j ∈ Finset.range C, Real.exp (l j) :=
    Finset.sum_pos (fun _ _ => Real.exp_pos _) ⟨r, Finset.mem_range.mpr hr⟩
  have hs : ∑ j : Fin C, Ideal.exp ((l j : EReal) - (M : EReal)) = (((∑ j ∈ Finset.range C, Real.exp (l j)) * Real.exp (-M) : ℝ) : EReal) := by
    rw [Finset.sum_mul, Finset.sum_range, coe_sum]
    refine Finset.sum_congr rfl fun j _ => ?_
    rw [← EReal.coe_sub, Ideal.exp_coe, ← Real.exp_add]; congr 2
  rw [hs, Ideal.log_coe, if_neg (not_le.mpr (mul_pos hpos (Real.exp_pos _))), ← EReal.coe_sub, ← EReal.coe_sub,
    Real.log_mul hpos.ne' (Real.exp_pos _).ne', Real.log_exp]
  unfold logSoftmax
  congr 1; ring

/-- The maximum of a row of real logits is real. -/
theorem fold_real (l : ℕ → ℝ) (hC : 0 < C) : ∃ M : ℝ, Finset.fold max ⊥ (fun j : Fin C => (l j : EReal)) Finset.univ = M := by
  have hlt : Finset.fold max ⊥ (fun j : Fin C => (l j : EReal)) Finset.univ < ⊤ :=
    (Finset.fold_max_lt _).mpr ⟨bot_lt_top, fun k _ => EReal.coe_lt_top _⟩
  have hgt : ⊥ < Finset.fold max ⊥ (fun j : Fin C => (l j : EReal)) Finset.univ :=
    (Finset.lt_fold_max _).mpr (Or.inr ⟨⟨0, hC⟩, Finset.mem_univ _, EReal.bot_lt_coe _⟩)
  exact ⟨_, (EReal.coe_toReal hlt.ne hgt.ne').symm⟩

end Cert.Row

end
-- ==== Proof.Val.R1.lean ====
/-
  Region 1's value: the row it leaves holds each row's log-softmax at that row's class.
-/
module

public import proofs.«01_k».proof.Proof.KI.Data
public import proofs.«01_k».proof.Proof.Val.Online
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe
open Idealize.SL.Sem

section Value1

/-! ## The payloads at one row -/

theorem pay7_1 (i : grid1.Coords) (h : FVec Ideal S8192x512 .bf16) (w : FVec Ideal S512x512 .bf16) (b : Fin 8192) (k : Fin 512) :
    k1_pay7 (F := Ideal) i h w (ix2 b k)
      = Scalar.select (IntOp.cmpi .slt (Row.column (i 0).val k.val) 8000#32) (∑ x : Fin 512, h (ix2 b x) * w (ix2 k x))
          (Named.named (F := Ideal) (φ := .f32) κ "mask" 0xF149F2CA#32) := by
  pointwise [k1_pay7, k1_pay6]

theorem pay8_1 (i : grid1.Coords) (h : FVec Ideal S8192x512 .bf16) (w : FVec Ideal S512x512 .bf16) (r : IVec S8192 32)
    (t : FVec Ideal S8192 .f32) (b : Fin 8192) :
    k1_pay8 (F := Ideal) i h w r t (ix1 b)
      = t (ix1 b) + ∑ k : Fin 512, Scalar.select (IntOp.cmpi .eq (Row.column (i 0).val k.val) (r (ix1 b))) (k1_pay7 (F := Ideal) i h w (ix2 b k)) 0 := by
  pointwise [k1_pay8, k1_pay6]

theorem rowMax1 (x : FVec Ideal S8192x512 .f32) (b : Fin 8192) :
    multiReduction .maximumf [1] S8192 x 0xFF800000#32 reduces_S8192x512_S8192 (.inl rfl) rfl (ix1 b)
      = Finset.fold max (Ideal.ofBits .f32 0xFF800000#32) (fun k : Fin 512 => x (ix2 b k)) Finset.univ := by
  pointwise

theorem cast1 (x : FVec Ideal S8192 .f32) (h) (b : Fin 8192) : shapeCast S8192 x h (ix1 b) = x (ix1 b) := by
  pointwise

theorem pay9_1 (i : grid1.Coords) (h : FVec Ideal S8192x512 .bf16) (w : FVec Ideal S512x512 .bf16) (t : FVec Ideal S8192 .f32) (b : Fin 8192) :
    k1_pay9 (F := Ideal) i h w t (ix1 b)
      = max (t (ix1 b)) (Finset.fold max (Ideal.ofBits .f32 0xFF800000#32) (fun k : Fin 512 => k1_pay7 (F := Ideal) i h w (ix2 b k)) Finset.univ) :=
  congrArg (max (t (ix1 b))) (rowMax1 (k1_pay7 (F := Ideal) i h w) b)

theorem pay10_1 (i : grid1.Coords) (h : FVec Ideal S8192x512 .bf16) (w : FVec Ideal S512x512 .bf16) (t : FVec Ideal S8192 .f32) (b : Fin 8192) :
    k1_pay10 (F := Ideal) i h w t (ix1 b) = k1_pay9 (F := Ideal) i h w t (ix1 b) := by
  unfold k1_pay10
  exact cast1 _ _ _

theorem pay11_1 (i : grid1.Coords) (h : FVec Ideal S8192x512 .bf16) (w : FVec Ideal S512x512 .bf16) (t : FVec Ideal S8192 .f32) (b : Fin 8192) :
    k1_pay11 (F := Ideal) i h w t (ix1 b) = t (ix1 b) - k1_pay9 (F := Ideal) i h w t (ix1 b) := by
  pointwise [k1_pay11]

theorem pay1_1 (x : FVec Ideal S8192x512 .f32) (m t m' : FVec Ideal S8192 .f32) (b : Fin 8192) :
    k1_pay1 (F := Ideal) x m t m' (ix1 b)
      = t (ix1 b) * Ideal.exp (m' (ix1 b)) + ∑ k : Fin 512, Ideal.exp (x (ix2 b k) - m (ix1 b)) := by
  pointwise [k1_pay1]

theorem pay2_1 (t m s : FVec Ideal S8192 .f32) (b : Fin 8192) :
    k1_pay2 (F := Ideal) t m s (ix1 b) = t (ix1 b) - (m (ix1 b) + Ideal.log (s (ix1 b))) := by
  pointwise [k1_pay2]

theorem init1_row (b : Fin 8192) : (init1 (F := Ideal)).1 (ix1 b) = ⊥ ∧ (init1 (F := Ideal)).2.1 (ix1 b) = 0 ∧ (init1 (F := Ideal)).2.2 (ix1 b) = 0 := by
  unfold init1
  refine ⟨?_, ?_, ?_⟩
  · pointwise [k1_pay3]
    rfl
  · pointwise [k1_pay4]
  · pointwise [k1_pay5]

/-- One point's step at one row, given the block's masked logits. -/
theorem step1_row {i : grid1.Coords} {n : ℕ} (hi : (i 0).val = n) (hn : n < 100) {h : FVec Ideal S8192x512 .bf16} {w : FVec Ideal S512x512 .bf16}
    {r : IVec S8192 32} {st : Acc Ideal} {b : Fin 8192} {l : ℕ → ℝ}
    (hx : ∀ k : Fin 512, k1_pay7 (F := Ideal) i h w (ix2 b k) = Row.masked 8000 l n k) :
    (step1 i h w r st).1 (ix1 b) = max (st.1 (ix1 b)) (Finset.fold max ⊥ (fun k : Fin 512 => Row.masked 8000 l n k) Finset.univ)
    ∧ (step1 i h w r st).2.1 (ix1 b) = st.2.1 (ix1 b)
        * Ideal.exp (st.1 (ix1 b) - max (st.1 (ix1 b)) (Finset.fold max ⊥ (fun k : Fin 512 => Row.masked 8000 l n k) Finset.univ))
        + ∑ k : Fin 512, Ideal.exp (Row.masked 8000 l n k - max (st.1 (ix1 b)) (Finset.fold max ⊥ (fun k : Fin 512 => Row.masked 8000 l n k) Finset.univ))
    ∧ (step1 i h w r st).2.2 (ix1 b) = st.2.2 (ix1 b)
        + ∑ k : Fin 512, (if 512 * n + k.val = (r (ix1 b)).toNat then Row.masked 8000 l n k else 0) := by
  have h9 : k1_pay9 (F := Ideal) i h w st.1 (ix1 b)
      = max (st.1 (ix1 b)) (Finset.fold max ⊥ (fun k : Fin 512 => Row.masked 8000 l n k) Finset.univ) := by
    rw [pay9_1, Row.word_bot]; simp only [hx]
  unfold step1
  refine ⟨?_, ?_, ?_⟩
  · exact (pay10_1 i h w st.1 b).trans h9
  · refine (pay1_1 _ _ _ _ _).trans ?_
    rw [pay11_1, h9]; simp only [hx]
  · refine (pay8_1 _ _ _ _ _ _).trans ?_
    simp only [hx, hi]
    congr 1
    exact Finset.sum_congr rfl fun k _ => Row.select_eq hn k.isLt _ _ _

/-! ## The blocks -/

variable (c : Dev nD) (A : (w : Fin cfg1.W) → Buf (Elt Ideal) ((cfg1.win w).arr.view.loc (c : Thread nD τ)))

/-- The operands, as arrays. -/
abbrev hid1 : FVec Ideal S8192x512 .bf16 := A 0
abbrev mat1 : FVec Ideal S8000x512 .bf16 := A 1
abbrev cls1 : IVec S8192 32 := A 2

theorem at1 : ∀ t : Fin cfg1.N, ((cfg1.win 0).index t 0 = 0 ∧ (cfg1.win 0).index t 1 = 0) ∧ (cfg1.win 2).index t 0 = 0 := by decide +kernel

theorem whole1_0 (d) : in1 (F := Ideal) c A 0 ⟨0, pos1⟩ d = hid1 c A := by
  funext y
  show hid1 c A (((cfg1.win 0).blk ⟨0, pos1⟩).view.emb y) = hid1 c A y
  congr 1
  funext a
  apply Fin.ext
  match a with
  | ⟨0, _⟩ =>
    show (cfg1.win 0).index ⟨0, pos1⟩ 0 * 8192 + 1 * (y 0).val = (y 0).val
    rw [(at1 ⟨0, pos1⟩).1.1]; omega
  | ⟨1, _⟩ =>
    show (cfg1.win 0).index ⟨0, pos1⟩ 1 * 512 + 1 * (y 1).val = (y 1).val
    rw [(at1 ⟨0, pos1⟩).1.2]; omega

theorem whole1_2 (d) : in1 (F := Ideal) c A 2 ⟨0, pos1⟩ d = cls1 c A := by
  funext y
  show cls1 c A (((cfg1.win 2).blk ⟨0, pos1⟩).view.emb y) = cls1 c A y
  congr 1
  funext a
  apply Fin.ext
  match a with
  | ⟨0, _⟩ =>
    show (cfg1.win 2).index ⟨0, pos1⟩ 0 * 8192 + 1 * (y 0).val = (y 0).val
    rw [(at1 ⟨0, pos1⟩).2]; omega

theorem cuts1 : ∀ t : Fin cfg1.N, ((cfg1.win 1).xsize (cfg1.grid.coords t) 0 = min 512 (8000 - 512 * t.val) ∧ (cfg1.win 1).xsize (cfg1.grid.coords t) 1 = 512)
    ∧ ((cfg1.win 1).index t 0 = t.val ∧ (cfg1.win 1).index t 1 = 0) := by decide +kernel

theorem coords1 : ∀ t : Fin cfg1.N, (grid1.coords t 0).val = t.val := by decide +kernel

/-- The block of rows of the second operand, inside the array. -/
theorem rows1 (n : ℕ) (hn : n < cfg1.N) (d) (k x : Fin 512) (hk : 512 * n + k.val < 8000) :
    (in1 (F := Ideal) c A 1 ⟨n, hn⟩ d : FVec Ideal S512x512 .bf16) (ix2 k x) = mat1 c A (ix2 ⟨512 * n + k.val, hk⟩ x) := by
  obtain ⟨⟨c0, c1⟩, e0, e1⟩ := cuts1 ⟨n, hn⟩
  have hm : (cfg1.win 1).moved (cfg1.grid.coords ⟨n, hn⟩) (ix2 k x) = true := by
    rw [Pipeline.Window.moved_iff]
    intro a
    match a with
    | ⟨0, _⟩ => exact lt_of_lt_of_eq (show k.val < min 512 (8000 - 512 * n) by omega) c0.symm
    | ⟨1, _⟩ => exact lt_of_lt_of_eq x.isLt c1.symm
  unfold in1 Pipeline.Window.fill
  rw [dif_pos hm]
  show mat1 c A (((cfg1.win 1).blk ⟨n, hn⟩).view.emb _) = _
  congr 1
  funext a
  apply Fin.ext
  match a with
  | ⟨0, _⟩ =>
    show (cfg1.win 1).index ⟨n, hn⟩ 0 * 512 + 1 * k.val = 512 * n + k.val
    rw [e0]; show n * 512 + 1 * k.val = _; omega
  | ⟨1, _⟩ =>
    show (cfg1.win 1).index ⟨n, hn⟩ 1 * 512 + 1 * x.val = x.val
    rw [e1]; omega

variable {c A}

/-! ## The region -/

/-- A point's masked logits. -/
theorem logits1 {b : Fin 8192} {l : ℕ → ℝ}
    (hl : ∀ j : Fin 8000, ∑ x : Fin 512, (hid1 c A (ix2 b x) : EReal) * mat1 c A (ix2 j x) = ((l j.val : ℝ) : EReal))
    (n : ℕ) (hn : n < cfg1.N) (d0) (d1) (k : Fin 512) :
    k1_pay7 (F := Ideal) (grid1.coords ⟨n, hn⟩) (in1 (F := Ideal) c A 0 ⟨0, pos1⟩ d0) (in1 (F := Ideal) c A 1 ⟨n, hn⟩ d1) (ix2 b k) = Row.masked 8000 l n k := by
  have hN : n < 100 := lt_of_lt_of_le hn (by rw [show cfg1.N = 16 from N_1]; decide)
  rw [pay7_1, coords1 ⟨n, hn⟩]
  refine (Row.select_lt hN k.isLt (by decide) _ _).trans ?_
  unfold Row.masked
  split
  case isTrue hk =>
    rw [whole1_0]
    refine Eq.trans ?_ (hl ⟨512 * n + k.val, hk⟩)
    exact Finset.sum_congr rfl fun x _ => congrArg _ (rows1 c A n hn d1 k x hk)
  case isFalse => rfl

/-- After some points, at one row. -/
theorem after1 {b : Fin 8192} {l : ℕ → ℝ}
    (hl : ∀ j : Fin 8000, ∑ x : Fin 512, (hid1 c A (ix2 b x) : EReal) * mat1 c A (ix2 j x) = ((l j.val : ℝ) : EReal))
    (hr : (cls1 c A (ix1 b)).toNat < 8000) :
    ∀ (n : ℕ) (st : Acc Ideal), Reach1 c A (n + 1) st →
      Row.After 8000 l (cls1 c A (ix1 b)).toNat (n + 1) (st.1 (ix1 b)) (st.2.1 (ix1 b)) (st.2.2 (ix1 b)) := by
  intro n
  induction n with
  | zero =>
    intro st hst
    obtain ⟨hn, st0, d0, d1, d2, -, rfl⟩ := hst
    obtain ⟨e0, e1, e2⟩ := step1_row (r := in1 (F := Ideal) c A 2 ⟨0, pos1⟩ d2) (st := init1) (coords1 ⟨0, hn⟩) (show 0 < 100 by decide) (logits1 hl 0 hn d0 d1)
    obtain ⟨i0, i1, i2⟩ := init1_row b
    unfold next1
    rw [if_pos ((isFirst1_iff ⟨0, hn⟩).mpr rfl), e0, e1, e2, i0, i1, i2, whole1_2]
    exact Row.first (by decide) hr
  | succ n ih =>
    intro st hst
    obtain ⟨hn, st0, d0, d1, d2, hst0, rfl⟩ := hst
    have hN : n + 1 < 16 := lt_of_lt_of_eq hn N_1
    obtain ⟨e0, e1, e2⟩ := step1_row (r := in1 (F := Ideal) c A 2 ⟨0, pos1⟩ d2) (st := st0) (coords1 ⟨n + 1, hn⟩) (show n + 1 < 100 by omega) (logits1 hl (n + 1) hn d0 d1)
    unfold next1
    rw [if_neg (fun h => absurd ((isFirst1_iff ⟨n + 1, hn⟩).mp h) (Nat.succ_ne_zero n)), e0, e1, e2, whole1_2]
    exact Row.next (by omega) hr (ih st0 hst0)

/-- The region's result, at one row. -/
theorem result1 {b : Fin 8192} {l : ℕ → ℝ}
    (hl : ∀ j : Fin 8000, ∑ x : Fin 512, (hid1 c A (ix2 b x) : EReal) * mat1 c A (ix2 j x) = ((l j.val : ℝ) : EReal))
    (hr : (cls1 c A (ix1 b)).toNat < 8000) {st : Acc Ideal} (hst : Reach1 c A 16 st) :
    out1 st (ix1 b) = ((Row.logSoftmax 8000 l (cls1 c A (ix1 b)).toNat : ℝ) : EReal) :=
  (pay2_1 _ _ _ _).trans (Row.final (by decide) hr (after1 hl hr 15 st hst))

end Value1

end Cert.KernelIdeal.Hand

end
-- ==== Proof.Val.R2.lean ====
/-
  Region 2's value: the row it leaves holds each row's log-softmax at that row's class.
-/
module

public import proofs.«01_k».proof.Proof.KI.Data
public import proofs.«01_k».proof.Proof.Val.Online
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe
open Idealize.SL.Sem

section Value2

/-! ## The payloads at one row -/

theorem pay7_2 (i : grid2.Coords) (h : FVec Ideal S8192x256 .bf16) (w : FVec Ideal S512x256 .bf16) (b : Fin 8192) (k : Fin 512) :
    k2_pay7 (F := Ideal) i h w (ix2 b k)
      = Scalar.select (IntOp.cmpi .slt (Row.column (i 0).val k.val) 40000#32) (∑ x : Fin 256, h (ix2 b x) * w (ix2 k x))
          (Named.named (F := Ideal) (φ := .f32) κ "mask" 0xF149F2CA#32) := by
  pointwise [k2_pay7, k2_pay6]

theorem pay8_2 (i : grid2.Coords) (h : FVec Ideal S8192x256 .bf16) (w : FVec Ideal S512x256 .bf16) (r : IVec S8192 32)
    (t : FVec Ideal S8192 .f32) (b : Fin 8192) :
    k2_pay8 (F := Ideal) i h w r t (ix1 b)
      = t (ix1 b) + ∑ k : Fin 512, Scalar.select (IntOp.cmpi .eq (Row.column (i 0).val k.val) (r (ix1 b))) (k2_pay7 (F := Ideal) i h w (ix2 b k)) 0 := by
  pointwise [k2_pay8, k2_pay6]

theorem rowMax2 (x : FVec Ideal S8192x512 .f32) (b : Fin 8192) :
    multiReduction .maximumf [1] S8192 x 0xFF800000#32 reduces_S8192x512_S8192 (.inl rfl) rfl (ix1 b)
      = Finset.fold max (Ideal.ofBits .f32 0xFF800000#32) (fun k : Fin 512 => x (ix2 b k)) Finset.univ := by
  pointwise

theorem cast2 (x : FVec Ideal S8192 .f32) (h) (b : Fin 8192) : shapeCast S8192 x h (ix1 b) = x (ix1 b) := by
  pointwise

theorem pay9_2 (i : grid2.Coords) (h : FVec Ideal S8192x256 .bf16) (w : FVec Ideal S512x256 .bf16) (t : FVec Ideal S8192 .f32) (b : Fin 8192) :
    k2_pay9 (F := Ideal) i h w t (ix1 b)
      = max (t (ix1 b)) (Finset.fold max (Ideal.ofBits .f32 0xFF800000#32) (fun k : Fin 512 => k2_pay7 (F := Ideal) i h w (ix2 b k)) Finset.univ) :=
  congrArg (max (t (ix1 b))) (rowMax2 (k2_pay7 (F := Ideal) i h w) b)

theorem pay10_2 (i : grid2.Coords) (h : FVec Ideal S8192x256 .bf16) (w : FVec Ideal S512x256 .bf16) (t : FVec Ideal S8192 .f32) (b : Fin 8192) :
    k2_pay10 (F := Ideal) i h w t (ix1 b) = k2_pay9 (F := Ideal) i h w t (ix1 b) := by
  unfold k2_pay10
  exact cast2 _ _ _

theorem pay11_2 (i : grid2.Coords) (h : FVec Ideal S8192x256 .bf16) (w : FVec Ideal S512x256 .bf16) (t : FVec Ideal S8192 .f32) (b : Fin 8192) :
    k2_pay11 (F := Ideal) i h w t (ix1 b) = t (ix1 b) - k2_pay9 (F := Ideal) i h w t (ix1 b) := by
  pointwise [k2_pay11]

theorem pay1_2 (x : FVec Ideal S8192x512 .f32) (m t m' : FVec Ideal S8192 .f32) (b : Fin 8192) :
    k2_pay1 (F := Ideal) x m t m' (ix1 b)
      = t (ix1 b) * Ideal.exp (m' (ix1 b)) + ∑ k : Fin 512, Ideal.exp (x (ix2 b k) - m (ix1 b)) := by
  pointwise [k2_pay1]

theorem pay2_2 (t m s : FVec Ideal S8192 .f32) (b : Fin 8192) :
    k2_pay2 (F := Ideal) t m s (ix1 b) = t (ix1 b) - (m (ix1 b) + Ideal.log (s (ix1 b))) := by
  pointwise [k2_pay2]

theorem init2_row (b : Fin 8192) : (init2 (F := Ideal)).1 (ix1 b) = ⊥ ∧ (init2 (F := Ideal)).2.1 (ix1 b) = 0 ∧ (init2 (F := Ideal)).2.2 (ix1 b) = 0 := by
  unfold init2
  refine ⟨?_, ?_, ?_⟩
  · pointwise [k2_pay3]
    rfl
  · pointwise [k2_pay4]
  · pointwise [k2_pay5]

/-- One point's step at one row, given the block's masked logits. -/
theorem step2_row {i : grid2.Coords} {n : ℕ} (hi : (i 0).val = n) (hn : n < 100) {h : FVec Ideal S8192x256 .bf16} {w : FVec Ideal S512x256 .bf16}
    {r : IVec S8192 32} {st : Acc Ideal} {b : Fin 8192} {l : ℕ → ℝ}
    (hx : ∀ k : Fin 512, k2_pay7 (F := Ideal) i h w (ix2 b k) = Row.masked 40000 l n k) :
    (step2 i h w r st).1 (ix1 b) = max (st.1 (ix1 b)) (Finset.fold max ⊥ (fun k : Fin 512 => Row.masked 40000 l n k) Finset.univ)
    ∧ (step2 i h w r st).2.1 (ix1 b) = st.2.1 (ix1 b)
        * Ideal.exp (st.1 (ix1 b) - max (st.1 (ix1 b)) (Finset.fold max ⊥ (fun k : Fin 512 => Row.masked 40000 l n k) Finset.univ))
        + ∑ k : Fin 512, Ideal.exp (Row.masked 40000 l n k - max (st.1 (ix1 b)) (Finset.fold max ⊥ (fun k : Fin 512 => Row.masked 40000 l n k) Finset.univ))
    ∧ (step2 i h w r st).2.2 (ix1 b) = st.2.2 (ix1 b)
        + ∑ k : Fin 512, (if 512 * n + k.val = (r (ix1 b)).toNat then Row.masked 40000 l n k else 0) := by
  have h9 : k2_pay9 (F := Ideal) i h w st.1 (ix1 b)
      = max (st.1 (ix1 b)) (Finset.fold max ⊥ (fun k : Fin 512 => Row.masked 40000 l n k) Finset.univ) := by
    rw [pay9_2, Row.word_bot]; simp only [hx]
  unfold step2
  refine ⟨?_, ?_, ?_⟩
  · exact (pay10_2 i h w st.1 b).trans h9
  · refine (pay1_2 _ _ _ _ _).trans ?_
    rw [pay11_2, h9]; simp only [hx]
  · refine (pay8_2 _ _ _ _ _ _).trans ?_
    simp only [hx, hi]
    congr 1
    exact Finset.sum_congr rfl fun k _ => Row.select_eq hn k.isLt _ _ _

/-! ## The blocks -/

variable (c : Dev nD) (A : (w : Fin cfg2.W) → Buf (Elt Ideal) ((cfg2.win w).arr.view.loc (c : Thread nD τ)))

/-- The operands, as arrays. -/
abbrev hid2 : FVec Ideal S8192x256 .bf16 := A 0
abbrev mat2 : FVec Ideal S40000x256 .bf16 := A 1
abbrev cls2 : IVec S8192 32 := A 2

theorem at2 : ∀ t : Fin cfg2.N, ((cfg2.win 0).index t 0 = 0 ∧ (cfg2.win 0).index t 1 = 0) ∧ (cfg2.win 2).index t 0 = 0 := by decide +kernel

theorem whole2_0 (d) : in2 (F := Ideal) c A 0 ⟨0, pos2⟩ d = hid2 c A := by
  funext y
  show hid2 c A (((cfg2.win 0).blk ⟨0, pos2⟩).view.emb y) = hid2 c A y
  congr 1
  funext a
  apply Fin.ext
  match a with
  | ⟨0, _⟩ =>
    show (cfg2.win 0).index ⟨0, pos2⟩ 0 * 8192 + 1 * (y 0).val = (y 0).val
    rw [(at2 ⟨0, pos2⟩).1.1]; omega
  | ⟨1, _⟩ =>
    show (cfg2.win 0).index ⟨0, pos2⟩ 1 * 256 + 1 * (y 1).val = (y 1).val
    rw [(at2 ⟨0, pos2⟩).1.2]; omega

theorem whole2_2 (d) : in2 (F := Ideal) c A 2 ⟨0, pos2⟩ d = cls2 c A := by
  funext y
  show cls2 c A (((cfg2.win 2).blk ⟨0, pos2⟩).view.emb y) = cls2 c A y
  congr 1
  funext a
  apply Fin.ext
  match a with
  | ⟨0, _⟩ =>
    show (cfg2.win 2).index ⟨0, pos2⟩ 0 * 8192 + 1 * (y 0).val = (y 0).val
    rw [(at2 ⟨0, pos2⟩).2]; omega

theorem cuts2 : ∀ t : Fin cfg2.N, ((cfg2.win 1).xsize (cfg2.grid.coords t) 0 = min 512 (40000 - 512 * t.val) ∧ (cfg2.win 1).xsize (cfg2.grid.coords t) 1 = 256)
    ∧ ((cfg2.win 1).index t 0 = t.val ∧ (cfg2.win 1).index t 1 = 0) := by decide +kernel

theorem coords2 : ∀ t : Fin cfg2.N, (grid2.coords t 0).val = t.val := by decide +kernel

/-- The block of rows of the second operand, inside the array. -/
theorem rows2 (n : ℕ) (hn : n < cfg2.N) (d) (k : Fin 512) (x : Fin 256) (hk : 512 * n + k.val < 40000) :
    (in2 (F := Ideal) c A 1 ⟨n, hn⟩ d : FVec Ideal S512x256 .bf16) (ix2 k x) = mat2 c A (ix2 ⟨512 * n + k.val, hk⟩ x) := by
  obtain ⟨⟨c0, c1⟩, e0, e1⟩ := cuts2 ⟨n, hn⟩
  have hm : (cfg2.win 1).moved (cfg2.grid.coords ⟨n, hn⟩) (ix2 k x) = true := by
    rw [Pipeline.Window.moved_iff]
    intro a
    match a with
    | ⟨0, _⟩ => exact lt_of_lt_of_eq (show k.val < min 512 (40000 - 512 * n) by omega) c0.symm
    | ⟨1, _⟩ => exact lt_of_lt_of_eq x.isLt c1.symm
  unfold in2 Pipeline.Window.fill
  rw [dif_pos hm]
  show mat2 c A (((cfg2.win 1).blk ⟨n, hn⟩).view.emb _) = _
  congr 1
  funext a
  apply Fin.ext
  match a with
  | ⟨0, _⟩ =>
    show (cfg2.win 1).index ⟨n, hn⟩ 0 * 512 + 1 * k.val = 512 * n + k.val
    rw [e0]; show n * 512 + 1 * k.val = _; omega
  | ⟨1, _⟩ =>
    show (cfg2.win 1).index ⟨n, hn⟩ 1 * 256 + 1 * x.val = x.val
    rw [e1]; omega

variable {c A}

/-! ## The region -/

/-- A point's masked logits. -/
theorem logits2 {b : Fin 8192} {l : ℕ → ℝ}
    (hl : ∀ j : Fin 40000, ∑ x : Fin 256, (hid2 c A (ix2 b x) : EReal) * mat2 c A (ix2 j x) = ((l j.val : ℝ) : EReal))
    (n : ℕ) (hn : n < cfg2.N) (d0) (d1) (k : Fin 512) :
    k2_pay7 (F := Ideal) (grid2.coords ⟨n, hn⟩) (in2 (F := Ideal) c A 0 ⟨0, pos2⟩ d0) (in2 (F := Ideal) c A 1 ⟨n, hn⟩ d1) (ix2 b k) = Row.masked 40000 l n k := by
  have hN : n < 100 := lt_of_lt_of_le hn (by rw [show cfg2.N = 79 from N_2]; decide)
  rw [pay7_2, coords2 ⟨n, hn⟩]
  refine (Row.select_lt hN k.isLt (by decide) _ _).trans ?_
  unfold Row.masked
  split
  case isTrue hk =>
    rw [whole2_0]
    refine Eq.trans ?_ (hl ⟨512 * n + k.val, hk⟩)
    exact Finset.sum_congr rfl fun x _ => congrArg _ (rows2 c A n hn d1 k x hk)
  case isFalse => rfl

/-- After some points, at one row. -/
theorem after2 {b : Fin 8192} {l : ℕ → ℝ}
    (hl : ∀ j : Fin 40000, ∑ x : Fin 256, (hid2 c A (ix2 b x) : EReal) * mat2 c A (ix2 j x) = ((l j.val : ℝ) : EReal))
    (hr : (cls2 c A (ix1 b)).toNat < 40000) :
    ∀ (n : ℕ) (st : Acc Ideal), Reach2 c A (n + 1) st →
      Row.After 40000 l (cls2 c A (ix1 b)).toNat (n + 1) (st.1 (ix1 b)) (st.2.1 (ix1 b)) (st.2.2 (ix1 b)) := by
  intro n
  induction n with
  | zero =>
    intro st hst
    obtain ⟨hn, st0, d0, d1, d2, -, rfl⟩ := hst
    obtain ⟨e0, e1, e2⟩ := step2_row (r := in2 (F := Ideal) c A 2 ⟨0, pos2⟩ d2) (st := init2) (coords2 ⟨0, hn⟩) (show 0 < 100 by decide) (logits2 hl 0 hn d0 d1)
    obtain ⟨i0, i1, i2⟩ := init2_row b
    unfold next2
    rw [if_pos ((isFirst2_iff ⟨0, hn⟩).mpr rfl), e0, e1, e2, i0, i1, i2, whole2_2]
    exact Row.first (by decide) hr
  | succ n ih =>
    intro st hst
    obtain ⟨hn, st0, d0, d1, d2, hst0, rfl⟩ := hst
    have hN : n + 1 < 79 := lt_of_lt_of_eq hn N_2
    obtain ⟨e0, e1, e2⟩ := step2_row (r := in2 (F := Ideal) c A 2 ⟨0, pos2⟩ d2) (st := st0) (coords2 ⟨n + 1, hn⟩) (show n + 1 < 100 by omega) (logits2 hl (n + 1) hn d0 d1)
    unfold next2
    rw [if_neg (fun h => absurd ((isFirst2_iff ⟨n + 1, hn⟩).mp h) (Nat.succ_ne_zero n)), e0, e1, e2, whole2_2]
    exact Row.next (by omega) hr (ih st0 hst0)

/-- The region's result, at one row. -/
theorem result2 {b : Fin 8192} {l : ℕ → ℝ}
    (hl : ∀ j : Fin 40000, ∑ x : Fin 256, (hid2 c A (ix2 b x) : EReal) * mat2 c A (ix2 j x) = ((l j.val : ℝ) : EReal))
    (hr : (cls2 c A (ix1 b)).toNat < 40000) {st : Acc Ideal} (hst : Reach2 c A 79 st) :
    out2 st (ix1 b) = ((Row.logSoftmax 40000 l (cls2 c A (ix1 b)).toNat : ℝ) : EReal) :=
  (pay2_2 _ _ _ _).trans (Row.final (by decide) hr (after2 hl hr 78 st hst))

end Value2

end Cert.KernelIdeal.Hand

end
-- ==== Proof.Val.R3.lean ====
/-
  Region 3's value: the row it leaves holds each row's log-softmax at that row's class.
-/
module

public import proofs.«01_k».proof.Proof.KI.Data
public import proofs.«01_k».proof.Proof.Val.Online
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe
open Idealize.SL.Sem

section Value3

/-! ## The payloads at one row -/

theorem pay7_3 (i : grid3.Coords) (h : FVec Ideal S8192x128 .bf16) (w : FVec Ideal S512x128 .bf16) (b : Fin 8192) (k : Fin 512) :
    k3_pay7 (F := Ideal) i h w (ix2 b k)
      = Scalar.select (IntOp.cmpi .slt (Row.column (i 0).val k.val) 50000#32) (∑ x : Fin 128, h (ix2 b x) * w (ix2 k x))
          (Named.named (F := Ideal) (φ := .f32) κ "mask" 0xF149F2CA#32) := by
  pointwise [k3_pay7, k3_pay6]

theorem pay8_3 (i : grid3.Coords) (h : FVec Ideal S8192x128 .bf16) (w : FVec Ideal S512x128 .bf16) (r : IVec S8192 32)
    (t : FVec Ideal S8192 .f32) (b : Fin 8192) :
    k3_pay8 (F := Ideal) i h w r t (ix1 b)
      = t (ix1 b) + ∑ k : Fin 512, Scalar.select (IntOp.cmpi .eq (Row.column (i 0).val k.val) (r (ix1 b))) (k3_pay7 (F := Ideal) i h w (ix2 b k)) 0 := by
  pointwise [k3_pay8, k3_pay6]

theorem rowMax3 (x : FVec Ideal S8192x512 .f32) (b : Fin 8192) :
    multiReduction .maximumf [1] S8192 x 0xFF800000#32 reduces_S8192x512_S8192 (.inl rfl) rfl (ix1 b)
      = Finset.fold max (Ideal.ofBits .f32 0xFF800000#32) (fun k : Fin 512 => x (ix2 b k)) Finset.univ := by
  pointwise

theorem cast3 (x : FVec Ideal S8192 .f32) (h) (b : Fin 8192) : shapeCast S8192 x h (ix1 b) = x (ix1 b) := by
  pointwise

theorem pay9_3 (i : grid3.Coords) (h : FVec Ideal S8192x128 .bf16) (w : FVec Ideal S512x128 .bf16) (t : FVec Ideal S8192 .f32) (b : Fin 8192) :
    k3_pay9 (F := Ideal) i h w t (ix1 b)
      = max (t (ix1 b)) (Finset.fold max (Ideal.ofBits .f32 0xFF800000#32) (fun k : Fin 512 => k3_pay7 (F := Ideal) i h w (ix2 b k)) Finset.univ) :=
  congrArg (max (t (ix1 b))) (rowMax3 (k3_pay7 (F := Ideal) i h w) b)

theorem pay10_3 (i : grid3.Coords) (h : FVec Ideal S8192x128 .bf16) (w : FVec Ideal S512x128 .bf16) (t : FVec Ideal S8192 .f32) (b : Fin 8192) :
    k3_pay10 (F := Ideal) i h w t (ix1 b) = k3_pay9 (F := Ideal) i h w t (ix1 b) := by
  unfold k3_pay10
  exact cast3 _ _ _

theorem pay11_3 (i : grid3.Coords) (h : FVec Ideal S8192x128 .bf16) (w : FVec Ideal S512x128 .bf16) (t : FVec Ideal S8192 .f32) (b : Fin 8192) :
    k3_pay11 (F := Ideal) i h w t (ix1 b) = t (ix1 b) - k3_pay9 (F := Ideal) i h w t (ix1 b) := by
  pointwise [k3_pay11]

theorem pay1_3 (x : FVec Ideal S8192x512 .f32) (m t m' : FVec Ideal S8192 .f32) (b : Fin 8192) :
    k3_pay1 (F := Ideal) x m t m' (ix1 b)
      = t (ix1 b) * Ideal.exp (m' (ix1 b)) + ∑ k : Fin 512, Ideal.exp (x (ix2 b k) - m (ix1 b)) := by
  pointwise [k3_pay1]

theorem pay2_3 (t m s : FVec Ideal S8192 .f32) (b : Fin 8192) :
    k3_pay2 (F := Ideal) t m s (ix1 b) = t (ix1 b) - (m (ix1 b) + Ideal.log (s (ix1 b))) := by
  pointwise [k3_pay2]

theorem init3_row (b : Fin 8192) : (init3 (F := Ideal)).1 (ix1 b) = ⊥ ∧ (init3 (F := Ideal)).2.1 (ix1 b) = 0 ∧ (init3 (F := Ideal)).2.2 (ix1 b) = 0 := by
  unfold init3
  refine ⟨?_, ?_, ?_⟩
  · pointwise [k3_pay3]
    rfl
  · pointwise [k3_pay4]
  · pointwise [k3_pay5]

/-- One point's step at one row, given the block's masked logits. -/
theorem step3_row {i : grid3.Coords} {n : ℕ} (hi : (i 0).val = n) (hn : n < 100) {h : FVec Ideal S8192x128 .bf16} {w : FVec Ideal S512x128 .bf16}
    {r : IVec S8192 32} {st : Acc Ideal} {b : Fin 8192} {l : ℕ → ℝ}
    (hx : ∀ k : Fin 512, k3_pay7 (F := Ideal) i h w (ix2 b k) = Row.masked 50000 l n k) :
    (step3 i h w r st).1 (ix1 b) = max (st.1 (ix1 b)) (Finset.fold max ⊥ (fun k : Fin 512 => Row.masked 50000 l n k) Finset.univ)
    ∧ (step3 i h w r st).2.1 (ix1 b) = st.2.1 (ix1 b)
        * Ideal.exp (st.1 (ix1 b) - max (st.1 (ix1 b)) (Finset.fold max ⊥ (fun k : Fin 512 => Row.masked 50000 l n k) Finset.univ))
        + ∑ k : Fin 512, Ideal.exp (Row.masked 50000 l n k - max (st.1 (ix1 b)) (Finset.fold max ⊥ (fun k : Fin 512 => Row.masked 50000 l n k) Finset.univ))
    ∧ (step3 i h w r st).2.2 (ix1 b) = st.2.2 (ix1 b)
        + ∑ k : Fin 512, (if 512 * n + k.val = (r (ix1 b)).toNat then Row.masked 50000 l n k else 0) := by
  have h9 : k3_pay9 (F := Ideal) i h w st.1 (ix1 b)
      = max (st.1 (ix1 b)) (Finset.fold max ⊥ (fun k : Fin 512 => Row.masked 50000 l n k) Finset.univ) := by
    rw [pay9_3, Row.word_bot]; simp only [hx]
  unfold step3
  refine ⟨?_, ?_, ?_⟩
  · exact (pay10_3 i h w st.1 b).trans h9
  · refine (pay1_3 _ _ _ _ _).trans ?_
    rw [pay11_3, h9]; simp only [hx]
  · refine (pay8_3 _ _ _ _ _ _).trans ?_
    simp only [hx, hi]
    congr 1
    exact Finset.sum_congr rfl fun k _ => Row.select_eq hn k.isLt _ _ _

/-! ## The blocks -/

variable (c : Dev nD) (A : (w : Fin cfg3.W) → Buf (Elt Ideal) ((cfg3.win w).arr.view.loc (c : Thread nD τ)))

/-- The operands, as arrays. -/
abbrev hid3 : FVec Ideal S8192x128 .bf16 := A 0
abbrev mat3 : FVec Ideal S50000x128 .bf16 := A 1
abbrev cls3 : IVec S8192 32 := A 2

theorem at3 : ∀ t : Fin cfg3.N, ((cfg3.win 0).index t 0 = 0 ∧ (cfg3.win 0).index t 1 = 0) ∧ (cfg3.win 2).index t 0 = 0 := by decide +kernel

theorem whole3_0 (d) : in3 (F := Ideal) c A 0 ⟨0, pos3⟩ d = hid3 c A := by
  funext y
  show hid3 c A (((cfg3.win 0).blk ⟨0, pos3⟩).view.emb y) = hid3 c A y
  congr 1
  funext a
  apply Fin.ext
  match a with
  | ⟨0, _⟩ =>
    show (cfg3.win 0).index ⟨0, pos3⟩ 0 * 8192 + 1 * (y 0).val = (y 0).val
    rw [(at3 ⟨0, pos3⟩).1.1]; omega
  | ⟨1, _⟩ =>
    show (cfg3.win 0).index ⟨0, pos3⟩ 1 * 128 + 1 * (y 1).val = (y 1).val
    rw [(at3 ⟨0, pos3⟩).1.2]; omega

theorem whole3_2 (d) : in3 (F := Ideal) c A 2 ⟨0, pos3⟩ d = cls3 c A := by
  funext y
  show cls3 c A (((cfg3.win 2).blk ⟨0, pos3⟩).view.emb y) = cls3 c A y
  congr 1
  funext a
  apply Fin.ext
  match a with
  | ⟨0, _⟩ =>
    show (cfg3.win 2).index ⟨0, pos3⟩ 0 * 8192 + 1 * (y 0).val = (y 0).val
    rw [(at3 ⟨0, pos3⟩).2]; omega

theorem cuts3 : ∀ t : Fin cfg3.N, ((cfg3.win 1).xsize (cfg3.grid.coords t) 0 = min 512 (50000 - 512 * t.val) ∧ (cfg3.win 1).xsize (cfg3.grid.coords t) 1 = 128)
    ∧ ((cfg3.win 1).index t 0 = t.val ∧ (cfg3.win 1).index t 1 = 0) := by decide +kernel

theorem coords3 : ∀ t : Fin cfg3.N, (grid3.coords t 0).val = t.val := by decide +kernel

/-- The block of rows of the second operand, inside the array. -/
theorem rows3 (n : ℕ) (hn : n < cfg3.N) (d) (k : Fin 512) (x : Fin 128) (hk : 512 * n + k.val < 50000) :
    (in3 (F := Ideal) c A 1 ⟨n, hn⟩ d : FVec Ideal S512x128 .bf16) (ix2 k x) = mat3 c A (ix2 ⟨512 * n + k.val, hk⟩ x) := by
  obtain ⟨⟨c0, c1⟩, e0, e1⟩ := cuts3 ⟨n, hn⟩
  have hm : (cfg3.win 1).moved (cfg3.grid.coords ⟨n, hn⟩) (ix2 k x) = true := by
    rw [Pipeline.Window.moved_iff]
    intro a
    match a with
    | ⟨0, _⟩ => exact lt_of_lt_of_eq (show k.val < min 512 (50000 - 512 * n) by omega) c0.symm
    | ⟨1, _⟩ => exact lt_of_lt_of_eq x.isLt c1.symm
  unfold in3 Pipeline.Window.fill
  rw [dif_pos hm]
  show mat3 c A (((cfg3.win 1).blk ⟨n, hn⟩).view.emb _) = _
  congr 1
  funext a
  apply Fin.ext
  match a with
  | ⟨0, _⟩ =>
    show (cfg3.win 1).index ⟨n, hn⟩ 0 * 512 + 1 * k.val = 512 * n + k.val
    rw [e0]; show n * 512 + 1 * k.val = _; omega
  | ⟨1, _⟩ =>
    show (cfg3.win 1).index ⟨n, hn⟩ 1 * 128 + 1 * x.val = x.val
    rw [e1]; omega

variable {c A}

/-! ## The region -/

/-- A point's masked logits. -/
theorem logits3 {b : Fin 8192} {l : ℕ → ℝ}
    (hl : ∀ j : Fin 50000, ∑ x : Fin 128, (hid3 c A (ix2 b x) : EReal) * mat3 c A (ix2 j x) = ((l j.val : ℝ) : EReal))
    (n : ℕ) (hn : n < cfg3.N) (d0) (d1) (k : Fin 512) :
    k3_pay7 (F := Ideal) (grid3.coords ⟨n, hn⟩) (in3 (F := Ideal) c A 0 ⟨0, pos3⟩ d0) (in3 (F := Ideal) c A 1 ⟨n, hn⟩ d1) (ix2 b k) = Row.masked 50000 l n k := by
  have hN : n < 100 := lt_of_lt_of_le hn (by rw [show cfg3.N = 98 from N_3]; decide)
  rw [pay7_3, coords3 ⟨n, hn⟩]
  refine (Row.select_lt hN k.isLt (by decide) _ _).trans ?_
  unfold Row.masked
  split
  case isTrue hk =>
    rw [whole3_0]
    refine Eq.trans ?_ (hl ⟨512 * n + k.val, hk⟩)
    exact Finset.sum_congr rfl fun x _ => congrArg _ (rows3 c A n hn d1 k x hk)
  case isFalse => rfl

/-- After some points, at one row. -/
theorem after3 {b : Fin 8192} {l : ℕ → ℝ}
    (hl : ∀ j : Fin 50000, ∑ x : Fin 128, (hid3 c A (ix2 b x) : EReal) * mat3 c A (ix2 j x) = ((l j.val : ℝ) : EReal))
    (hr : (cls3 c A (ix1 b)).toNat < 50000) :
    ∀ (n : ℕ) (st : Acc Ideal), Reach3 c A (n + 1) st →
      Row.After 50000 l (cls3 c A (ix1 b)).toNat (n + 1) (st.1 (ix1 b)) (st.2.1 (ix1 b)) (st.2.2 (ix1 b)) := by
  intro n
  induction n with
  | zero =>
    intro st hst
    obtain ⟨hn, st0, d0, d1, d2, -, rfl⟩ := hst
    obtain ⟨e0, e1, e2⟩ := step3_row (r := in3 (F := Ideal) c A 2 ⟨0, pos3⟩ d2) (st := init3) (coords3 ⟨0, hn⟩) (show 0 < 100 by decide) (logits3 hl 0 hn d0 d1)
    obtain ⟨i0, i1, i2⟩ := init3_row b
    unfold next3
    rw [if_pos ((isFirst3_iff ⟨0, hn⟩).mpr rfl), e0, e1, e2, i0, i1, i2, whole3_2]
    exact Row.first (by decide) hr
  | succ n ih =>
    intro st hst
    obtain ⟨hn, st0, d0, d1, d2, hst0, rfl⟩ := hst
    have hN : n + 1 < 98 := lt_of_lt_of_eq hn N_3
    obtain ⟨e0, e1, e2⟩ := step3_row (r := in3 (F := Ideal) c A 2 ⟨0, pos3⟩ d2) (st := st0) (coords3 ⟨n + 1, hn⟩) (show n + 1 < 100 by omega) (logits3 hl (n + 1) hn d0 d1)
    unfold next3
    rw [if_neg (fun h => absurd ((isFirst3_iff ⟨n + 1, hn⟩).mp h) (Nat.succ_ne_zero n)), e0, e1, e2, whole3_2]
    exact Row.next (by omega) hr (ih st0 hst0)

/-- The region's result, at one row. -/
theorem result3 {b : Fin 8192} {l : ℕ → ℝ}
    (hl : ∀ j : Fin 50000, ∑ x : Fin 128, (hid3 c A (ix2 b x) : EReal) * mat3 c A (ix2 j x) = ((l j.val : ℝ) : EReal))
    (hr : (cls3 c A (ix1 b)).toNat < 50000) {st : Acc Ideal} (hst : Reach3 c A 98 st) :
    out3 st (ix1 b) = ((Row.logSoftmax 50000 l (cls3 c A (ix1 b)).toNat : ℝ) : EReal) :=
  (pay2_3 _ _ _ _).trans (Row.final (by decide) hr (after3 hl hr 97 st hst))

end Value3

end Cert.KernelIdeal.Hand

end
-- ==== Proof.Val.R4.lean ====
/-
  Region 4's value: the row it leaves holds each row's log-softmax at that row's class.
-/
module

public import proofs.«01_k».proof.Proof.KI.Data
public import proofs.«01_k».proof.Proof.Val.Online
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe
open Idealize.SL.Sem

section Value4

/-! ## The payloads at one row -/

theorem pay7_4 (i : grid4.Coords) (h : FVec Ideal S8192x1024 .bf16) (w : FVec Ideal S512x1024 .f32) (b : Fin 8192) (k : Fin 512) :
    k4_pay7 (F := Ideal) i h w (ix2 b k)
      = Scalar.select (IntOp.cmpi .slt (Row.column (i 0).val k.val) 2003#32) (∑ x : Fin 1024, h (ix2 b x) * w (ix2 k x))
          (Named.named (F := Ideal) (φ := .f32) κ "mask" 0xF149F2CA#32) := by
  pointwise [k4_pay7, k4_pay6]

theorem pay8_4 (i : grid4.Coords) (h : FVec Ideal S8192x1024 .bf16) (w : FVec Ideal S512x1024 .f32) (r : IVec S8192 32)
    (t : FVec Ideal S8192 .f32) (b : Fin 8192) :
    k4_pay8 (F := Ideal) i h w r t (ix1 b)
      = t (ix1 b) + ∑ k : Fin 512, Scalar.select (IntOp.cmpi .eq (Row.column (i 0).val k.val) (r (ix1 b))) (k4_pay7 (F := Ideal) i h w (ix2 b k)) 0 := by
  pointwise [k4_pay8, k4_pay6]

theorem rowMax4 (x : FVec Ideal S8192x512 .f32) (b : Fin 8192) :
    multiReduction .maximumf [1] S8192 x 0xFF800000#32 reduces_S8192x512_S8192 (.inl rfl) rfl (ix1 b)
      = Finset.fold max (Ideal.ofBits .f32 0xFF800000#32) (fun k : Fin 512 => x (ix2 b k)) Finset.univ := by
  pointwise

theorem cast4 (x : FVec Ideal S8192 .f32) (h) (b : Fin 8192) : shapeCast S8192 x h (ix1 b) = x (ix1 b) := by
  pointwise

theorem pay9_4 (i : grid4.Coords) (h : FVec Ideal S8192x1024 .bf16) (w : FVec Ideal S512x1024 .f32) (t : FVec Ideal S8192 .f32) (b : Fin 8192) :
    k4_pay9 (F := Ideal) i h w t (ix1 b)
      = max (t (ix1 b)) (Finset.fold max (Ideal.ofBits .f32 0xFF800000#32) (fun k : Fin 512 => k4_pay7 (F := Ideal) i h w (ix2 b k)) Finset.univ) :=
  congrArg (max (t (ix1 b))) (rowMax4 (k4_pay7 (F := Ideal) i h w) b)

theorem pay10_4 (i : grid4.Coords) (h : FVec Ideal S8192x1024 .bf16) (w : FVec Ideal S512x1024 .f32) (t : FVec Ideal S8192 .f32) (b : Fin 8192) :
    k4_pay10 (F := Ideal) i h w t (ix1 b) = k4_pay9 (F := Ideal) i h w t (ix1 b) := by
  unfold k4_pay10
  exact cast4 _ _ _

theorem pay11_4 (i : grid4.Coords) (h : FVec Ideal S8192x1024 .bf16) (w : FVec Ideal S512x1024 .f32) (t : FVec Ideal S8192 .f32) (b : Fin 8192) :
    k4_pay11 (F := Ideal) i h w t (ix1 b) = t (ix1 b) - k4_pay9 (F := Ideal) i h w t (ix1 b) := by
  pointwise [k4_pay11]

theorem pay1_4 (x : FVec Ideal S8192x512 .f32) (m t m' : FVec Ideal S8192 .f32) (b : Fin 8192) :
    k4_pay1 (F := Ideal) x m t m' (ix1 b)
      = t (ix1 b) * Ideal.exp (m' (ix1 b)) + ∑ k : Fin 512, Ideal.exp (x (ix2 b k) - m (ix1 b)) := by
  pointwise [k4_pay1]

theorem pay2_4 (t m s : FVec Ideal S8192 .f32) (b : Fin 8192) :
    k4_pay2 (F := Ideal) t m s (ix1 b) = t (ix1 b) - (m (ix1 b) + Ideal.log (s (ix1 b))) := by
  pointwise [k4_pay2]

theorem init4_row (b : Fin 8192) : (init4 (F := Ideal)).1 (ix1 b) = ⊥ ∧ (init4 (F := Ideal)).2.1 (ix1 b) = 0 ∧ (init4 (F := Ideal)).2.2 (ix1 b) = 0 := by
  unfold init4
  refine ⟨?_, ?_, ?_⟩
  · pointwise [k4_pay3]
    rfl
  · pointwise [k4_pay4]
  · pointwise [k4_pay5]

/-- One point's step at one row, given the block's masked logits. -/
theorem step4_row {i : grid4.Coords} {n : ℕ} (hi : (i 0).val = n) (hn : n < 100) {h : FVec Ideal S8192x1024 .bf16} {w : FVec Ideal S512x1024 .f32}
    {r : IVec S8192 32} {st : Acc Ideal} {b : Fin 8192} {l : ℕ → ℝ}
    (hx : ∀ k : Fin 512, k4_pay7 (F := Ideal) i h w (ix2 b k) = Row.masked 2003 l n k) :
    (step4 i h w r st).1 (ix1 b) = max (st.1 (ix1 b)) (Finset.fold max ⊥ (fun k : Fin 512 => Row.masked 2003 l n k) Finset.univ)
    ∧ (step4 i h w r st).2.1 (ix1 b) = st.2.1 (ix1 b)
        * Ideal.exp (st.1 (ix1 b) - max (st.1 (ix1 b)) (Finset.fold max ⊥ (fun k : Fin 512 => Row.masked 2003 l n k) Finset.univ))
        + ∑ k : Fin 512, Ideal.exp (Row.masked 2003 l n k - max (st.1 (ix1 b)) (Finset.fold max ⊥ (fun k : Fin 512 => Row.masked 2003 l n k) Finset.univ))
    ∧ (step4 i h w r st).2.2 (ix1 b) = st.2.2 (ix1 b)
        + ∑ k : Fin 512, (if 512 * n + k.val = (r (ix1 b)).toNat then Row.masked 2003 l n k else 0) := by
  have h9 : k4_pay9 (F := Ideal) i h w st.1 (ix1 b)
      = max (st.1 (ix1 b)) (Finset.fold max ⊥ (fun k : Fin 512 => Row.masked 2003 l n k) Finset.univ) := by
    rw [pay9_4, Row.word_bot]; simp only [hx]
  unfold step4
  refine ⟨?_, ?_, ?_⟩
  · exact (pay10_4 i h w st.1 b).trans h9
  · refine (pay1_4 _ _ _ _ _).trans ?_
    rw [pay11_4, h9]; simp only [hx]
  · refine (pay8_4 _ _ _ _ _ _).trans ?_
    simp only [hx, hi]
    congr 1
    exact Finset.sum_congr rfl fun k _ => Row.select_eq hn k.isLt _ _ _

/-! ## The blocks -/

variable (c : Dev nD) (A : (w : Fin cfg4.W) → Buf (Elt Ideal) ((cfg4.win w).arr.view.loc (c : Thread nD τ)))

/-- The operands, as arrays. -/
abbrev hid4 : FVec Ideal S8192x1024 .bf16 := A 0
abbrev mat4 : FVec Ideal S2003x1024 .f32 := A 1
abbrev cls4 : IVec S8192 32 := A 2

theorem at4 : ∀ t : Fin cfg4.N, ((cfg4.win 0).index t 0 = 0 ∧ (cfg4.win 0).index t 1 = 0) ∧ (cfg4.win 2).index t 0 = 0 := by decide +kernel

theorem whole4_0 (d) : in4 (F := Ideal) c A 0 ⟨0, pos4⟩ d = hid4 c A := by
  funext y
  show hid4 c A (((cfg4.win 0).blk ⟨0, pos4⟩).view.emb y) = hid4 c A y
  congr 1
  funext a
  apply Fin.ext
  match a with
  | ⟨0, _⟩ =>
    show (cfg4.win 0).index ⟨0, pos4⟩ 0 * 8192 + 1 * (y 0).val = (y 0).val
    rw [(at4 ⟨0, pos4⟩).1.1]; omega
  | ⟨1, _⟩ =>
    show (cfg4.win 0).index ⟨0, pos4⟩ 1 * 1024 + 1 * (y 1).val = (y 1).val
    rw [(at4 ⟨0, pos4⟩).1.2]; omega

theorem whole4_2 (d) : in4 (F := Ideal) c A 2 ⟨0, pos4⟩ d = cls4 c A := by
  funext y
  show cls4 c A (((cfg4.win 2).blk ⟨0, pos4⟩).view.emb y) = cls4 c A y
  congr 1
  funext a
  apply Fin.ext
  match a with
  | ⟨0, _⟩ =>
    show (cfg4.win 2).index ⟨0, pos4⟩ 0 * 8192 + 1 * (y 0).val = (y 0).val
    rw [(at4 ⟨0, pos4⟩).2]; omega

theorem cuts4 : ∀ t : Fin cfg4.N, ((cfg4.win 1).xsize (cfg4.grid.coords t) 0 = min 512 (2003 - 512 * t.val) ∧ (cfg4.win 1).xsize (cfg4.grid.coords t) 1 = 1024)
    ∧ ((cfg4.win 1).index t 0 = t.val ∧ (cfg4.win 1).index t 1 = 0) := by decide +kernel

theorem coords4 : ∀ t : Fin cfg4.N, (grid4.coords t 0).val = t.val := by decide +kernel

/-- The block of rows of the second operand, inside the array. -/
theorem rows4 (n : ℕ) (hn : n < cfg4.N) (d) (k : Fin 512) (x : Fin 1024) (hk : 512 * n + k.val < 2003) :
    (in4 (F := Ideal) c A 1 ⟨n, hn⟩ d : FVec Ideal S512x1024 .f32) (ix2 k x) = mat4 c A (ix2 ⟨512 * n + k.val, hk⟩ x) := by
  obtain ⟨⟨c0, c1⟩, e0, e1⟩ := cuts4 ⟨n, hn⟩
  have hm : (cfg4.win 1).moved (cfg4.grid.coords ⟨n, hn⟩) (ix2 k x) = true := by
    rw [Pipeline.Window.moved_iff]
    intro a
    match a with
    | ⟨0, _⟩ => exact lt_of_lt_of_eq (show k.val < min 512 (2003 - 512 * n) by omega) c0.symm
    | ⟨1, _⟩ => exact lt_of_lt_of_eq x.isLt c1.symm
  unfold in4 Pipeline.Window.fill
  rw [dif_pos hm]
  show mat4 c A (((cfg4.win 1).blk ⟨n, hn⟩).view.emb _) = _
  congr 1
  funext a
  apply Fin.ext
  match a with
  | ⟨0, _⟩ =>
    show (cfg4.win 1).index ⟨n, hn⟩ 0 * 512 + 1 * k.val = 512 * n + k.val
    rw [e0]; show n * 512 + 1 * k.val = _; omega
  | ⟨1, _⟩ =>
    show (cfg4.win 1).index ⟨n, hn⟩ 1 * 1024 + 1 * x.val = x.val
    rw [e1]; omega

variable {c A}

/-! ## The region -/

/-- A point's masked logits. -/
theorem logits4 {b : Fin 8192} {l : ℕ → ℝ}
    (hl : ∀ j : Fin 2003, ∑ x : Fin 1024, (hid4 c A (ix2 b x) : EReal) * mat4 c A (ix2 j x) = ((l j.val : ℝ) : EReal))
    (n : ℕ) (hn : n < cfg4.N) (d0) (d1) (k : Fin 512) :
    k4_pay7 (F := Ideal) (grid4.coords ⟨n, hn⟩) (in4 (F := Ideal) c A 0 ⟨0, pos4⟩ d0) (in4 (F := Ideal) c A 1 ⟨n, hn⟩ d1) (ix2 b k) = Row.masked 2003 l n k := by
  have hN : n < 100 := lt_of_lt_of_le hn (by rw [show cfg4.N = 4 from N_4]; decide)
  rw [pay7_4, coords4 ⟨n, hn⟩]
  refine (Row.select_lt hN k.isLt (by decide) _ _).trans ?_
  unfold Row.masked
  split
  case isTrue hk =>
    rw [whole4_0]
    refine Eq.trans ?_ (hl ⟨512 * n + k.val, hk⟩)
    exact Finset.sum_congr rfl fun x _ => congrArg _ (rows4 c A n hn d1 k x hk)
  case isFalse => rfl

/-- After some points, at one row. -/
theorem after4 {b : Fin 8192} {l : ℕ → ℝ}
    (hl : ∀ j : Fin 2003, ∑ x : Fin 1024, (hid4 c A (ix2 b x) : EReal) * mat4 c A (ix2 j x) = ((l j.val : ℝ) : EReal))
    (hr : (cls4 c A (ix1 b)).toNat < 2003) :
    ∀ (n : ℕ) (st : Acc Ideal), Reach4 c A (n + 1) st →
      Row.After 2003 l (cls4 c A (ix1 b)).toNat (n + 1) (st.1 (ix1 b)) (st.2.1 (ix1 b)) (st.2.2 (ix1 b)) := by
  intro n
  induction n with
  | zero =>
    intro st hst
    obtain ⟨hn, st0, d0, d1, d2, -, rfl⟩ := hst
    obtain ⟨e0, e1, e2⟩ := step4_row (r := in4 (F := Ideal) c A 2 ⟨0, pos4⟩ d2) (st := init4) (coords4 ⟨0, hn⟩) (show 0 < 100 by decide) (logits4 hl 0 hn d0 d1)
    obtain ⟨i0, i1, i2⟩ := init4_row b
    unfold next4
    rw [if_pos ((isFirst4_iff ⟨0, hn⟩).mpr rfl), e0, e1, e2, i0, i1, i2, whole4_2]
    exact Row.first (by decide) hr
  | succ n ih =>
    intro st hst
    obtain ⟨hn, st0, d0, d1, d2, hst0, rfl⟩ := hst
    have hN : n + 1 < 4 := lt_of_lt_of_eq hn N_4
    obtain ⟨e0, e1, e2⟩ := step4_row (r := in4 (F := Ideal) c A 2 ⟨0, pos4⟩ d2) (st := st0) (coords4 ⟨n + 1, hn⟩) (show n + 1 < 100 by omega) (logits4 hl (n + 1) hn d0 d1)
    unfold next4
    rw [if_neg (fun h => absurd ((isFirst4_iff ⟨n + 1, hn⟩).mp h) (Nat.succ_ne_zero n)), e0, e1, e2, whole4_2]
    exact Row.next (by omega) hr (ih st0 hst0)

/-- The region's result, at one row. -/
theorem result4 {b : Fin 8192} {l : ℕ → ℝ}
    (hl : ∀ j : Fin 2003, ∑ x : Fin 1024, (hid4 c A (ix2 b x) : EReal) * mat4 c A (ix2 j x) = ((l j.val : ℝ) : EReal))
    (hr : (cls4 c A (ix1 b)).toNat < 2003) {st : Acc Ideal} (hst : Reach4 c A 4 st) :
    out4 st (ix1 b) = ((Row.logSoftmax 2003 l (cls4 c A (ix1 b)).toNat : ℝ) : EReal) :=
  (pay2_4 _ _ _ _).trans (Row.final (by decide) hr (after4 hl hr 3 st hst))

end Value4

end Cert.KernelIdeal.Hand

end
-- ==== Proof.Val.Words.lean ====
/-
  The class words at one row: a clipped relative index lies in its cluster, and so does the head's class.
-/
module

public import proofs.«01_k».proof.Proof.KI.Host
public import Idealize.ShloMosaic.Lib.Pointwise
public import Idealize.ShloMosaic.Lib.Tactic.WordOmega

@[expose] public section

set_option maxRecDepth 16384

noncomputable section

namespace Cert.KernelIdeal.Hand

open Cert.KernelIdeal Cert.KernelIdeal.Gen
open Idealize.ShloMosaic Idealize.ShloMosaic.TcCoe
open Idealize.SL.Sem

/-- A clipped word is at most the upper bound. -/
theorem clip_le (hi w : BitVec 32) (h : hi.toNat < 2 ^ 31) : (IntOp.minsi hi (IntOp.maxsi 0#32 w)).toNat ≤ hi.toNat := by
  have hh : hi.toInt = hi.toNat := BitVec.toInt_eq_toNat_of_lt (by omega)
  have key : ∀ y : BitVec 32, 0 ≤ y.toInt → (IntOp.minsi hi y).toNat ≤ hi.toNat := fun y hy => by
    unfold IntOp.minsi
    split
    · exact le_rfl
    · rename_i hlt
      have h1 : ¬ hi.toInt < y.toInt := by
        intro hc; exact hlt (by simpa [BitVec.slt] using hc)
      have h2 : y.toInt = y.toNat := by
        rw [BitVec.toInt_eq_toNat_cond] at hy ⊢
        split at hy <;> rename_i hc
        · rw [if_pos hc]
        · have := y.isLt; omega
      omega
  refine key _ ?_
  unfold IntOp.maxsi
  split
  · simp
  · rename_i hlt
    have : ¬ w.toInt < 0 := by
      intro hc; exact hlt (by simpa [BitVec.slt] using hc)
    omega

theorem relOf_row (lo hi : BitVec 32) (t : IVec S8192 32) (b : Fin 8192) :
    relOf lo hi t (ix1 b) = IntOp.minsi hi (IntOp.maxsi 0#32 (IntOp.subi (t (ix1 b)) lo)) := by
  pointwise [relOf]

theorem relOf_le (lo hi : BitVec 32) (t : IVec S8192 32) (b : Fin 8192) (h : hi.toNat < 2 ^ 31) : (relOf lo hi t (ix1 b)).toNat ≤ hi.toNat := by
  rw [relOf_row]
  exact clip_le _ _ h

theorem inCluster_row (lo hi : BitVec 32) (t : IVec S8192 32) (b : Fin 8192) :
    inCluster lo hi t (ix1 b) = IntOp.andi (IntOp.cmpi .sge (t (ix1 b)) lo) (IntOp.cmpi .slt (t (ix1 b)) hi) := by
  pointwise [inCluster]

/-- A row in a cluster has its target inside. -/
theorem inCluster_iff (lo hi : BitVec 32) (t : IVec S8192 32) (b : Fin 8192) :
    inCluster lo hi t (ix1 b) = 1#1 ↔ lo.toInt ≤ (t (ix1 b)).toInt ∧ (t (ix1 b)).toInt < hi.toInt := by
  rw [inCluster_row]
  simp only [IntOp.andi, IntOp.cmpi, BitVec.sle, BitVec.slt]
  by_cases h1 : lo.toInt ≤ (t (ix1 b)).toInt <;> by_cases h2 : (t (ix1 b)).toInt < hi.toInt <;> simp [h1, h2]

theorem headOf_row (t : IVec S8192 32) (b : Fin 8192) :
    headOf t (ix1 b) = Scalar.select (inCluster 50000#32 100000#32 t (ix1 b)) 2002#32
      (Scalar.select (inCluster 10000#32 50000#32 t (ix1 b)) 2001#32
        (Scalar.select (inCluster 2000#32 10000#32 t (ix1 b)) 2000#32
          (Scalar.select (IntOp.cmpi .slt (t (ix1 b)) 2000#32) (t (ix1 b)) 0#32))) := by
  pointwise [headOf]

/-- The head's class lies in the head, the target not negative. -/
theorem headOf_lt (t : IVec S8192 32) (b : Fin 8192) (h : 0 ≤ (t (ix1 b)).toInt) : (headOf t (ix1 b)).toNat < 2003 := by
  rw [headOf_row]
  unfold Scalar.select
  split
  · decide
  split
  · decide
  split
  · decide
  split
  · rename_i hlt
    have h2 : (t (ix1 b)).toInt < 2000 := by
      by_contra hc
      refine absurd hlt ?_
      simp only [IntOp.cmpi, BitVec.slt]
      rw [decide_eq_false (by simpa using hc)]
      decide
    rw [BitVec.toInt_eq_toNat_cond] at h h2
    split at h <;> rename_i hc
    · rw [if_pos hc] at h2; omega
    · have := (t (ix1 b)).isLt; omega
  · decide

end Cert.KernelIdeal.Hand

end
-- ==== Proof.Val.Kernel.lean ====
/-
  The kernel's result at one row, and that it is the reference's.
-/
module

public import proofs.«01_k».proof.Proof.KI.Regs
public import proofs.«01_k».proof.Proof.Val.R0
public import proofs.«01_k».proof.Proof.Val.R1
public import proofs.«01_k».proof.Proof.Val.R2
public import proofs.«01_k».proof.Proof.Val.R3
public import proofs.«01_k».proof.Proof.Val.R4
public import proofs.«01_k».proof.Proof.Val.Words

@[expose] public section

set_option maxRecDepth 16384

noncomputable section

namespace Cert.KernelIdeal.Hand

open Cert.KernelIdeal Cert.KernelIdeal.Gen
open Idealize.ShloMosaic Idealize.ShloMosaic.TcCoe
open Idealize.SL.Sem

section Rows

variable (m : (ℓ : Loc nD τ sig) → Buf (Elt Ideal) ℓ) (c : Dev nD)

/-! ## The arguments -/

abbrev xOf : FVec Ideal S8192x1024 .f32 := m ((c : Thread nD τ).loc main_arg0)
abbrev wOf : FVec Ideal S2003x1024 .f32 := m ((c : Thread nD τ).loc main_arg2)
abbrev u1Of : FVec Ideal S512x1024 .f32 := m ((c : Thread nD τ).loc main_arg3)
abbrev v1Of : FVec Ideal S8000x512 .f32 := m ((c : Thread nD τ).loc main_arg4)
abbrev u2Of : FVec Ideal S256x1024 .f32 := m ((c : Thread nD τ).loc main_arg5)
abbrev v2Of : FVec Ideal S40000x256 .f32 := m ((c : Thread nD τ).loc main_arg6)
abbrev u3Of : FVec Ideal S128x1024 .f32 := m ((c : Thread nD τ).loc main_arg7)
abbrev v3Of : FVec Ideal S50000x128 .f32 := m ((c : Thread nD τ).loc main_arg8)

/-! ## The product -/

/-- The product, as an array. -/
abbrev prodOf : FVec Ideal S8192x896 .bf16 := prod m c

theorem prod_row (b : Fin 8192) (j : Fin 896) :
    prodOf m c (ix2 b j) = ∑ k : Fin 1024, xOf m c (ix2 b k) * stack (u1Of m c) (u2Of m c) (u3Of m c) (ix2 j k) := by
  have e : prodOf m c = product0 c (arrs0 m c) := result0 c (arrs0 m c)
  rw [e]
  unfold product0
  refine Finset.sum_congr rfl fun k _ => congrArg₂ (fun p q : EReal => p * q) ?_ ?_
  · exact congrFun (entry0_arg0 m c) (ix2 b k)
  · exact congrFun (entry0_v4 m c) (ix2 j k)

/-! ## The tail cluster of 8000 classes -/

theorem hid_row1 (b : Fin 8192) (x : Fin 512) :
    hid1 c (arrs1 m c) (ix2 b x) = ∑ k : Fin 1024, xOf m c (ix2 b k) * u1Of m c (ix2 x k) := by
  have e : hid1 c (arrs1 m c) = extractStridedSlice S8192x512 ![0, 0] (prodOf m c) slices_S8192x896_S8192x512_0_0 :=
    (entry1_v22 m (known m) c).trans (congrArg (extractStridedSlice S8192x512 ![0, 0] · slices_S8192x896_S8192x512_0_0) (known_v5 m c))
  rw [e, slice_512, prod_row]
  exact Finset.sum_congr rfl fun k _ => congrArg (xOf m c (ix2 b k) * ·) (stack_512 _ _ _ x k)

theorem tail_row1 (b : Fin 8192) (l : ℕ → ℝ)
    (hl : ∀ j : Fin 8000, ∑ h : Fin 512, (∑ k : Fin 1024, xOf m c (ix2 b k) * u1Of m c (ix2 h k)) * v1Of m c (ix2 j h) = ((l j.val : ℝ) : EReal))
    (st : Acc Ideal) (hst : Reach1 c (arrs1 m c) 16 st) :
    out1 st (ix1 b) = ((Row.logSoftmax 8000 l (relOf 2000#32 7999#32 (tgtOf m c) (ix1 b)).toNat : ℝ) : EReal) := by
  have hc : cls1 c (arrs1 m c) = relOf 2000#32 7999#32 (tgtOf m c) := entry1_v21 m (known m) c
  have hle := relOf_le 2000#32 7999#32 (tgtOf m c) b (by decide)
  rw [show (7999#32 : BitVec 32).toNat = 7999 from rfl] at hle
  rw [← hc] at hle ⊢
  refine result1 (fun j => Eq.trans ?_ (hl j)) (by omega) hst
  refine Finset.sum_congr rfl fun x _ => congrArg₂ (fun p q : EReal => p * q) (hid_row1 m c b x) ?_
  exact congrFun (entry1_v0 m (known m) c) (ix2 j x)

/-! ## The tail cluster of 40000 classes -/

theorem hid_row2 (b : Fin 8192) (x : Fin 256) :
    hid2 c (arrs2 m c) (ix2 b x) = ∑ k : Fin 1024, xOf m c (ix2 b k) * u2Of m c (ix2 x k) := by
  have e : hid2 c (arrs2 m c) = extractStridedSlice S8192x256 ![0, 512] (prodOf m c) slices_S8192x896_S8192x256_0_512 :=
    (entry2_v35 m (known m) c).trans (congrArg (extractStridedSlice S8192x256 ![0, 512] · slices_S8192x896_S8192x256_0_512) (known_v5 m c))
  rw [e, slice_256, prod_row]
  exact Finset.sum_congr rfl fun k _ => congrArg (xOf m c (ix2 b k) * ·) (stack_256 _ _ _ x k)

theorem tail_row2 (b : Fin 8192) (l : ℕ → ℝ)
    (hl : ∀ j : Fin 40000, ∑ h : Fin 256, (∑ k : Fin 1024, xOf m c (ix2 b k) * u2Of m c (ix2 h k)) * v2Of m c (ix2 j h) = ((l j.val : ℝ) : EReal))
    (st : Acc Ideal) (hst : Reach2 c (arrs2 m c) 79 st) :
    out2 st (ix1 b) = ((Row.logSoftmax 40000 l (relOf 10000#32 39999#32 (tgtOf m c) (ix1 b)).toNat : ℝ) : EReal) := by
  have hc : cls2 c (arrs2 m c) = relOf 10000#32 39999#32 (tgtOf m c) := entry2_v34 m (known m) c
  have hle := relOf_le 10000#32 39999#32 (tgtOf m c) b (by decide)
  rw [show (39999#32 : BitVec 32).toNat = 39999 from rfl] at hle
  rw [← hc] at hle ⊢
  refine result2 (fun j => Eq.trans ?_ (hl j)) (by omega) hst
  refine Finset.sum_congr rfl fun x _ => congrArg₂ (fun p q : EReal => p * q) (hid_row2 m c b x) ?_
  exact congrFun (entry2_v1 m (known m) c) (ix2 j x)

/-! ## The tail cluster of 50000 classes -/

theorem hid_row3 (b : Fin 8192) (x : Fin 128) :
    hid3 c (arrs3 m c) (ix2 b x) = ∑ k : Fin 1024, xOf m c (ix2 b k) * u3Of m c (ix2 x k) := by
  have e : hid3 c (arrs3 m c) = extractStridedSlice S8192x128 ![0, 768] (prodOf m c) slices_S8192x896_S8192x128_0_768 :=
    (entry3_v48 m (known m) c).trans (congrArg (extractStridedSlice S8192x128 ![0, 768] · slices_S8192x896_S8192x128_0_768) (known_v5 m c))
  rw [e, slice_128, prod_row]
  exact Finset.sum_congr rfl fun k _ => congrArg (xOf m c (ix2 b k) * ·) (stack_128 _ _ _ x k)

theorem tail_row3 (b : Fin 8192) (l : ℕ → ℝ)
    (hl : ∀ j : Fin 50000, ∑ h : Fin 128, (∑ k : Fin 1024, xOf m c (ix2 b k) * u3Of m c (ix2 h k)) * v3Of m c (ix2 j h) = ((l j.val : ℝ) : EReal))
    (st : Acc Ideal) (hst : Reach3 c (arrs3 m c) 98 st) :
    out3 st (ix1 b) = ((Row.logSoftmax 50000 l (relOf 50000#32 49999#32 (tgtOf m c) (ix1 b)).toNat : ℝ) : EReal) := by
  have hc : cls3 c (arrs3 m c) = relOf 50000#32 49999#32 (tgtOf m c) := entry3_v47 m (known m) c
  have hle := relOf_le 50000#32 49999#32 (tgtOf m c) b (by decide)
  rw [show (49999#32 : BitVec 32).toNat = 49999 from rfl] at hle
  rw [← hc] at hle ⊢
  refine result3 (fun j => Eq.trans ?_ (hl j)) (by omega) hst
  refine Finset.sum_congr rfl fun x _ => congrArg₂ (fun p q : EReal => p * q) (hid_row3 m c b x) ?_
  exact congrFun (entry3_v2 m (known m) c) (ix2 j x)

/-! ## The head -/

theorem head_row (b : Fin 8192) (l : ℕ → ℝ) (ht : 0 ≤ (tgtOf m c (ix1 b)).toInt)
    (hl : ∀ j : Fin 2003, ∑ k : Fin 1024, xOf m c (ix2 b k) * wOf m c (ix2 j k) = ((l j.val : ℝ) : EReal))
    (st : Acc Ideal) (hst : Reach4 c (arrs4 m c) 4 st) :
    out4 st (ix1 b) = ((Row.logSoftmax 2003 l (headOf (tgtOf m c) (ix1 b)).toNat : ℝ) : EReal) := by
  have hc : cls4 c (arrs4 m c) = headOf (tgtOf m c) := entry4_v44 m (known m) c
  have hlt := headOf_lt (tgtOf m c) b ht
  rw [← hc] at hlt ⊢
  refine result4 (fun j => Eq.trans ?_ (hl j)) hlt hst
  refine Finset.sum_congr rfl fun x _ => congrArg₂ (fun p q : EReal => p * q) ?_ ?_
  · exact congrFun (entry4_v6 m (known m) c) (ix2 b x)
  · exact congrFun (entry4_arg2 m (known m) c) (ix2 j x)

theorem zeros_row (b : Fin 8192) : zeros (F := Ideal) (ix1 b) = (0 : EReal) := by
  pointwise

/-- The kernel's result at one row. -/
theorem value_row (o : Outs (F := Ideal)) (ho : After4 m c o) (b : Fin 8192) (ht : 0 ≤ (tgtOf m c (ix1 b)).toInt) (l0 l1 l2 l3 : ℕ → ℝ)
    (h0 : ∀ j : Fin 2003, ∑ k : Fin 1024, xOf m c (ix2 b k) * wOf m c (ix2 j k) = ((l0 j.val : ℝ) : EReal))
    (h1 : ∀ j : Fin 8000, ∑ h : Fin 512, (∑ k : Fin 1024, xOf m c (ix2 b k) * u1Of m c (ix2 h k)) * v1Of m c (ix2 j h) = ((l1 j.val : ℝ) : EReal))
    (h2 : ∀ j : Fin 40000, ∑ h : Fin 256, (∑ k : Fin 1024, xOf m c (ix2 b k) * u2Of m c (ix2 h k)) * v2Of m c (ix2 j h) = ((l2 j.val : ℝ) : EReal))
    (h3 : ∀ j : Fin 50000, ∑ h : Fin 128, (∑ k : Fin 1024, xOf m c (ix2 b k) * u3Of m c (ix2 h k)) * v3Of m c (ix2 j h) = ((l3 j.val : ℝ) : EReal)) :
    (V31 m o c main_v54 : FVec Ideal S8192 .f32) (ix1 b)
      = -(0 + Scalar.select (inCluster 2000#32 10000#32 (tgtOf m c) (ix1 b)) ((Row.logSoftmax 8000 l1 (relOf 2000#32 7999#32 (tgtOf m c) (ix1 b)).toNat : ℝ) : EReal) 0
        + Scalar.select (inCluster 10000#32 50000#32 (tgtOf m c) (ix1 b)) ((Row.logSoftmax 40000 l2 (relOf 10000#32 39999#32 (tgtOf m c) (ix1 b)).toNat : ℝ) : EReal) 0
        + Scalar.select (inCluster 50000#32 100000#32 (tgtOf m c) (ix1 b)) ((Row.logSoftmax 50000 l3 (relOf 50000#32 49999#32 (tgtOf m c) (ix1 b)).toNat : ℝ) : EReal) 0
        + ((Row.logSoftmax 2003 l0 (headOf (tgtOf m c) (ix1 b)).toNat : ℝ) : EReal)) := by
  obtain ⟨⟨⟨⟨-, s1, r1, e1⟩, s2, r2, e2⟩, s3, r3, e3⟩, s4, r4, e4⟩ := ho
  rw [val_v54, e1, e2, e3, e4, ← head_row m c b l0 ht h0 s4 r4, ← tail_row1 m c b l1 h1 s1 r1, ← tail_row2 m c b l2 h2 s2 r2, ← tail_row3 m c b l3 h3 s3 r3, ← zeros_row b]
  rfl

end Rows

end Cert.KernelIdeal.Hand

end
-- ==== Proof.Val.Ref.lean ====
/-
  The reference's steps read at one row: each cluster's logits, their log-softmax, and the entry that take_along_axis reads.
-/
module

public import proofs.«01_k».proof.Proof.Gen.ReferenceIdeal
public import proofs.«01_k».proof.Proof.Val.Online
public import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe
open Idealize.SL.Sem

/-! ## take_along_axis -/

/-- One column read per row: the batched gather at a row reads the operand's row at the start index, clamped. -/
theorem gather_col {α : Type} {N C : ℕ} (hC : 0 < C) (d : GatherDims ⟨2, ![N, C]⟩ ⟨3, ![N, 1, 1]⟩ ⟨2, ![N, 1]⟩)
    (hoff : d.offsetDims = []) (hcoll : d.collapsedSliceDims = [1]) (hob : d.operandBatchingDims = [0])
    (hsb : d.startIndicesBatchingDims = [0]) (hsim : d.startIndexMap = [1]) (hivd : d.indexVectorDim = 2) (hss : d.sliceSizes = ![1, 1])
    (x : (⟨2, ![N, C]⟩ : Shape).Idx → α) (i : IVec ⟨3, ![N, 1, 1]⟩ 32) (b : Fin N) :
    Host.gather d x i (ix2 b 0) = x (ix2 b ⟨min (i (ix3 b 0 0)).toInt.toNat (C - 1), by omega⟩) := by
  obtain ⟨o, cs, ob, sb, sm, iv, ss, wf⟩ := d
  dsimp only at hoff hcoll hob hsb hsim hivd hss
  subst hoff hcoll hob hsb hsim hivd hss
  unfold Host.gather
  congr 1
  funext a
  refine Fin.ext ?_
  have h01 : a = 0 ∨ a = 1 := by
    match a with
    | ⟨0, _⟩ => exact Or.inl rfl
    | ⟨1, _⟩ => exact Or.inr rfl
  rcases h01 with rfl | rfl
  · refine (congrArg₂ (· + ·) (congrArg₂ (· + ·) (GatherDims.start_batching _ _ _ _ (List.mem_singleton.mpr rfl)) rfl)
      (GatherDims.offCoord_eq_zero _ _ _ (fun h => ((GatherDims.mem_sKept _ _).mp h).2 (List.mem_singleton.mpr rfl)))).trans ?_
    simp only [Nat.zero_add, Nat.add_zero]
    unfold GatherDims.batchCoord
    rw [dif_pos (List.mem_singleton.mpr rfl)]
    rfl
  · refine (congrArg₂ (· + ·) (congrArg₂ (· + ·) rfl (GatherDims.batchCoord_eq_zero _ _ _ (fun h => by simp at h)))
      (GatherDims.offCoord_eq_zero _ _ _ (fun h => ((GatherDims.mem_sKept _ _).mp h).1 (List.mem_singleton.mpr rfl)))).trans ?_
    simp only [Nat.add_zero]
    unfold GatherDims.start
    rw [dif_pos (List.mem_singleton.mpr rfl)]
    refine congrArg₂ (fun (p : BitVec 32) q => min p.toInt.toNat q) ?_ rfl
    congr 1
    funext e
    refine Fin.ext ?_
    match e with
    | ⟨0, _⟩ => rfl
    | ⟨1, _⟩ => rfl
    | ⟨2, _⟩ => rfl

/-- The start indices: a negative index counts from the end. -/
abbrev wrapped (i : IVec S8192x1 32) (n : BitVec 32) : IVec S8192x1x1 32 :=
  shapeCast S8192x1x1 (select (cmpi .slt i (broadcastInDim S8192x1 ![] bcast_S_S8192x1 (constantI S_ 32 0#32)))
    (addi i (broadcastInDim S8192x1 ![] bcast_S_S8192x1 (constantI S_ 32 n))) i) shapeCasts_S8192x1_S8192x1x1

/-- Which rows' start indices lie inside. -/
abbrev inside (i : IVec S8192x1x1 32) (hi : BitVec 32) : IVec S8192x1 1 :=
  Host.reduce IntOp.andi (andi (cmpi .sge i (broadcastInDim S8192x1x1 ![] bcast_S_S8192x1x1 (constantI S_ 32 0#32)))
    (cmpi .sle i (broadcastInDim S8192x1x1 ![0, 1, 2] bcast_S1x1x1_S8192x1x1_0_1_2 (broadcastInDim S1x1x1 ![2] bcast_S1_S1x1x1_2 (constantI S1 32 hi)))))
    (constantI S_ 1 1#1) reducesTo_S8192x1x1_S8192x1_d2 h_S_

theorem wrapped_row (i : IVec S8192x1 32) (n : BitVec 32) (b : Fin 8192) (h : (i (ix2 b 0)).toNat < 2 ^ 31) :
    wrapped i n (ix3 b 0 0) = i (ix2 b 0) := by
  have e : wrapped i n (ix3 b 0 0)
      = Scalar.select (IntOp.cmpi .slt (i (ix2 b 0)) 0#32) (IntOp.addi (i (ix2 b 0)) n) (i (ix2 b 0)) := by
    unfold wrapped
    pointwise
  have hs : (i (ix2 b 0)).slt 0#32 = false := by
    rw [BitVec.slt, BitVec.toInt_eq_toNat_of_lt (by omega)]
    simp
  rw [e]
  simp only [Scalar.select, IntOp.cmpi, hs]
  rfl

theorem inside_row (i : IVec S8192x1x1 32) (hi : BitVec 32) (b : Fin 8192) (hhi : hi.toNat < 2 ^ 31)
    (h : (i (ix3 b 0 0)).toNat ≤ hi.toNat) : inside i hi (ix2 b 0) = 1#1 := by
  have e : inside i hi (ix2 b 0) = Finset.fold IntOp.andi (1#1)
      (fun x : Fin 1 => IntOp.andi (IntOp.cmpi .sge (i (ix3 b 0 x)) 0#32) (IntOp.cmpi .sle (i (ix3 b 0 x)) hi)) Finset.univ := by
    unfold inside
    pointwise
  have h1 : (0#32).sle (i (ix3 b 0 0)) = true := by
    rw [BitVec.sle, BitVec.toInt_eq_toNat_of_lt (x := i (ix3 b 0 0)) (by omega)]
    simp
  have h2 : (i (ix3 b 0 0)).sle hi = true := by
    rw [BitVec.sle, BitVec.toInt_eq_toNat_of_lt (x := i (ix3 b 0 0)) (by omega), BitVec.toInt_eq_toNat_of_lt (x := hi) (by omega)]
    simpa using h
  rw [e, show (Finset.univ : Finset (Fin 1)) = {0} from rfl, Finset.fold_singleton]
  simp only [IntOp.cmpi, h1, h2]
  rfl

/-- What a row takes. -/
theorem taken_row (m : IVec S8192x1 1) (g : FVec Ideal S8192x1 .f32) (b : Fin 8192) (h : m (ix2 b 0) = 1#1) :
    shapeCast S8192 (select m g (broadcastInDim S8192x1 ![] bcast_S_S8192x1 (constant S_ .f32 0x7FC00000#32))) shapeCasts_S8192x1_S8192 (ix1 b)
      = g (ix2 b 0) := by
  have e : ∀ z : FVec Ideal S8192x1 .f32, shapeCast S8192 z shapeCasts_S8192x1_S8192 (ix1 b) = z (ix2 b 0) := fun z => by
    pointwise
  refine (e _).trans ?_
  show Scalar.select (m (ix2 b 0)) (g (ix2 b 0)) _ = _
  rw [h]
  rfl

/-- The rows' maxima are taken against minus infinity. -/
theorem max_row (r : FVec Ideal S8192 .f32) (b : Fin 8192) :
    maximumf (broadcastInDim S8192 ![] bcast_S_S8192 (constant S_ .f32 0xFF800000#32)) r (ix1 b) = r (ix1 b) := by
  have e : maximumf (broadcastInDim S8192 ![] bcast_S_S8192 (constant S_ .f32 0xFF800000#32)) r (ix1 b)
      = max (Ideal.ofBits .f32 0xFF800000#32) (r (ix1 b)) := by
    pointwise
  rw [e, Row.word_bot]
  exact max_eq_right bot_le

/-! ## 8000 classes -/

theorem fold_8000 (x : FVec Ideal S8192x8000 .f32) (b : Fin 8192) :
    Host.reduce FloatOps.maximumf x (constant S_ .f32 0xFF800000#32) reducesTo_S8192x8000_S8192_d1 h_S_ (ix1 b)
      = Finset.fold max (Ideal.ofBits .f32 0xFF800000#32) (fun j : Fin 8000 => x (ix2 b j)) Finset.univ := by
  pointwise

/-- The logits less their row's maximum. -/
abbrev less_8000 (x : FVec Ideal S8192x8000 .f32) : FVec Ideal S8192x8000 .f32 :=
  subf x (broadcastInDim S8192x8000 ![0, 1] bcast_S8192x1_S8192x8000_0_1 (broadcastInDim S8192x1 ![0] bcast_S8192_S8192x1_0
    (maximumf (broadcastInDim S8192 ![] bcast_S_S8192 (constant S_ .f32 0xFF800000#32))
      (Host.reduce FloatOps.maximumf x (constant S_ .f32 0xFF800000#32) reducesTo_S8192x8000_S8192_d1 h_S_))))

/-- The log-softmax. -/
abbrev lsm_8000 (x : FVec Ideal S8192x8000 .f32) : FVec Ideal S8192x8000 .f32 :=
  subf (less_8000 x) (broadcastInDim S8192x8000 ![0, 1] bcast_S8192x1_S8192x8000_0_1 (Host.log (broadcastInDim S8192x1 ![0] bcast_S8192_S8192x1_0
    (Host.reduceAdd (Host.exp (less_8000 x)) (constant S_ .f32 0x00000000#32) reducesTo_S8192x8000_S8192_d1 h_S_))))

theorem sub_8000 (x : FVec Ideal S8192x8000 .f32) (m : FVec Ideal S8192 .f32) (b : Fin 8192) (j : Fin 8000) :
    subf x (broadcastInDim S8192x8000 ![0, 1] bcast_S8192x1_S8192x8000_0_1 (broadcastInDim S8192x1 ![0] bcast_S8192_S8192x1_0 m)) (ix2 b j)
      = x (ix2 b j) - m (ix1 b) := by
  pointwise

theorem log_8000 (x : FVec Ideal S8192x8000 .f32) (b : Fin 8192) (j : Fin 8000) :
    subf x (broadcastInDim S8192x8000 ![0, 1] bcast_S8192x1_S8192x8000_0_1 (Host.log (broadcastInDim S8192x1 ![0] bcast_S8192_S8192x1_0
      (Host.reduceAdd (Host.exp x) (constant S_ .f32 0x00000000#32) reducesTo_S8192x8000_S8192_d1 h_S_)))) (ix2 b j)
      = x (ix2 b j) - Ideal.log (∑ k : Fin 8000, Ideal.exp (x (ix2 b k))) := by
  pointwise

theorem lsm_row_8000 (x : FVec Ideal S8192x8000 .f32) (b : Fin 8192) (l : ℕ → ℝ) (hl : ∀ j : Fin 8000, x (ix2 b j) = ((l j.val : ℝ) : EReal)) (j : Fin 8000) :
    lsm_8000 x (ix2 b j) = ((Row.logSoftmax 8000 l j.val : ℝ) : EReal) := by
  obtain ⟨M, hM⟩ := Row.fold_real (C := 8000) l (by decide)
  have hless : ∀ k : Fin 8000, less_8000 x (ix2 b k) = (l k.val : EReal) - (M : EReal) := fun k => by
    refine (sub_8000 x _ b k).trans ?_
    rw [max_row, fold_8000, Row.word_bot, hl k]
    simp only [hl]
    rw [hM]
  refine (log_8000 (less_8000 x) b j).trans ?_
  simp only [hless]
  exact Row.shifted l j.val j.isLt M

/-- The entry of a row's log-softmax that its class takes. -/
theorem take_8000 (x : FVec Ideal S8192x8000 .f32) (i : IVec S8192x1 32) (b : Fin 8192) (l : ℕ → ℝ)
    (hl : ∀ j : Fin 8000, x (ix2 b j) = ((l j.val : ℝ) : EReal)) (hi : (i (ix2 b 0)).toNat < 8000) :
    shapeCast S8192 (select (inside (wrapped i 8000#32) 7999#32) (Host.gather gather_S8192x8000_S8192x1x1_S8192x1_n_1_0_0_1_2_11 (lsm_8000 x) (wrapped i 8000#32))
        (broadcastInDim S8192x1 ![] bcast_S_S8192x1 (constant S_ .f32 0x7FC00000#32))) shapeCasts_S8192x1_S8192 (ix1 b)
      = ((Row.logSoftmax 8000 l (i (ix2 b 0)).toNat : ℝ) : EReal) := by
  have hw : wrapped i 8000#32 (ix3 b 0 0) = i (ix2 b 0) := wrapped_row i _ b (by omega)
  refine (taken_row _ _ b (inside_row _ _ b (by decide) ?_)).trans ?_
  · rw [hw]
    show (i (ix2 b 0)).toNat ≤ 7999
    omega
  · refine (gather_col (by decide) _ rfl rfl rfl rfl rfl rfl rfl _ _ b).trans ?_
    have hn : min (wrapped i 8000#32 (ix3 b 0 0)).toInt.toNat (8000 - 1) = (i (ix2 b 0)).toNat := by
      rw [hw, BitVec.toInt_eq_toNat_of_lt (by omega)]
      omega
    rw [lsm_row_8000 x b l hl]
    exact congrArg (fun n => ((Row.logSoftmax 8000 l n : ℝ) : EReal)) hn

theorem proj_512 (x : FVec Ideal S8192x1024 .f32) (y : FVec Ideal S512x1024 .f32) (b : Fin 8192) (j : Fin 512) :
    Host.dotGeneral dot_S8192x1024_S1024x512_S8192x512_1_0_0_1_n_n none x (transpose S1024x512 [1, 0] y transposes_S512x1024_S1024x512_1_0) (ix2 b j)
      = ∑ k : Fin 1024, x (ix2 b k) * y (ix2 j k) := by
  pointwise

theorem logit_8000 (x : FVec Ideal S8192x512 .f32) (y : FVec Ideal S8000x512 .f32) (b : Fin 8192) (j : Fin 8000) :
    Host.dotGeneral dot_S8192x512_S512x8000_S8192x8000_1_0_0_1_n_n none x (transpose S512x8000 [1, 0] y transposes_S8000x512_S512x8000_1_0) (ix2 b j)
      = ∑ k : Fin 512, x (ix2 b k) * y (ix2 j k) := by
  pointwise

/-! ## 40000 classes -/

theorem fold_40000 (x : FVec Ideal S8192x40000 .f32) (b : Fin 8192) :
    Host.reduce FloatOps.maximumf x (constant S_ .f32 0xFF800000#32) reducesTo_S8192x40000_S8192_d1 h_S_ (ix1 b)
      = Finset.fold max (Ideal.ofBits .f32 0xFF800000#32) (fun j : Fin 40000 => x (ix2 b j)) Finset.univ := by
  pointwise

/-- The logits less their row's maximum. -/
abbrev less_40000 (x : FVec Ideal S8192x40000 .f32) : FVec Ideal S8192x40000 .f32 :=
  subf x (broadcastInDim S8192x40000 ![0, 1] bcast_S8192x1_S8192x40000_0_1 (broadcastInDim S8192x1 ![0] bcast_S8192_S8192x1_0
    (maximumf (broadcastInDim S8192 ![] bcast_S_S8192 (constant S_ .f32 0xFF800000#32))
      (Host.reduce FloatOps.maximumf x (constant S_ .f32 0xFF800000#32) reducesTo_S8192x40000_S8192_d1 h_S_))))

/-- The log-softmax. -/
abbrev lsm_40000 (x : FVec Ideal S8192x40000 .f32) : FVec Ideal S8192x40000 .f32 :=
  subf (less_40000 x) (broadcastInDim S8192x40000 ![0, 1] bcast_S8192x1_S8192x40000_0_1 (Host.log (broadcastInDim S8192x1 ![0] bcast_S8192_S8192x1_0
    (Host.reduceAdd (Host.exp (less_40000 x)) (constant S_ .f32 0x00000000#32) reducesTo_S8192x40000_S8192_d1 h_S_))))

theorem sub_40000 (x : FVec Ideal S8192x40000 .f32) (m : FVec Ideal S8192 .f32) (b : Fin 8192) (j : Fin 40000) :
    subf x (broadcastInDim S8192x40000 ![0, 1] bcast_S8192x1_S8192x40000_0_1 (broadcastInDim S8192x1 ![0] bcast_S8192_S8192x1_0 m)) (ix2 b j)
      = x (ix2 b j) - m (ix1 b) := by
  pointwise

theorem log_40000 (x : FVec Ideal S8192x40000 .f32) (b : Fin 8192) (j : Fin 40000) :
    subf x (broadcastInDim S8192x40000 ![0, 1] bcast_S8192x1_S8192x40000_0_1 (Host.log (broadcastInDim S8192x1 ![0] bcast_S8192_S8192x1_0
      (Host.reduceAdd (Host.exp x) (constant S_ .f32 0x00000000#32) reducesTo_S8192x40000_S8192_d1 h_S_)))) (ix2 b j)
      = x (ix2 b j) - Ideal.log (∑ k : Fin 40000, Ideal.exp (x (ix2 b k))) := by
  pointwise

theorem lsm_row_40000 (x : FVec Ideal S8192x40000 .f32) (b : Fin 8192) (l : ℕ → ℝ) (hl : ∀ j : Fin 40000, x (ix2 b j) = ((l j.val : ℝ) : EReal)) (j : Fin 40000) :
    lsm_40000 x (ix2 b j) = ((Row.logSoftmax 40000 l j.val : ℝ) : EReal) := by
  obtain ⟨M, hM⟩ := Row.fold_real (C := 40000) l (by decide)
  have hless : ∀ k : Fin 40000, less_40000 x (ix2 b k) = (l k.val : EReal) - (M : EReal) := fun k => by
    refine (sub_40000 x _ b k).trans ?_
    rw [max_row, fold_40000, Row.word_bot, hl k]
    simp only [hl]
    rw [hM]
  refine (log_40000 (less_40000 x) b j).trans ?_
  simp only [hless]
  exact Row.shifted l j.val j.isLt M

/-- The entry of a row's log-softmax that its class takes. -/
theorem take_40000 (x : FVec Ideal S8192x40000 .f32) (i : IVec S8192x1 32) (b : Fin 8192) (l : ℕ → ℝ)
    (hl : ∀ j : Fin 40000, x (ix2 b j) = ((l j.val : ℝ) : EReal)) (hi : (i (ix2 b 0)).toNat < 40000) :
    shapeCast S8192 (select (inside (wrapped i 40000#32) 39999#32) (Host.gather gather_S8192x40000_S8192x1x1_S8192x1_n_1_0_0_1_2_11 (lsm_40000 x) (wrapped i 40000#32))
        (broadcastInDim S8192x1 ![] bcast_S_S8192x1 (constant S_ .f32 0x7FC00000#32))) shapeCasts_S8192x1_S8192 (ix1 b)
      = ((Row.logSoftmax 40000 l (i (ix2 b 0)).toNat : ℝ) : EReal) := by
  have hw : wrapped i 40000#32 (ix3 b 0 0) = i (ix2 b 0) := wrapped_row i _ b (by omega)
  refine (taken_row _ _ b (inside_row _ _ b (by decide) ?_)).trans ?_
  · rw [hw]
    show (i (ix2 b 0)).toNat ≤ 39999
    omega
  · refine (gather_col (by decide) _ rfl rfl rfl rfl rfl rfl rfl _ _ b).trans ?_
    have hn : min (wrapped i 40000#32 (ix3 b 0 0)).toInt.toNat (40000 - 1) = (i (ix2 b 0)).toNat := by
      rw [hw, BitVec.toInt_eq_toNat_of_lt (by omega)]
      omega
    rw [lsm_row_40000 x b l hl]
    exact congrArg (fun n => ((Row.logSoftmax 40000 l n : ℝ) : EReal)) hn

theorem proj_256 (x : FVec Ideal S8192x1024 .f32) (y : FVec Ideal S256x1024 .f32) (b : Fin 8192) (j : Fin 256) :
    Host.dotGeneral dot_S8192x1024_S1024x256_S8192x256_1_0_0_1_n_n none x (transpose S1024x256 [1, 0] y transposes_S256x1024_S1024x256_1_0) (ix2 b j)
      = ∑ k : Fin 1024, x (ix2 b k) * y (ix2 j k) := by
  pointwise

theorem logit_40000 (x : FVec Ideal S8192x256 .f32) (y : FVec Ideal S40000x256 .f32) (b : Fin 8192) (j : Fin 40000) :
    Host.dotGeneral dot_S8192x256_S256x40000_S8192x40000_1_0_0_1_n_n none x (transpose S256x40000 [1, 0] y transposes_S40000x256_S256x40000_1_0) (ix2 b j)
      = ∑ k : Fin 256, x (ix2 b k) * y (ix2 j k) := by
  pointwise

/-! ## 50000 classes -/

theorem fold_50000 (x : FVec Ideal S8192x50000 .f32) (b : Fin 8192) :
    Host.reduce FloatOps.maximumf x (constant S_ .f32 0xFF800000#32) reducesTo_S8192x50000_S8192_d1 h_S_ (ix1 b)
      = Finset.fold max (Ideal.ofBits .f32 0xFF800000#32) (fun j : Fin 50000 => x (ix2 b j)) Finset.univ := by
  pointwise

/-- The logits less their row's maximum. -/
abbrev less_50000 (x : FVec Ideal S8192x50000 .f32) : FVec Ideal S8192x50000 .f32 :=
  subf x (broadcastInDim S8192x50000 ![0, 1] bcast_S8192x1_S8192x50000_0_1 (broadcastInDim S8192x1 ![0] bcast_S8192_S8192x1_0
    (maximumf (broadcastInDim S8192 ![] bcast_S_S8192 (constant S_ .f32 0xFF800000#32))
      (Host.reduce FloatOps.maximumf x (constant S_ .f32 0xFF800000#32) reducesTo_S8192x50000_S8192_d1 h_S_))))

/-- The log-softmax. -/
abbrev lsm_50000 (x : FVec Ideal S8192x50000 .f32) : FVec Ideal S8192x50000 .f32 :=
  subf (less_50000 x) (broadcastInDim S8192x50000 ![0, 1] bcast_S8192x1_S8192x50000_0_1 (Host.log (broadcastInDim S8192x1 ![0] bcast_S8192_S8192x1_0
    (Host.reduceAdd (Host.exp (less_50000 x)) (constant S_ .f32 0x00000000#32) reducesTo_S8192x50000_S8192_d1 h_S_))))

theorem sub_50000 (x : FVec Ideal S8192x50000 .f32) (m : FVec Ideal S8192 .f32) (b : Fin 8192) (j : Fin 50000) :
    subf x (broadcastInDim S8192x50000 ![0, 1] bcast_S8192x1_S8192x50000_0_1 (broadcastInDim S8192x1 ![0] bcast_S8192_S8192x1_0 m)) (ix2 b j)
      = x (ix2 b j) - m (ix1 b) := by
  pointwise

theorem log_50000 (x : FVec Ideal S8192x50000 .f32) (b : Fin 8192) (j : Fin 50000) :
    subf x (broadcastInDim S8192x50000 ![0, 1] bcast_S8192x1_S8192x50000_0_1 (Host.log (broadcastInDim S8192x1 ![0] bcast_S8192_S8192x1_0
      (Host.reduceAdd (Host.exp x) (constant S_ .f32 0x00000000#32) reducesTo_S8192x50000_S8192_d1 h_S_)))) (ix2 b j)
      = x (ix2 b j) - Ideal.log (∑ k : Fin 50000, Ideal.exp (x (ix2 b k))) := by
  pointwise

theorem lsm_row_50000 (x : FVec Ideal S8192x50000 .f32) (b : Fin 8192) (l : ℕ → ℝ) (hl : ∀ j : Fin 50000, x (ix2 b j) = ((l j.val : ℝ) : EReal)) (j : Fin 50000) :
    lsm_50000 x (ix2 b j) = ((Row.logSoftmax 50000 l j.val : ℝ) : EReal) := by
  obtain ⟨M, hM⟩ := Row.fold_real (C := 50000) l (by decide)
  have hless : ∀ k : Fin 50000, less_50000 x (ix2 b k) = (l k.val : EReal) - (M : EReal) := fun k => by
    refine (sub_50000 x _ b k).trans ?_
    rw [max_row, fold_50000, Row.word_bot, hl k]
    simp only [hl]
    rw [hM]
  refine (log_50000 (less_50000 x) b j).trans ?_
  simp only [hless]
  exact Row.shifted l j.val j.isLt M

/-- The entry of a row's log-softmax that its class takes. -/
theorem take_50000 (x : FVec Ideal S8192x50000 .f32) (i : IVec S8192x1 32) (b : Fin 8192) (l : ℕ → ℝ)
    (hl : ∀ j : Fin 50000, x (ix2 b j) = ((l j.val : ℝ) : EReal)) (hi : (i (ix2 b 0)).toNat < 50000) :
    shapeCast S8192 (select (inside (wrapped i 50000#32) 49999#32) (Host.gather gather_S8192x50000_S8192x1x1_S8192x1_n_1_0_0_1_2_11 (lsm_50000 x) (wrapped i 50000#32))
        (broadcastInDim S8192x1 ![] bcast_S_S8192x1 (constant S_ .f32 0x7FC00000#32))) shapeCasts_S8192x1_S8192 (ix1 b)
      = ((Row.logSoftmax 50000 l (i (ix2 b 0)).toNat : ℝ) : EReal) := by
  have hw : wrapped i 50000#32 (ix3 b 0 0) = i (ix2 b 0) := wrapped_row i _ b (by omega)
  refine (taken_row _ _ b (inside_row _ _ b (by decide) ?_)).trans ?_
  · rw [hw]
    show (i (ix2 b 0)).toNat ≤ 49999
    omega
  · refine (gather_col (by decide) _ rfl rfl rfl rfl rfl rfl rfl _ _ b).trans ?_
    have hn : min (wrapped i 50000#32 (ix3 b 0 0)).toInt.toNat (50000 - 1) = (i (ix2 b 0)).toNat := by
      rw [hw, BitVec.toInt_eq_toNat_of_lt (by omega)]
      omega
    rw [lsm_row_50000 x b l hl]
    exact congrArg (fun n => ((Row.logSoftmax 50000 l n : ℝ) : EReal)) hn

theorem proj_128 (x : FVec Ideal S8192x1024 .f32) (y : FVec Ideal S128x1024 .f32) (b : Fin 8192) (j : Fin 128) :
    Host.dotGeneral dot_S8192x1024_S1024x128_S8192x128_1_0_0_1_n_n none x (transpose S1024x128 [1, 0] y transposes_S128x1024_S1024x128_1_0) (ix2 b j)
      = ∑ k : Fin 1024, x (ix2 b k) * y (ix2 j k) := by
  pointwise

theorem logit_50000 (x : FVec Ideal S8192x128 .f32) (y : FVec Ideal S50000x128 .f32) (b : Fin 8192) (j : Fin 50000) :
    Host.dotGeneral dot_S8192x128_S128x50000_S8192x50000_1_0_0_1_n_n none x (transpose S128x50000 [1, 0] y transposes_S50000x128_S128x50000_1_0) (ix2 b j)
      = ∑ k : Fin 128, x (ix2 b k) * y (ix2 j k) := by
  pointwise

/-! ## 2003 classes -/

theorem fold_2003 (x : FVec Ideal S8192x2003 .f32) (b : Fin 8192) :
    Host.reduce FloatOps.maximumf x (constant S_ .f32 0xFF800000#32) reducesTo_S8192x2003_S8192_d1 h_S_ (ix1 b)
      = Finset.fold max (Ideal.ofBits .f32 0xFF800000#32) (fun j : Fin 2003 => x (ix2 b j)) Finset.univ := by
  pointwise

/-- The logits less their row's maximum. -/
abbrev less_2003 (x : FVec Ideal S8192x2003 .f32) : FVec Ideal S8192x2003 .f32 :=
  subf x (broadcastInDim S8192x2003 ![0, 1] bcast_S8192x1_S8192x2003_0_1 (broadcastInDim S8192x1 ![0] bcast_S8192_S8192x1_0
    (maximumf (broadcastInDim S8192 ![] bcast_S_S8192 (constant S_ .f32 0xFF800000#32))
      (Host.reduce FloatOps.maximumf x (constant S_ .f32 0xFF800000#32) reducesTo_S8192x2003_S8192_d1 h_S_))))

/-- The log-softmax. -/
abbrev lsm_2003 (x : FVec Ideal S8192x2003 .f32) : FVec Ideal S8192x2003 .f32 :=
  subf (less_2003 x) (broadcastInDim S8192x2003 ![0, 1] bcast_S8192x1_S8192x2003_0_1 (Host.log (broadcastInDim S8192x1 ![0] bcast_S8192_S8192x1_0
    (Host.reduceAdd (Host.exp (less_2003 x)) (constant S_ .f32 0x00000000#32) reducesTo_S8192x2003_S8192_d1 h_S_))))

theorem sub_2003 (x : FVec Ideal S8192x2003 .f32) (m : FVec Ideal S8192 .f32) (b : Fin 8192) (j : Fin 2003) :
    subf x (broadcastInDim S8192x2003 ![0, 1] bcast_S8192x1_S8192x2003_0_1 (broadcastInDim S8192x1 ![0] bcast_S8192_S8192x1_0 m)) (ix2 b j)
      = x (ix2 b j) - m (ix1 b) := by
  pointwise

theorem log_2003 (x : FVec Ideal S8192x2003 .f32) (b : Fin 8192) (j : Fin 2003) :
    subf x (broadcastInDim S8192x2003 ![0, 1] bcast_S8192x1_S8192x2003_0_1 (Host.log (broadcastInDim S8192x1 ![0] bcast_S8192_S8192x1_0
      (Host.reduceAdd (Host.exp x) (constant S_ .f32 0x00000000#32) reducesTo_S8192x2003_S8192_d1 h_S_)))) (ix2 b j)
      = x (ix2 b j) - Ideal.log (∑ k : Fin 2003, Ideal.exp (x (ix2 b k))) := by
  pointwise

theorem lsm_row_2003 (x : FVec Ideal S8192x2003 .f32) (b : Fin 8192) (l : ℕ → ℝ) (hl : ∀ j : Fin 2003, x (ix2 b j) = ((l j.val : ℝ) : EReal)) (j : Fin 2003) :
    lsm_2003 x (ix2 b j) = ((Row.logSoftmax 2003 l j.val : ℝ) : EReal) := by
  obtain ⟨M, hM⟩ := Row.fold_real (C := 2003) l (by decide)
  have hless : ∀ k : Fin 2003, less_2003 x (ix2 b k) = (l k.val : EReal) - (M : EReal) := fun k => by
    refine (sub_2003 x _ b k).trans ?_
    rw [max_row, fold_2003, Row.word_bot, hl k]
    simp only [hl]
    rw [hM]
  refine (log_2003 (less_2003 x) b j).trans ?_
  simp only [hless]
  exact Row.shifted l j.val j.isLt M

/-- The entry of a row's log-softmax that its class takes. -/
theorem take_2003 (x : FVec Ideal S8192x2003 .f32) (i : IVec S8192x1 32) (b : Fin 8192) (l : ℕ → ℝ)
    (hl : ∀ j : Fin 2003, x (ix2 b j) = ((l j.val : ℝ) : EReal)) (hi : (i (ix2 b 0)).toNat < 2003) :
    shapeCast S8192 (select (inside (wrapped i 2003#32) 2002#32) (Host.gather gather_S8192x2003_S8192x1x1_S8192x1_n_1_0_0_1_2_11 (lsm_2003 x) (wrapped i 2003#32))
        (broadcastInDim S8192x1 ![] bcast_S_S8192x1 (constant S_ .f32 0x7FC00000#32))) shapeCasts_S8192x1_S8192 (ix1 b)
      = ((Row.logSoftmax 2003 l (i (ix2 b 0)).toNat : ℝ) : EReal) := by
  have hw : wrapped i 2003#32 (ix3 b 0 0) = i (ix2 b 0) := wrapped_row i _ b (by omega)
  refine (taken_row _ _ b (inside_row _ _ b (by decide) ?_)).trans ?_
  · rw [hw]
    show (i (ix2 b 0)).toNat ≤ 2002
    omega
  · refine (gather_col (by decide) _ rfl rfl rfl rfl rfl rfl rfl _ _ b).trans ?_
    have hn : min (wrapped i 2003#32 (ix3 b 0 0)).toInt.toNat (2003 - 1) = (i (ix2 b 0)).toNat := by
      rw [hw, BitVec.toInt_eq_toNat_of_lt (by omega)]
      omega
    rw [lsm_row_2003 x b l hl]
    exact congrArg (fun n => ((Row.logSoftmax 2003 l n : ℝ) : EReal)) hn

theorem proj_2003 (x : FVec Ideal S8192x1024 .f32) (y : FVec Ideal S2003x1024 .f32) (b : Fin 8192) (j : Fin 2003) :
    Host.dotGeneral dot_S8192x1024_S1024x2003_S8192x2003_1_0_0_1_n_n none x (transpose S1024x2003 [1, 0] y transposes_S2003x1024_S1024x2003_1_0) (ix2 b j)
      = ∑ k : Fin 1024, x (ix2 b k) * y (ix2 j k) := by
  pointwise

end Cert.ReferenceIdeal.Hand

end
-- ==== Proof.Val.RefRow.lean ====
/-
  The reference's result at one row: minus the sum of the row's tail entry and its head entry, each a log-softmax read at the row's class.
-/
module

public import proofs.«01_k».proof.Proof.Val.Ref
public import proofs.«01_k».proof.Proof.Gen.ReferenceIdeal.Run

@[expose] public section

set_option maxRecDepth 16384

noncomputable section

namespace Cert.ReferenceIdeal.Hand

open Cert.ReferenceIdeal Cert.ReferenceIdeal.Gen
open Idealize.ShloMosaic Idealize.ShloMosaic.TcCoe
open Idealize.SL.Sem

/-! ## The class columns -/

/-- A cluster's relative index, as a column. -/
abbrev relCol (lo hi : BitVec 32) (t : IVec S8192 32) : IVec S8192x1 32 :=
  broadcastInDim S8192x1 ![0] bcast_S8192_S8192x1_0 (minsi (broadcastInDim S8192 ![] bcast_S_S8192 (id (constantI S_ 32 hi)))
    (maxsi (broadcastInDim S8192 ![] bcast_S_S8192 (id (constantI S_ 32 0#32))) (subi t (broadcastInDim S8192 ![] bcast_S_S8192 (constantI S_ 32 lo)))))

/-- Whether a target lies in a cluster. -/
abbrev maskOf (lo hi : BitVec 32) (t : IVec S8192 32) : IVec S8192 1 :=
  andi (cmpi .sge t (broadcastInDim S8192 ![] bcast_S_S8192 (constantI S_ 32 lo))) (cmpi .slt t (broadcastInDim S8192 ![] bcast_S_S8192 (constantI S_ 32 hi)))

/-- The head's class, as a column. -/
abbrev headCol (t : IVec S8192 32) : IVec S8192x1 32 :=
  broadcastInDim S8192x1 ![0] bcast_S8192_S8192x1_0 (select (maskOf 50000#32 100000#32 t) (broadcastInDim S8192 ![] bcast_S_S8192 (id (constantI S_ 32 2002#32)))
    (select (maskOf 10000#32 50000#32 t) (broadcastInDim S8192 ![] bcast_S_S8192 (id (constantI S_ 32 2001#32)))
      (select (maskOf 2000#32 10000#32 t) (broadcastInDim S8192 ![] bcast_S_S8192 (id (constantI S_ 32 2000#32)))
        (select (cmpi .slt t (broadcastInDim S8192 ![] bcast_S_S8192 (constantI S_ 32 2000#32))) t (broadcastInDim S8192 ![] bcast_S_S8192 (id (constantI S_ 32 0#32)))))))

theorem relCol_row (lo hi : BitVec 32) (t : IVec S8192 32) (b : Fin 8192) :
    relCol lo hi t (ix2 b 0) = IntOp.minsi hi (IntOp.maxsi 0#32 (IntOp.subi (t (ix1 b)) lo)) := by
  unfold relCol
  pointwise
  rfl

theorem maskOf_row (lo hi : BitVec 32) (t : IVec S8192 32) (b : Fin 8192) :
    maskOf lo hi t (ix1 b) = IntOp.andi (IntOp.cmpi .sge (t (ix1 b)) lo) (IntOp.cmpi .slt (t (ix1 b)) hi) := by
  unfold maskOf
  pointwise

theorem headCol_row (t : IVec S8192 32) (b : Fin 8192) :
    headCol t (ix2 b 0) = Scalar.select (maskOf 50000#32 100000#32 t (ix1 b)) 2002#32
      (Scalar.select (maskOf 10000#32 50000#32 t (ix1 b)) 2001#32
        (Scalar.select (maskOf 2000#32 10000#32 t (ix1 b)) 2000#32
          (Scalar.select (IntOp.cmpi .slt (t (ix1 b)) 2000#32) (t (ix1 b)) 0#32))) := by
  unfold headCol
  pointwise
  rfl

/-! ## The logits and what each row takes of them -/

abbrev logits_8000 (x : FVec Ideal S8192x1024 .f32) (u : FVec Ideal S512x1024 .f32) (v : FVec Ideal S8000x512 .f32) : FVec Ideal S8192x8000 .f32 :=
  Host.dotGeneral dot_S8192x512_S512x8000_S8192x8000_1_0_0_1_n_n none
    (Host.dotGeneral dot_S8192x1024_S1024x512_S8192x512_1_0_0_1_n_n none x (transpose S1024x512 [1, 0] u transposes_S512x1024_S1024x512_1_0))
    (transpose S512x8000 [1, 0] v transposes_S8000x512_S512x8000_1_0)

theorem logits_row_8000 (x : FVec Ideal S8192x1024 .f32) (u : FVec Ideal S512x1024 .f32) (v : FVec Ideal S8000x512 .f32) (b : Fin 8192) (j : Fin 8000) :
    logits_8000 x u v (ix2 b j) = ∑ h : Fin 512, (∑ k : Fin 1024, x (ix2 b k) * u (ix2 h k)) * v (ix2 j h) := by
  refine (logit_8000 _ v b j).trans ?_
  exact Finset.sum_congr rfl fun h _ => congrArg (· * v (ix2 j h)) (proj_512 x u b h)

/-- The row's entry of the log-softmax over 8000 classes. -/
abbrev entry_8000 (x : FVec Ideal S8192x8000 .f32) (i : IVec S8192x1 32) : FVec Ideal S8192 .f32 :=
  shapeCast S8192 (select (inside (wrapped i 8000#32) 7999#32) (Host.gather gather_S8192x8000_S8192x1x1_S8192x1_n_1_0_0_1_2_11 (lsm_8000 x) (wrapped i 8000#32))
    (broadcastInDim S8192x1 ![] bcast_S_S8192x1 (constant S_ .f32 0x7FC00000#32))) shapeCasts_S8192x1_S8192

abbrev logits_40000 (x : FVec Ideal S8192x1024 .f32) (u : FVec Ideal S256x1024 .f32) (v : FVec Ideal S40000x256 .f32) : FVec Ideal S8192x40000 .f32 :=
  Host.dotGeneral dot_S8192x256_S256x40000_S8192x40000_1_0_0_1_n_n none
    (Host.dotGeneral dot_S8192x1024_S1024x256_S8192x256_1_0_0_1_n_n none x (transpose S1024x256 [1, 0] u transposes_S256x1024_S1024x256_1_0))
    (transpose S256x40000 [1, 0] v transposes_S40000x256_S256x40000_1_0)

theorem logits_row_40000 (x : FVec Ideal S8192x1024 .f32) (u : FVec Ideal S256x1024 .f32) (v : FVec Ideal S40000x256 .f32) (b : Fin 8192) (j : Fin 40000) :
    logits_40000 x u v (ix2 b j) = ∑ h : Fin 256, (∑ k : Fin 1024, x (ix2 b k) * u (ix2 h k)) * v (ix2 j h) := by
  refine (logit_40000 _ v b j).trans ?_
  exact Finset.sum_congr rfl fun h _ => congrArg (· * v (ix2 j h)) (proj_256 x u b h)

/-- The row's entry of the log-softmax over 40000 classes. -/
abbrev entry_40000 (x : FVec Ideal S8192x40000 .f32) (i : IVec S8192x1 32) : FVec Ideal S8192 .f32 :=
  shapeCast S8192 (select (inside (wrapped i 40000#32) 39999#32) (Host.gather gather_S8192x40000_S8192x1x1_S8192x1_n_1_0_0_1_2_11 (lsm_40000 x) (wrapped i 40000#32))
    (broadcastInDim S8192x1 ![] bcast_S_S8192x1 (constant S_ .f32 0x7FC00000#32))) shapeCasts_S8192x1_S8192

abbrev logits_50000 (x : FVec Ideal S8192x1024 .f32) (u : FVec Ideal S128x1024 .f32) (v : FVec Ideal S50000x128 .f32) : FVec Ideal S8192x50000 .f32 :=
  Host.dotGeneral dot_S8192x128_S128x50000_S8192x50000_1_0_0_1_n_n none
    (Host.dotGeneral dot_S8192x1024_S1024x128_S8192x128_1_0_0_1_n_n none x (transpose S1024x128 [1, 0] u transposes_S128x1024_S1024x128_1_0))
    (transpose S128x50000 [1, 0] v transposes_S50000x128_S128x50000_1_0)

theorem logits_row_50000 (x : FVec Ideal S8192x1024 .f32) (u : FVec Ideal S128x1024 .f32) (v : FVec Ideal S50000x128 .f32) (b : Fin 8192) (j : Fin 50000) :
    logits_50000 x u v (ix2 b j) = ∑ h : Fin 128, (∑ k : Fin 1024, x (ix2 b k) * u (ix2 h k)) * v (ix2 j h) := by
  refine (logit_50000 _ v b j).trans ?_
  exact Finset.sum_congr rfl fun h _ => congrArg (· * v (ix2 j h)) (proj_128 x u b h)

/-- The row's entry of the log-softmax over 50000 classes. -/
abbrev entry_50000 (x : FVec Ideal S8192x50000 .f32) (i : IVec S8192x1 32) : FVec Ideal S8192 .f32 :=
  shapeCast S8192 (select (inside (wrapped i 50000#32) 49999#32) (Host.gather gather_S8192x50000_S8192x1x1_S8192x1_n_1_0_0_1_2_11 (lsm_50000 x) (wrapped i 50000#32))
    (broadcastInDim S8192x1 ![] bcast_S_S8192x1 (constant S_ .f32 0x7FC00000#32))) shapeCasts_S8192x1_S8192

/-- The row's entry of the log-softmax over 2003 classes. -/
abbrev entry_2003 (x : FVec Ideal S8192x2003 .f32) (i : IVec S8192x1 32) : FVec Ideal S8192 .f32 :=
  shapeCast S8192 (select (inside (wrapped i 2003#32) 2002#32) (Host.gather gather_S8192x2003_S8192x1x1_S8192x1_n_1_0_0_1_2_11 (lsm_2003 x) (wrapped i 2003#32))
    (broadcastInDim S8192x1 ![] bcast_S_S8192x1 (constant S_ .f32 0x7FC00000#32))) shapeCasts_S8192x1_S8192

abbrev logits_2003 (x : FVec Ideal S8192x1024 .f32) (w : FVec Ideal S2003x1024 .f32) : FVec Ideal S8192x2003 .f32 :=
  Host.dotGeneral dot_S8192x1024_S1024x2003_S8192x2003_1_0_0_1_n_n none x (transpose S1024x2003 [1, 0] w transposes_S2003x1024_S1024x2003_1_0)

/-! ## The whole -/

section Whole

variable (x : FVec Ideal S8192x1024 .f32) (t : IVec S8192 32) (w : FVec Ideal S2003x1024 .f32) (u1 : FVec Ideal S512x1024 .f32) (v1 : FVec Ideal S8000x512 .f32)
  (u2 : FVec Ideal S256x1024 .f32) (v2 : FVec Ideal S40000x256 .f32) (u3 : FVec Ideal S128x1024 .f32) (v3 : FVec Ideal S50000x128 .f32)

/-- The reference, as a function of its arguments. -/
def refOut : FVec Ideal S8192 .f32 :=
  Host.negf (addf (select (maskOf 50000#32 100000#32 t) (entry_50000 (logits_50000 x u3 v3) (relCol 50000#32 49999#32 t))
    (select (maskOf 10000#32 50000#32 t) (entry_40000 (logits_40000 x u2 v2) (relCol 10000#32 39999#32 t))
      (select (maskOf 2000#32 10000#32 t) (entry_8000 (logits_8000 x u1 v1) (relCol 2000#32 7999#32 t))
        (broadcastInDim S8192 ![] bcast_S_S8192 (constant S_ .f32 0x00000000#32)))))
    (entry_2003 (logits_2003 x w) (headCol t)))

theorem zero_row (b : Fin 8192) : broadcastInDim S8192 ![] bcast_S_S8192 (constant (F := Ideal) S_ .f32 0x00000000#32) (ix1 b) = (0 : EReal) := by
  pointwise

/-- The reference's result at one row. -/
theorem refOut_row (b : Fin 8192) (l0 l1 l2 l3 : ℕ → ℝ)
    (h0 : ∀ j : Fin 2003, ∑ k : Fin 1024, x (ix2 b k) * w (ix2 j k) = ((l0 j.val : ℝ) : EReal))
    (h1 : ∀ j : Fin 8000, ∑ h : Fin 512, (∑ k : Fin 1024, x (ix2 b k) * u1 (ix2 h k)) * v1 (ix2 j h) = ((l1 j.val : ℝ) : EReal))
    (h2 : ∀ j : Fin 40000, ∑ h : Fin 256, (∑ k : Fin 1024, x (ix2 b k) * u2 (ix2 h k)) * v2 (ix2 j h) = ((l2 j.val : ℝ) : EReal))
    (h3 : ∀ j : Fin 50000, ∑ h : Fin 128, (∑ k : Fin 1024, x (ix2 b k) * u3 (ix2 h k)) * v3 (ix2 j h) = ((l3 j.val : ℝ) : EReal))
    (r0 : (headCol t (ix2 b 0)).toNat < 2003) (r1 : (relCol 2000#32 7999#32 t (ix2 b 0)).toNat < 8000)
    (r2 : (relCol 10000#32 39999#32 t (ix2 b 0)).toNat < 40000) (r3 : (relCol 50000#32 49999#32 t (ix2 b 0)).toNat < 50000) :
    refOut x t w u1 v1 u2 v2 u3 v3 (ix1 b)
      = -(Scalar.select (maskOf 50000#32 100000#32 t (ix1 b)) ((Row.logSoftmax 50000 l3 (relCol 50000#32 49999#32 t (ix2 b 0)).toNat : ℝ) : EReal)
          (Scalar.select (maskOf 10000#32 50000#32 t (ix1 b)) ((Row.logSoftmax 40000 l2 (relCol 10000#32 39999#32 t (ix2 b 0)).toNat : ℝ) : EReal)
            (Scalar.select (maskOf 2000#32 10000#32 t (ix1 b)) ((Row.logSoftmax 8000 l1 (relCol 2000#32 7999#32 t (ix2 b 0)).toNat : ℝ) : EReal) 0))
        + ((Row.logSoftmax 2003 l0 (headCol t (ix2 b 0)).toNat : ℝ) : EReal)) := by
  have e0 := take_2003 (logits_2003 x w) (headCol t) b l0 (fun j => (proj_2003 x w b j).trans (h0 j)) r0
  have e1 := take_8000 (logits_8000 x u1 v1) (relCol 2000#32 7999#32 t) b l1 (fun j => (logits_row_8000 x u1 v1 b j).trans (h1 j)) r1
  have e2 := take_40000 (logits_40000 x u2 v2) (relCol 10000#32 39999#32 t) b l2 (fun j => (logits_row_40000 x u2 v2 b j).trans (h2 j)) r2
  have e3 := take_50000 (logits_50000 x u3 v3) (relCol 50000#32 49999#32 t) b l3 (fun j => (logits_row_50000 x u3 v3 b j).trans (h3 j)) r3
  rw [← e0, ← e1, ← e2, ← e3, ← zero_row b]
  rfl

end Whole

end Cert.ReferenceIdeal.Hand

end
-- ==== Proof.Val.Real.lean ====
/-
  What the precondition says at each entry: a float entry is a real number, and the target is not negative.
-/
module

public import proofs.«01_k».proof.Proof.Gen.Pre_pre
public import Idealize.ShloMosaic.Lib.Pointwise
public import Idealize.ShloMosaic.Lib.ReduceAll

@[expose] public section

set_option maxRecDepth 16384

noncomputable section

namespace Cert.Entries

open Cert.Pre_pre Cert.Pre_pre.Gen
open Idealize.ShloMosaic Idealize.ShloMosaic.TcCoe
open Idealize.SL.Sem

/-- An extended real that is a real number. -/
def IsReal (x : EReal) : Prop := ∃ r : ℝ, x = r

theorem IsReal.mul {x y : EReal} : IsReal x → IsReal y → IsReal (x * y) := fun ⟨a, ha⟩ ⟨b, hb⟩ => ⟨a * b, by rw [ha, hb, EReal.coe_mul]⟩

theorem IsReal.sum {ι : Type} {f : ι → EReal} (s : Finset ι) (h : ∀ i ∈ s, IsReal (f i)) : IsReal (∑ i ∈ s, f i) := by
  classical
  induction s using Finset.induction_on with
  | empty => exact ⟨0, by simp⟩
  | insert a s ha ih =>
    rw [Finset.sum_insert ha]
    obtain ⟨x, hx⟩ := h a (Finset.mem_insert_self a s)
    obtain ⟨y, hy⟩ := ih fun i hi => h i (Finset.mem_insert_of_mem hi)
    exact ⟨x + y, by rw [hx, hy, EReal.coe_add]⟩

theorem IsReal.eq {x : EReal} : IsReal x → x = ((x.toReal : ℝ) : EReal) := fun ⟨r, hr⟩ => by rw [hr, EReal.toReal_coe]

/-- Of two bits whose conjunction is set, both are. -/
theorem both {x y : BitVec 1} (h : IntOp.andi x y = 1#1) : x = 1#1 ∧ y = 1#1 := by
  revert h; revert x y; decide

/-- An entry whose magnitude is below plus infinity is a real number. -/
theorem finite_entry {s : Shape} (x : FVec Ideal s .f32) (hb : S_.BroadcastsInDim s (![] : Fin 0 → Fin s.rank)) (i : s.Idx)
    (h : cmpf .olt (Host.absf x) (broadcastInDim s ![] hb (constant S_ .f32 0x7F800000#32)) i = 1#1) : IsReal (x i) := by
  have e : Ideal.cmp .olt (max (x i : EReal) (-(x i))) (Ideal.ofBits .f32 0x7F800000#32) = 1#1 := h
  rw [show Ideal.ofBits .f32 0x7F800000#32 = ⊤ from rfl] at e
  have hlt : max (x i : EReal) (-(x i)) < ⊤ := by
    by_contra hc
    simp [Ideal.cmp, hc] at e
  obtain ⟨h1, h2⟩ := max_lt_iff.mp hlt
  refine ⟨(x i : EReal).toReal, (EReal.coe_toReal h1.ne ?_).symm⟩
  intro hb
  rw [hb] at h2
  simp at h2

/-- A predicate that holds of every entry. -/
theorem all_of {s : Shape} {axes : List (Fin s.rank)} (p : IVec s 1) (hr : s.ReducesTo axes S_) (j : S_.Idx)
    (h : Host.reduce IntOp.andi p (constantI S_ 1 1#1) hr h_S_ j = 1#1) (i : s.Idx) : p i = 1#1 :=
  Host.reduce_andi_eq_one p _ hr h_S_ j h i (funext fun a => a.elim0)

/-- The precondition, entry by entry. -/
theorem decode (x0 : FVec Ideal S8192x1024 .f32) (t : IVec S8192 32) (x2 : FVec Ideal S2003x1024 .f32) (x3 : FVec Ideal S512x1024 .f32)
    (x4 : FVec Ideal S8000x512 .f32) (x5 : FVec Ideal S256x1024 .f32) (x6 : FVec Ideal S40000x256 .f32) (x7 : FVec Ideal S128x1024 .f32)
    (x8 : FVec Ideal S50000x128 .f32) (h : fn (F := Ideal) x0 t x2 x3 x4 x5 x6 x7 x8 = fun _ => 1#1) :
    (∀ b, 0 ≤ (t b).toInt) ∧ (∀ i, IsReal (x0 i)) ∧ (∀ i, IsReal (x2 i)) ∧ (∀ i, IsReal (x3 i)) ∧ (∀ i, IsReal (x4 i)) ∧ (∀ i, IsReal (x5 i))
      ∧ (∀ i, IsReal (x6 i)) ∧ (∀ i, IsReal (x7 i)) ∧ (∀ i, IsReal (x8 i)) := by
  have hj := congrFun h (fun a => a.elim0)
  unfold fn fn_part1 fn_part2 at hj
  dsimp only at hj
  obtain ⟨hj, h8⟩ := both hj
  obtain ⟨hj, h7⟩ := both hj
  obtain ⟨hj, h6⟩ := both hj
  obtain ⟨hj, h5⟩ := both hj
  obtain ⟨hj, h4⟩ := both hj
  obtain ⟨hj, h3⟩ := both hj
  obtain ⟨hj, h2⟩ := both hj
  obtain ⟨ht, h0⟩ := both hj
  refine ⟨fun b => ?_, fun i => finite_entry x0 _ i (all_of _ _ _ h0 i), fun i => finite_entry x2 _ i (all_of _ _ _ h2 i),
    fun i => finite_entry x3 _ i (all_of _ _ _ h3 i), fun i => finite_entry x4 _ i (all_of _ _ _ h4 i), fun i => finite_entry x5 _ i (all_of _ _ _ h5 i),
    fun i => finite_entry x6 _ i (all_of _ _ _ h6 i), fun i => finite_entry x7 _ i (all_of _ _ _ h7 i), fun i => finite_entry x8 _ i (all_of _ _ _ h8 i)⟩
  have hb : IntOp.cmpi .sge (t b) 0#32 = 1#1 := all_of _ _ _ ht b
  by_contra hc
  have hs : (0#32).sle (t b) = false := by
    rw [BitVec.sle]; simpa using hc
  simp [IntOp.cmpi, hs] at hb

end Cert.Entries

end
-- ==== Proof.Val.Equal.lean ====
/-
  Under the precondition the kernel's result is the reference's, row by row.
-/
module

public import proofs.«01_k».proof.Proof.Val.Kernel
public import proofs.«01_k».proof.Proof.Val.RefRow
public import proofs.«01_k».proof.Proof.Val.Real

@[expose] public section

set_option maxRecDepth 16384

noncomputable section

namespace Cert.Equal

open Cert.KernelIdeal Cert.KernelIdeal.Gen Cert.KernelIdeal.Hand
open Idealize.ShloMosaic Idealize.ShloMosaic.TcCoe
open Idealize.SL.Sem

/-- Extended reals that are all real are a real sequence's. -/
theorem exists_real {C : ℕ} (f : Fin C → EReal) (h : ∀ j, Entries.IsReal (f j)) : ∃ l : ℕ → ℝ, ∀ j : Fin C, f j = ((l j.val : ℝ) : EReal) := by
  refine ⟨fun n => if hn : n < C then (f ⟨n, hn⟩).toReal else 0, fun j => ?_⟩
  show f j = (((if hn : j.val < C then (f ⟨j.val, hn⟩).toReal else 0 : ℝ)) : EReal)
  rw [dif_pos j.isLt]
  exact (h j).eq

/-- The clusters' masks exclude each other, so adding the three masked entries is choosing among them. -/
theorem masks (t : IVec S8192 32) (b : Fin 8192) (x1 x2 x3 : EReal) :
    0 + Scalar.select (inCluster 2000#32 10000#32 t (ix1 b)) x1 0 + Scalar.select (inCluster 10000#32 50000#32 t (ix1 b)) x2 0
        + Scalar.select (inCluster 50000#32 100000#32 t (ix1 b)) x3 0
      = Scalar.select (inCluster 50000#32 100000#32 t (ix1 b)) x3
          (Scalar.select (inCluster 10000#32 50000#32 t (ix1 b)) x2 (Scalar.select (inCluster 2000#32 10000#32 t (ix1 b)) x1 0)) := by
  have i1 := inCluster_iff 2000#32 10000#32 t b
  have i2 := inCluster_iff 10000#32 50000#32 t b
  have i3 := inCluster_iff 50000#32 100000#32 t b
  rw [show (2000#32 : BitVec 32).toInt = 2000 from rfl, show (10000#32 : BitVec 32).toInt = 10000 from rfl] at i1
  rw [show (10000#32 : BitVec 32).toInt = 10000 from rfl, show (50000#32 : BitVec 32).toInt = 50000 from rfl] at i2
  rw [show (50000#32 : BitVec 32).toInt = 50000 from rfl, show (100000#32 : BitVec 32).toInt = 100000 from rfl] at i3
  have sel (p : BitVec 1) (x y : EReal) : Scalar.select p x y = if p = 1#1 then x else y := rfl
  simp only [sel]
  by_cases c1 : inCluster 2000#32 10000#32 t (ix1 b) = 1#1
  · have c2 : ¬ inCluster 10000#32 50000#32 t (ix1 b) = 1#1 := fun h => by have := i1.mp c1; have := i2.mp h; omega
    have c3 : ¬ inCluster 50000#32 100000#32 t (ix1 b) = 1#1 := fun h => by have := i1.mp c1; have := i3.mp h; omega
    simp only [if_pos c1, if_neg c2, if_neg c3, zero_add, add_zero]
  · by_cases c2 : inCluster 10000#32 50000#32 t (ix1 b) = 1#1
    · have c3 : ¬ inCluster 50000#32 100000#32 t (ix1 b) = 1#1 := fun h => by have := i2.mp c2; have := i3.mp h; omega
      simp only [if_neg c1, if_pos c2, if_neg c3, zero_add, add_zero]
    · simp only [if_neg c1, if_neg c2, zero_add]

/-- The kernel's result is the reference's function of the same arguments. -/
theorem values (m : (ℓ : Loc nD τ sig) → Buf (Elt Ideal) ℓ) (c : Dev nD) (o : Outs (F := Ideal)) (ho : After4 m c o)
    (hpre : Cert.Pre_pre.fn (F := Ideal) (xOf m c) (tgtOf m c) (wOf m c) (u1Of m c) (v1Of m c) (u2Of m c) (v2Of m c) (u3Of m c) (v3Of m c) = fun _ => 1#1) :
    (V31 m o c main_v54 : FVec Ideal S8192 .f32)
      = Cert.ReferenceIdeal.Hand.refOut (xOf m c) (tgtOf m c) (wOf m c) (u1Of m c) (v1Of m c) (u2Of m c) (v2Of m c) (u3Of m c) (v3Of m c) := by
  obtain ⟨ht, hx, hw, hu1, hv1, hu2, hv2, hu3, hv3⟩ := Entries.decode _ _ _ _ _ _ _ _ _ hpre
  funext i
  obtain ⟨b, rfl⟩ : ∃ b : Fin 8192, i = ix1 b := ⟨i 0, by
    funext a
    match a with
    | ⟨0, _⟩ => rfl⟩
  obtain ⟨l0, h0⟩ := exists_real (fun j : Fin 2003 => ∑ k : Fin 1024, xOf m c (ix2 b k) * wOf m c (ix2 j k))
    fun j => .sum _ fun k _ => (hx _).mul (hw _)
  obtain ⟨l1, h1⟩ := exists_real (fun j : Fin 8000 => ∑ h : Fin 512, (∑ k : Fin 1024, xOf m c (ix2 b k) * u1Of m c (ix2 h k)) * v1Of m c (ix2 j h))
    fun j => .sum _ fun h _ => .mul (.sum _ fun k _ => (hx _).mul (hu1 _)) (hv1 _)
  obtain ⟨l2, h2⟩ := exists_real (fun j : Fin 40000 => ∑ h : Fin 256, (∑ k : Fin 1024, xOf m c (ix2 b k) * u2Of m c (ix2 h k)) * v2Of m c (ix2 j h))
    fun j => .sum _ fun h _ => .mul (.sum _ fun k _ => (hx _).mul (hu2 _)) (hv2 _)
  obtain ⟨l3, h3⟩ := exists_real (fun j : Fin 50000 => ∑ h : Fin 128, (∑ k : Fin 1024, xOf m c (ix2 b k) * u3Of m c (ix2 h k)) * v3Of m c (ix2 j h))
    fun j => .sum _ fun h _ => .mul (.sum _ fun k _ => (hx _).mul (hu3 _)) (hv3 _)
  have k1 : Cert.ReferenceIdeal.Hand.maskOf 2000#32 10000#32 (tgtOf m c) (ix1 b) = inCluster 2000#32 10000#32 (tgtOf m c) (ix1 b) := rfl
  have k2 : Cert.ReferenceIdeal.Hand.maskOf 10000#32 50000#32 (tgtOf m c) (ix1 b) = inCluster 10000#32 50000#32 (tgtOf m c) (ix1 b) := rfl
  have k3 : Cert.ReferenceIdeal.Hand.maskOf 50000#32 100000#32 (tgtOf m c) (ix1 b) = inCluster 50000#32 100000#32 (tgtOf m c) (ix1 b) := rfl
  have q0 : Cert.ReferenceIdeal.Hand.headCol (tgtOf m c) (ix2 b 0) = headOf (tgtOf m c) (ix1 b) := by
    rw [Cert.ReferenceIdeal.Hand.headCol_row, headOf_row, k1, k2, k3]
  have q (lo hi : BitVec 32) : Cert.ReferenceIdeal.Hand.relCol lo hi (tgtOf m c) (ix2 b 0) = relOf lo hi (tgtOf m c) (ix1 b) :=
    (Cert.ReferenceIdeal.Hand.relCol_row _ _ _ _).trans (relOf_row _ _ _ _).symm
  refine (value_row m c o ho b (ht _) l0 l1 l2 l3 h0 h1 h2 h3).trans ?_
  refine Eq.trans ?_ (Cert.ReferenceIdeal.Hand.refOut_row (xOf m c) (tgtOf m c) (wOf m c) (u1Of m c) (v1Of m c) (u2Of m c) (v2Of m c) (u3Of m c) (v3Of m c) b
    l0 l1 l2 l3 h0 h1 h2 h3 ?_ ?_ ?_ ?_).symm
  · rw [q0, q, q, q, k1, k2, k3, masks]
  · rw [q0]; exact headOf_lt _ b (ht _)
  · rw [q]; exact lt_of_le_of_lt (relOf_le _ 7999#32 _ b (by decide)) (by decide)
  · rw [q]; exact lt_of_le_of_lt (relOf_le _ 39999#32 _ b (by decide)) (by decide)
  · rw [q]; exact lt_of_le_of_lt (relOf_le _ 49999#32 _ b (by decide)) (by decide)

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_pre
public import proofs.«01_k».proof.Proof.K.Run
public import proofs.«01_k».proof.Proof.KI.Run
public import proofs.«01_k».proof.Proof.Val.Equal
public import Idealize.ShloMosaic.Adequacy
public import Idealize.ShloMosaic.Lib.Claim
public import Idealize.ShloMosaic.Init

@[expose] public section

noncomputable section

namespace Cert.Proof

open Idealize.ShloMosaic Idealize.SL.Sem

/-- The kernel runs, keeps its arguments and leaves every semaphore at zero. -/
theorem quiescentK : quiescent_Kernel (hKernel := Cert.Kernel.Gen.facts) := fun m g _ =>
  (θ_run _ _ _).mono (fun _ h => ⟨fun c => (h.1 c).2, h.2⟩) (Cert.Kernel.Hand.run (F := Bits) m g)

/-- So does its idealization, for every input. -/
theorem quiescentKI : quiescent_KernelIdeal (hKernelIdeal := Cert.KernelIdeal.Gen.facts) := fun m g _ =>
  (θ_run _ _ _).mono (fun _ h => ⟨fun c => (h.1 c).2, h.2⟩) (Cert.KernelIdeal.Hand.run (F := Ideal) m g)

theorem quiescentKIpre : quiescent_KernelIdeal_pre_pre (hKernelIdeal := Cert.KernelIdeal.Gen.facts) (hPre_pre := Cert.Pre_pre.Gen.facts) := fun m g _ =>
  (θ_run _ _ _).mono (fun _ h => ⟨fun c => (h.1 c).2, h.2⟩) (Cert.KernelIdeal.Hand.run (F := Ideal) m g)

theorem quiescentRI : quiescent_ReferenceIdeal (hReferenceIdeal := Cert.ReferenceIdeal.Gen.facts) := fun m g _ => by
  hlo_run
  · intro; simp
  · exact Idealize.ShloMosaic.sem_eq_zero_of_no_sems (sig := Cert.ReferenceIdeal.sig) (by decide) _

theorem quiescentRIpre : quiescent_ReferenceIdeal_pre_pre (hReferenceIdeal := Cert.ReferenceIdeal.Gen.facts) (hPre_pre := Cert.Pre_pre.Gen.facts) := fun m g _ => by
  hlo_run
  · intro; simp
  · exact Idealize.ShloMosaic.sem_eq_zero_of_no_sems (sig := Cert.ReferenceIdeal.sig) (by decide) _

/-- The mask constant is the value the table gives its name. -/
theorem preserves : preserves_Kernel_KernelIdeal :=
  IdealRules.named_const.statement Cert.KernelIdeal.κ "mask" .f32 0xF149F2CA#32 ⊥ rfl

/-- On finite arguments with no negative target, the kernel over the extended reals computes the reference. -/
theorem algebraic : algebraic_KernelIdeal_ReferenceIdeal_pre_pre (hKernelIdeal := Cert.KernelIdeal.Gen.facts) (hReferenceIdeal := Cert.ReferenceIdeal.Gen.facts)
    (hPre_pre := Cert.Pre_pre.Gen.facts) := fun m g m' g' hpre hagree =>
  ⟨fun c => Cert.ReferenceIdeal.Hand.refOut (Cert.KernelIdeal.Hand.xOf m c) (Cert.KernelIdeal.Hand.tgtOf m c) (Cert.KernelIdeal.Hand.wOf m c)
      (Cert.KernelIdeal.Hand.u1Of m c) (Cert.KernelIdeal.Hand.v1Of m c) (Cert.KernelIdeal.Hand.u2Of m c) (Cert.KernelIdeal.Hand.v2Of m c)
      (Cert.KernelIdeal.Hand.u3Of m c) (Cert.KernelIdeal.Hand.v3Of m c),
    (θ_run _ _ _).mono (fun _ h c => by
      obtain ⟨⟨o, ho, e⟩, hargs⟩ := h.1 c
      exact ⟨e.trans (Cert.Equal.values m c o ho (hpre c)), hargs⟩) (Cert.KernelIdeal.Hand.run (F := Ideal) m g),
    (θ_run _ _ _).mono (fun r h c => by
      have e : r.2.mem ((c.tc : Thread Cert.ReferenceIdeal.nD Cert.ReferenceIdeal.τ).loc Cert.ReferenceIdeal.main_v65)
          = Cert.ReferenceIdeal.Hand.refOut (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg3))
            (m' ((c.tc : Thread Cert.ReferenceIdeal.nD Cert.ReferenceIdeal.τ).loc Cert.ReferenceIdeal.main_arg4))
            (m' ((c.tc : Thread Cert.ReferenceIdeal.nD Cert.ReferenceIdeal.τ).loc Cert.ReferenceIdeal.main_arg5))
            (m' ((c.tc : Thread Cert.ReferenceIdeal.nD Cert.ReferenceIdeal.τ).loc Cert.ReferenceIdeal.main_arg6))
            (m' ((c.tc : Thread Cert.ReferenceIdeal.nD Cert.ReferenceIdeal.τ).loc Cert.ReferenceIdeal.main_arg7))
            (m' ((c.tc : Thread Cert.ReferenceIdeal.nD Cert.ReferenceIdeal.τ).loc Cert.ReferenceIdeal.main_arg8)) := (h c).1
      obtain ⟨a0, a1, a2, a3, a4, a5, a6, a7, a8⟩ := hagree c
      refine ⟨e.trans ?_, (h c).2⟩
      rw [a0, a1, a2, a3, a4, a5, a6, a7, a8]) (Cert.ReferenceIdeal.Value.run (F := Ideal) m' g')⟩

theorem claim : Cert.Claim := ⟨Cert.Kernel.Gen.facts, Cert.KernelIdeal.Gen.facts, Cert.ReferenceIdeal.Gen.facts, Cert.Pre_pre.Gen.facts,
  quiescentK, quiescentKI, quiescentKIpre, quiescentRI, quiescentRIpre, preserves, algebraic⟩

end Cert.Proof

end
